-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_real_memory [hPre_real_memory : Cert.Pre_real_memory.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_real_memory.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_real_memory [hPre_real_memory : Cert.Pre_real_memory.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_real_memory.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_real_attention [hPre_real_attention : Cert.Pre_real_attention.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_real_attention.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_real_attention [hPre_real_attention : Cert.Pre_real_attention.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_real_attention.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_real_memory [hKernel3Ideal : Cert.Kernel3Ideal.Facts] [hPre_real_memory : Cert.Pre_real_memory.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_real_memory m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_real_memory [hReference3Ideal : Cert.Reference3Ideal.Facts] [hPre_real_memory : Cert.Pre_real_memory.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_real_memory m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_real_attention [hKernel4Ideal : Cert.Kernel4Ideal.Facts] [hPre_real_attention : Cert.Pre_real_attention.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_real_attention m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_real_attention [hReference4Ideal : Cert.Reference4Ideal.Facts] [hPre_real_attention : Cert.Pre_real_attention.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_real_attention m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v71_6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_real_memory [hKernel3Ideal : Cert.Kernel3Ideal.Facts] [hReference3Ideal : Cert.Reference3Ideal.Facts] [hPre_real_memory : Cert.Pre_real_memory.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_real_memory m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_real_attention [hKernel4Ideal : Cert.Kernel4Ideal.Facts] [hReference4Ideal : Cert.Reference4Ideal.Facts] [hPre_real_attention : Cert.Pre_real_attention.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_real_attention m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_real_memory : Cert.Pre_real_memory.Facts) (hPre_real_attention : Cert.Pre_real_attention.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_real_memory (hKernel3Ideal := hKernel3Ideal) (hPre_real_memory := hPre_real_memory)
    ∧ quiescent_Reference3Ideal (hReference3Ideal := hReference3Ideal)
    ∧ quiescent_Reference3Ideal_pre_real_memory (hReference3Ideal := hReference3Ideal) (hPre_real_memory := hPre_real_memory)
    ∧ quiescent_Kernel4 (hKernel4 := hKernel4)
    ∧ quiescent_Kernel4Ideal (hKernel4Ideal := hKernel4Ideal)
    ∧ quiescent_Kernel4Ideal_pre_real_attention (hKernel4Ideal := hKernel4Ideal) (hPre_real_attention := hPre_real_attention)
    ∧ quiescent_Reference4Ideal (hReference4Ideal := hReference4Ideal)
    ∧ quiescent_Reference4Ideal_pre_real_attention (hReference4Ideal := hReference4Ideal) (hPre_real_attention := hPre_real_attention)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_real_memory (hKernel3Ideal := hKernel3Ideal) (hReference3Ideal := hReference3Ideal) (hPre_real_memory := hPre_real_memory)
    ∧ preserves_Kernel4_Kernel4Ideal
    ∧ algebraic_Kernel4Ideal_Reference4Ideal_pre_real_attention (hKernel4Ideal := hKernel4Ideal) (hReference4Ideal := hReference4Ideal) (hPre_real_attention := hPre_real_attention)
-- ==== Pre_real_attention.lean ====
abbrev S4x4096x256 : Shape := ⟨3, ![4, 4096, 256]⟩
abbrev S64 : Shape := ⟨1, ![64]⟩
abbrev S1024x256 : Shape := ⟨2, ![1024, 256]⟩
abbrev S4x4096x1024 : Shape := ⟨3, ![4, 4096, 1024]⟩
abbrev S4x4096x768 : Shape := ⟨3, ![4, 4096, 768]⟩
abbrev S1024x1024 : Shape := ⟨2, ![1024, 1024]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S64 : S_.BroadcastsInDim S64 (![] : Fin 0 → Fin S64.rank)
  reducesTo_S64_S_d0 : S64.ReducesTo [0] S_
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S4x4096x256 .f32) (main_arg1 : FVec F S64 .f32) (main_arg2 : FVec F S1024x256 .f32) (main_arg3 : FVec F S1024x256 .f32) (main_arg4 : FVec F S4x4096x1024 .f32) (main_arg5 : FVec F S4x4096x768 .f32) (main_arg6 : FVec F S1024x1024 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Pre_real_memory.lean ====
abbrev S4x256x1024 : Shape := ⟨3, ![4, 256, 1024]⟩
abbrev S1024x512 : Shape := ⟨2, ![1024, 512]⟩
abbrev S64 : Shape := ⟨1, ![64]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S4x256x1024 .f32) (main_arg1 : FVec F S1024x512 .f32) (main_arg2 : FVec F S64 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S4x4096x1024 : Shape := ⟨3, ![4, 4096, 1024]⟩
abbrev S2x1024 : Shape := ⟨2, ![2, 1024]⟩
abbrev S1x1024x3328 : Shape := ⟨3, ![1, 1024, 3328]⟩
abbrev S2x768 : Shape := ⟨2, ![2, 768]⟩
abbrev S1x128 : Shape := ⟨2, ![1, 128]⟩
abbrev S_ : Shape := ⟨0, ![]⟩
abbrev S768 : Shape := ⟨1, ![768]⟩
abbrev S1x768 : Shape := ⟨2, ![1, 768]⟩
abbrev S1024x3328 : Shape := ⟨2, ![1024, 3328]⟩
abbrev S4x6x128x128 : Shape := ⟨4, ![4, 6, 128, 128]⟩
abbrev S1x1024 : Shape := ⟨2, ![1, 1024]⟩
abbrev S1024 : Shape := ⟨1, ![1024]⟩
abbrev S128 : Shape := ⟨1, ![128]⟩
abbrev S4x4096x768 : Shape := ⟨3, ![4, 4096, 768]⟩
abbrev S4x4096x256 : Shape := ⟨3, ![4, 4096, 256]⟩
abbrev S1x1024x1024 : Shape := ⟨3, ![1, 1024, 1024]⟩
abbrev S1x6x128x128 : Shape := ⟨4, ![1, 6, 128, 128]⟩
abbrev S1x1024x768 : Shape := ⟨3, ![1, 1024, 768]⟩
abbrev S1x1024x256 : Shape := ⟨3, ![1, 1024, 256]⟩
abbrev S6x128x128 : Shape := ⟨3, ![6, 128, 128]⟩
abbrev S1x1x128x128 : Shape := ⟨4, ![1, 1, 128, 128]⟩
abbrev S128x128 : Shape := ⟨2, ![128, 128]⟩
abbrev S1x128x128 : Shape := ⟨3, ![1, 128, 128]⟩
abbrev S256x256 : Shape := ⟨2, ![256, 256]⟩
abbrev S512x256 : Shape := ⟨2, ![512, 256]⟩
abbrev S256x128 : Shape := ⟨2, ![256, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S1x256x256 : Shape := ⟨3, ![1, 256, 256]⟩
abbrev S128x1024 : Shape := ⟨2, ![128, 1024]⟩
abbrev S1x256x128 : Shape := ⟨3, ![1, 256, 128]⟩

abbrev nBuf : Space → Nat
  | .hbm => 37
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x3328, .f32⟩
  | .hbm, ⟨3, _⟩ => ⟨S2x768, .f32⟩
  | .hbm, ⟨4, _⟩ => ⟨S1x128, .f32⟩
  | .hbm, ⟨5, _⟩ => ⟨S_, .f32⟩
  | .hbm, ⟨6, _⟩ => ⟨S768, .f32⟩
  | .hbm, ⟨7, _⟩ => ⟨S_, .f32⟩
  | .hbm, ⟨8, _⟩ => ⟨S768, .f32⟩
  | .hbm, ⟨9, _⟩ => ⟨S768, .f32⟩
  | .hbm, ⟨10, _⟩ => ⟨S1x768, .f32⟩
  | .hbm, ⟨11, _⟩ => ⟨S2x768, .f32⟩
  | .hbm, ⟨12, _⟩ => ⟨S2x768, .f32⟩
  | .hbm, ⟨13, _⟩ => ⟨S2x768, .f32⟩
  | .hbm, ⟨14, _⟩ => ⟨S_, .f32⟩
  | .hbm, ⟨15, _⟩ => ⟨S768, .f32⟩
  | .hbm, ⟨16, _⟩ => ⟨S1x768, .f32⟩
  | .hbm, ⟨17, _⟩ => ⟨S2x768, .f32⟩
  | .hbm, ⟨18, _⟩ => ⟨S2x768, .f32⟩
  | .hbm, ⟨19, _⟩ => ⟨S_, .f32⟩
  | .hbm, ⟨20, _⟩ => ⟨S_, .f32⟩
  | .hbm, ⟨21, _⟩ => ⟨S2x768, .f32⟩
  | .hbm, ⟨22, _⟩ => ⟨S1024x3328, .f32⟩
  | .hbm, ⟨23, _⟩ => ⟨S1024x3328, .bf16⟩
  | .hbm, ⟨24, _⟩ => ⟨S_, .f32⟩
  | .hbm, ⟨25, _⟩ => ⟨S4x6x128x128, .f32⟩
  | .hbm, ⟨26, _⟩ => ⟨S1x1024, .f32⟩
  | .hbm, ⟨27, _⟩ => ⟨S1024, .f32⟩
  | .hbm, ⟨28, _⟩ => ⟨S1x768, .f32⟩
  | .hbm, ⟨29, _⟩ => ⟨S768, .f32⟩
  | .hbm, ⟨30, _⟩ => ⟨S128, .f32⟩
  | .hbm, ⟨31, _⟩ => ⟨S1x1024, .f32⟩
  | .hbm, ⟨32, _⟩ => ⟨S1x768, .f32⟩
  | .hbm, ⟨33, _⟩ => ⟨S1x128, .f32⟩
  | .hbm, ⟨34, _⟩ => ⟨S4x4096x768, .f32⟩
  | .hbm, ⟨35, _⟩ => ⟨S4x4096x256, .f32⟩
  | .hbm, ⟨36, _⟩ => ⟨S4x6x128x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3328, .bf16⟩
  | .local _ .vmem, ⟨4, _⟩ => ⟨S1x768, .f32⟩
  | .local _ .vmem, ⟨5, _⟩ => ⟨S1x128, .f32⟩
  | .local _ .vmem, ⟨6, _⟩ => ⟨S1x6x128x128, .f32⟩
  | .local _ .vmem, ⟨7, _⟩ => ⟨S1x6x128x128, .f32⟩
  | .local _ .vmem, ⟨8, _⟩ => ⟨S1x1024x768, .f32⟩
  | .local _ .vmem, ⟨9, _⟩ => ⟨S1x1024x768, .f32⟩
  | .local _ .vmem, ⟨10, _⟩ => ⟨S1x1024x256, .f32⟩
  | .local _ .vmem, ⟨11, _⟩ => ⟨S1x1024x256, .f32⟩
  | .local _ .vmem, ⟨12, _⟩ => ⟨S1x6x128x128, .f32⟩
  | .local _ .vmem, ⟨13, _⟩ => ⟨S1x6x128x128, .f32⟩
  | .local _ .vmem, ⟨14, _⟩ => ⟨S1024x3328, .f32⟩
  | .local _ .vmem, ⟨15, _⟩ => ⟨S6x128x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32_1532 : BitVec 32 := 3#32
  let v4533 : BitVec 1 := Scalar.cmpi .eq arg1 c3_i32_1532
  let v4534 : BitVec 32 := Scalar.extui v4533
  let c0_i32_1533 : BitVec 32 := 0#32
  let v4535 : BitVec 1 := Scalar.cmpi .ne v4534 c0_i32_1533
  v4535

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x4096x1024 : Shape := ⟨3, ![4, 4096, 1024]⟩
abbrev S2x1024 : Shape := ⟨2, ![2, 1024]⟩
abbrev S1x1024x3328 : Shape := ⟨3, ![1, 1024, 3328]⟩
abbrev S2x768 : Shape := ⟨2, ![2, 768]⟩
abbrev S1x128 : Shape := ⟨2, ![1, 128]⟩
abbrev S_ : Shape := ⟨0, ![]⟩
abbrev S768 : Shape := ⟨1, ![768]⟩
abbrev S1x768 : Shape := ⟨2, ![1, 768]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1024x3328 : Shape := ⟨2, ![1024, 3328]⟩
abbrev S4x4096x3328 : Shape := ⟨3, ![4, 4096, 3328]⟩
abbrev S4x6x128x128 : Shape := ⟨4, ![4, 6, 128, 128]⟩
abbrev S4x4096x3072 : Shape := ⟨3, ![4, 4096, 3072]⟩
abbrev S128 : Shape := ⟨1, ![128]⟩
abbrev S4x4096x768 : Shape := ⟨3, ![4, 4096, 768]⟩
abbrev S6x128 : Shape := ⟨2, ![6, 128]⟩
abbrev S4x4096x6x128 : Shape := ⟨4, ![4, 4096, 6, 128]⟩
abbrev S1x1x6x128 : Shape := ⟨4, ![1, 1, 6, 128]⟩
abbrev S32x32 : Shape := ⟨2, ![32, 32]⟩
abbrev S4x128x32x6x128 : Shape := ⟨5, ![4, 128, 32, 6, 128]⟩
abbrev S128x4x6x32x128 : Shape := ⟨5, ![128, 4, 6, 32, 128]⟩
abbrev S1x4x6x32x128 : Shape := ⟨5, ![1, 4, 6, 32, 128]⟩
abbrev S4x6x32x128 : Shape := ⟨4, ![4, 6, 32, 128]⟩
abbrev S4x6x1x128 : Shape := ⟨4, ![4, 6, 1, 128]⟩
abbrev S4x6x32x32 : Shape := ⟨4, ![4, 6, 32, 32]⟩
abbrev S4x6x128 : Shape := ⟨3, ![4, 6, 128]⟩
abbrev S4x6x128x1 : Shape := ⟨4, ![4, 6, 128, 1]⟩
abbrev S4x4096x6 : Shape := ⟨3, ![4, 4096, 6]⟩
abbrev S4x4096x6x1 : Shape := ⟨4, ![4, 4096, 6, 1]⟩
abbrev S1x1x1x128 : Shape := ⟨4, ![1, 1, 1, 128]⟩
abbrev S4x4096x256 : Shape := ⟨3, ![4, 4096, 256]⟩

abbrev nBuf : Space → Nat
  | .hbm => 210
  | .vmem => 0
  | .smem => 0
  | _ => 0

abbrev hbmTy0_0 (i : Nat) : BufTy := match i % 128 with
  | 0 => ⟨S4x4096x1024, .f32⟩
  | 1 => ⟨S2x1024, .f32⟩
  | 2 => ⟨S1x1024x3328, .f32⟩
  | 3 => ⟨S2x768, .f32⟩
  | 4 => ⟨S1x128, .f32⟩
  | 5 => ⟨S_, .f32⟩
  | 6 => ⟨S768, .f32⟩
  | 7 => ⟨S_, .f32⟩
  | 8 => ⟨S768, .f32⟩
  | 9 => ⟨S768, .f32⟩
  | 10 => ⟨S1x768, .f32⟩
  | 11 => ⟨S2x768, .f32⟩
  | 12 => ⟨S2x768, .f32⟩
  | 13 => ⟨S2x768, .f32⟩
  | 14 => ⟨S_, .f32⟩
  | 15 => ⟨S768, .f32⟩
  | 16 => ⟨S1x768, .f32⟩
  | 17 => ⟨S2x768, .f32⟩
  | 18 => ⟨S2x768, .f32⟩
  | 19 => ⟨S_, .f32⟩
  | 20 => ⟨S_, .f32⟩
  | 21 => ⟨S2x768, .f32⟩
  | 22 => ⟨S1x1024, .f32⟩
  | 23 => ⟨S1024, .f32⟩
  | 24 => ⟨S4x4096x1024, .f32⟩
  | 25 => ⟨S_, .f32⟩
  | 26 => ⟨S4x4096, .f32⟩
  | 27 => ⟨S4x4096x1, .f32⟩
  | 28 => ⟨S_, .f32⟩
  | 29 => ⟨S4x4096x1, .f32⟩
  | 30 => ⟨S4x4096x1, .f32⟩
  | 31 => ⟨S_, .f32⟩
  | 32 => ⟨S4x4096x1, .f32⟩
  | 33 => ⟨S4x4096x1, .f32⟩
  | 34 => ⟨S4x4096x1, .f32⟩
  | 35 => ⟨S4x4096x1024, .f32⟩
  | 36 => ⟨S4x4096x1024, .f32⟩
  | 37 => ⟨S1x1x1024, .f32⟩
  | 38 => ⟨S4x4096x1024, .f32⟩
  | 39 => ⟨S4x4096x1024, .f32⟩
  | 40 => ⟨S1024x3328, .f32⟩
  | 41 => ⟨S4x4096x3328, .f32⟩
  | 42 => ⟨S_, .f32⟩
  | 43 => ⟨S4x6x128x128, .f32⟩
  | 44 => ⟨S4x4096x3072, .f32⟩
  | 45 => ⟨S1x768, .f32⟩
  | 46 => ⟨S768, .f32⟩
  | 47 => ⟨S128, .f32⟩
  | 48 => ⟨S4x4096x768, .f32⟩
  | 49 => ⟨S4x4096x768, .f32⟩
  | 50 => ⟨S4x4096x768, .f32⟩
  | 51 => ⟨S4x4096x768, .f32⟩
  | 52 => ⟨S6x128, .f32⟩
  | 53 => ⟨S_, .f32⟩
  | 54 => ⟨S6x128, .f32⟩
  | 55 => ⟨S6x128, .f32⟩
  | 56 => ⟨S4x4096x6x128, .f32⟩
  | 57 => ⟨S4x4096x6x128, .f32⟩
  | 58 => ⟨S4x4096x6x128, .f32⟩
  | 59 => ⟨S_, .f32⟩
  | 60 => ⟨S4x4096x6x128, .f32⟩
  | 61 => ⟨S4x4096x6x128, .f32⟩
  | 62 => ⟨S_, .f32⟩
  | 63 => ⟨S4x4096x6x128, .f32⟩
  | 64 => ⟨S4x4096x6x128, .f32⟩
  | 65 => ⟨S1x1x6x128, .f32⟩
  | 66 => ⟨S4x4096x6x128, .f32⟩
  | 67 => ⟨S4x4096x6x128, .f32⟩
  | 68 => ⟨S1x1x6x128, .f32⟩
  | 69 => ⟨S4x4096x6x128, .f32⟩
  | 70 => ⟨S4x4096x6x128, .f32⟩
  | 71 => ⟨S4x4096x768, .f32⟩
  | 72 => ⟨S4x4096x768, .f32⟩
  | 73 => ⟨S_, .f32⟩
  | 74 => ⟨S4x4096x768, .f32⟩
  | 75 => ⟨S4x4096x768, .f32⟩
  | 76 => ⟨S_, .f32⟩
  | 77 => ⟨S4x4096x768, .f32⟩
  | 78 => ⟨S4x4096x768, .f32⟩
  | 79 => ⟨S4x4096x768, .f32⟩
  | 80 => ⟨S4x4096x6x128, .f32⟩
  | 81 => ⟨S_, .f32⟩
  | 82 => ⟨S4x4096x6x128, .f32⟩
  | 83 => ⟨S4x4096x6x128, .f32⟩
  | 84 => ⟨S4x4096x6x128, .f32⟩
  | 85 => ⟨S4x4096x6x128, .f32⟩
  | 86 => ⟨S_, .i1⟩
  | 87 => ⟨S32x32, .i1⟩
  | 88 => ⟨S32x32, .i32⟩
  | 89 => ⟨S_, .i32⟩
  | 90 => ⟨S32x32, .i32⟩
  | 91 => ⟨S32x32, .i32⟩
  | 92 => ⟨S32x32, .i32⟩
  | 93 => ⟨S32x32, .i1⟩
  | 94 => ⟨S_, .i1⟩
  | 95 => ⟨S32x32, .i1⟩
  | 96 => ⟨S32x32, .i1⟩
  | 97 => ⟨S4x128x32x6x128, .f32⟩
  | 98 => ⟨S128x4x6x32x128, .f32⟩
  | 99 => ⟨S4x128x32x6x128, .f32⟩
  | 100 => ⟨S128x4x6x32x128, .f32⟩
  | 101 => ⟨S4x128x32x6x128, .f32⟩
  | 102 => ⟨S128x4x6x32x128, .f32⟩
  | 103 => ⟨S4x128x32x6x128, .f32⟩
  | 104 => ⟨S128x4x6x32x128, .f32⟩
  | 105 => ⟨S_, .f32⟩
  | 106 => ⟨S128x4x6x32x128, .f32⟩
  | 107 => ⟨S_, .i32⟩
  | 108 => ⟨S128x4x6x32x128, .f32⟩
  | 109 => ⟨S128x4x6x32x128, .f32⟩
  | 110 => ⟨S128x4x6x32x128, .f32⟩
  | 111 => ⟨S128x4x6x32x128, .f32⟩
  | 112 => ⟨S32x32, .i1⟩
  | 113 => ⟨S_, .i32⟩
  | 114 => ⟨S4x6x128x128, .f32⟩
  | 115 => ⟨S128x4x6x32x128, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1x4x6x32x128, .f32⟩
  | 123 => ⟨S4x6x32x128, .f32⟩
  | 124 => ⟨S_, .i32⟩
  | 125 => ⟨S_, .i32⟩
  | 126 => ⟨S_, .i32⟩
  | 127 => ⟨S_, .i32⟩
  | _ => ⟨S4x4096x1024, .f32⟩

abbrev hbmTy0_1 (i : Nat) : BufTy := match i % 128 with
  | 0 => ⟨S1x4x6x32x128, .f32⟩
  | 1 => ⟨S4x6x32x128, .f32⟩
  | 2 => ⟨S_, .i32⟩
  | 3 => ⟨S_, .i32⟩
  | 4 => ⟨S_, .i32⟩
  | 5 => ⟨S_, .i32⟩
  | 6 => ⟨S1x4x6x32x128, .f32⟩
  | 7 => ⟨S4x6x32x128, .f32⟩
  | 8 => ⟨S_, .i32⟩
  | 9 => ⟨S_, .i32⟩
  | 10 => ⟨S_, .i32⟩
  | 11 => ⟨S_, .i32⟩
  | 12 => ⟨S1x4x6x32x128, .f32⟩
  | 13 => ⟨S4x6x32x128, .f32⟩
  | 14 => ⟨S_, .f32⟩
  | 15 => ⟨S_, .f32⟩
  | 16 => ⟨S4x6x32x128, .f32⟩
  | 17 => ⟨S4x6x1x128, .f32⟩
  | 18 => ⟨S4x6x32x128, .f32⟩
  | 19 => ⟨S4x6x32x128, .f32⟩
  | 20 => ⟨S4x6x32x128, .f32⟩
  | 21 => ⟨S4x6x32x128, .f32⟩
  | 22 => ⟨S4x6x32x128, .f32⟩
  | 23 => ⟨S4x6x32x32, .f32⟩
  | 24 => ⟨S_, .f32⟩
  | 25 => ⟨S_, .f32⟩
  | 26 => ⟨S4x6x32x32, .i1⟩
  | 27 => ⟨S4x6x32x32, .f32⟩
  | 28 => ⟨S4x6x32x32, .f32⟩
  | 29 => ⟨S4x6x32x128, .f32⟩
  | 30 => ⟨S4x6x32x128, .f32⟩
  | 31 => ⟨S4x6x32x128, .f32⟩
  | 32 => ⟨S4x6x128, .f32⟩
  | 33 => ⟨S4x6x128, .f32⟩
  | 34 => ⟨S4x6x128x1, .f32⟩
  | 35 => ⟨S4x6x128x128, .f32⟩
  | 36 => ⟨S4x6x128x128, .f32⟩
  | 37 => ⟨S4x6x32x128, .f32⟩
  | 38 => ⟨S4x6x32x128, .f32⟩
  | 39 => ⟨S4x6x32x128, .f32⟩
  | 40 => ⟨S4x6x32x128, .f32⟩
  | 41 => ⟨S4x6x128x128, .f32⟩
  | 42 => ⟨S4x6x128x128, .f32⟩
  | 43 => ⟨S1x4x6x32x128, .f32⟩
  | 44 => ⟨S_, .i32⟩
  | 45 => ⟨S_, .i32⟩
  | 46 => ⟨S_, .i32⟩
  | 47 => ⟨S_, .i32⟩
  | 48 => ⟨S128x4x6x32x128, .f32⟩
  | 49 => ⟨S_, .i32⟩
  | 50 => ⟨S_, .i32⟩
  | 51 => ⟨S4x128x32x6x128, .f32⟩
  | 52 => ⟨S4x4096x6x128, .f32⟩
  | 53 => ⟨S4x4096x6x128, .f32⟩
  | 54 => ⟨S_, .f32⟩
  | 55 => ⟨S4x4096x6, .f32⟩
  | 56 => ⟨S4x4096x6x1, .f32⟩
  | 57 => ⟨S_, .f32⟩
  | 58 => ⟨S4x4096x6x1, .f32⟩
  | 59 => ⟨S4x4096x6x1, .f32⟩
  | 60 => ⟨S_, .f32⟩
  | 61 => ⟨S4x4096x6x1, .f32⟩
  | 62 => ⟨S4x4096x6x1, .f32⟩
  | 63 => ⟨S4x4096x6x1, .f32⟩
  | 64 => ⟨S4x4096x6x128, .f32⟩
  | 65 => ⟨S4x4096x6x128, .f32⟩
  | 66 => ⟨S1x1x1x128, .f32⟩
  | 67 => ⟨S4x4096x6x128, .f32⟩
  | 68 => ⟨S4x4096x6x128, .f32⟩
  | 69 => ⟨S4x4096x6x128, .f32⟩
  | 70 => ⟨S4x4096x6x128, .f32⟩
  | 71 => ⟨S4x4096x6x128, .f32⟩
  | 72 => ⟨S_, .f32⟩
  | 73 => ⟨S4x4096x6x128, .f32⟩
  | 74 => ⟨S4x4096x6x128, .f32⟩
  | 75 => ⟨S_, .f32⟩
  | 76 => ⟨S4x4096x6x128, .f32⟩
  | 77 => ⟨S4x4096x6x128, .f32⟩
  | 78 => ⟨S4x4096x6x128, .f32⟩
  | 79 => ⟨S4x4096x6x128, .f32⟩
  | 80 => ⟨S4x4096x768, .f32⟩
  | 81 => ⟨S4x4096x256, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c : Ref sig .tc := ⟨.hbm, 86, rfl⟩
abbrev main_v60 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_0 : Ref sig .tc := ⟨.hbm, 94, rfl⟩
abbrev main_call2_v5 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_10 : Ref sig .tc := ⟨.hbm, 105, rfl⟩
abbrev main_v70 : Ref sig .tc := ⟨.hbm, 106, rfl⟩
abbrev main_c_11 : Ref sig .tc := ⟨.hbm, 107, rfl⟩
abbrev main_v71_0 : Ref sig .tc := ⟨.hbm, 108, rfl⟩
abbrev main_v71_1 : Ref sig .tc := ⟨.hbm, 109, rfl⟩
abbrev main_v71_2 : Ref sig .tc := ⟨.hbm, 110, rfl⟩
abbrev main_v71_3 : Ref sig .tc := ⟨.hbm, 111, rfl⟩
abbrev main_v71_4 : Ref sig .tc := ⟨.hbm, 112, rfl⟩
abbrev main_v71_5 : Ref sig .tc := ⟨.hbm, 113, rfl⟩
abbrev main_v71_6 : Ref sig .tc := ⟨.hbm, 114, rfl⟩
abbrev main_v71_7 : Ref sig .tc := ⟨.hbm, 115, rfl⟩
abbrev main_while0c_c_22 : Ref sig .tc := ⟨.hbm, 116, rfl⟩
abbrev main_while0c_v92 : Ref sig .tc := ⟨.hbm, 117, rfl⟩
abbrev main_while0b_call3_c : Ref sig .tc := ⟨.hbm, 118, rfl⟩
abbrev main_while0b_call3_c_0 : Ref sig .tc := ⟨.hbm, 119, rfl⟩
abbrev main_while0b_call3_c_1 : Ref sig .tc := ⟨.hbm, 120, rfl⟩
abbrev main_while0b_call3_c_2 : Ref sig .tc := ⟨.hbm, 121, rfl⟩
abbrev main_while0b_call3_v0 : Ref sig .tc := ⟨.hbm, 122, rfl⟩
abbrev main_while0b_v92 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_c_1 : Ref sig .tc := ⟨.hbm, 126, rfl⟩
abbrev main_while0b_call4_c_2 : Ref sig .tc := ⟨.hbm, 127, rfl⟩
abbrev main_while0b_call4_v0 : Ref sig .tc := ⟨.hbm, 128, rfl⟩
abbrev main_while0b_v93 : Ref sig .tc := ⟨.hbm, 129, rfl⟩
abbrev main_while0b_call5_c : Ref sig .tc := ⟨.hbm, 130, rfl⟩
abbrev main_while0b_call5_c_0 : Ref sig .tc := ⟨.hbm, 131, rfl⟩
abbrev main_while0b_call5_c_1 : Ref sig .tc := ⟨.hbm, 132, rfl⟩
abbrev main_while0b_call5_c_2 : Ref sig .tc := ⟨.hbm, 133, rfl⟩
abbrev main_while0b_call5_v0 : Ref sig .tc := ⟨.hbm, 134, rfl⟩
abbrev main_while0b_v94 : Ref sig .tc := ⟨.hbm, 135, rfl⟩
abbrev main_while0b_call6_c : Ref sig .tc := ⟨.hbm, 136, rfl⟩
abbrev main_while0b_call6_c_0 : Ref sig .tc := ⟨.hbm, 137, rfl⟩
abbrev main_while0b_call6_c_1 : Ref sig .tc := ⟨.hbm, 138, rfl⟩
abbrev main_while0b_call6_c_2 : Ref sig .tc := ⟨.hbm, 139, rfl⟩
abbrev main_while0b_call6_v0 : Ref sig .tc := ⟨.hbm, 140, rfl⟩
abbrev main_while0b_v95 : Ref sig .tc := ⟨.hbm, 141, rfl⟩
abbrev main_while0b_call7_call0_cst : Ref sig .tc := ⟨.hbm, 142, rfl⟩
abbrev main_while0b_call7_call0_v0 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_v103 : Ref sig .tc := ⟨.hbm, 151, rfl⟩
abbrev main_while0b_cst_22 : Ref sig .tc := ⟨.hbm, 152, rfl⟩
abbrev main_while0b_call8_v0 : Ref sig .tc := ⟨.hbm, 153, rfl⟩
abbrev main_while0b_call8_v1 : Ref sig .tc := ⟨.hbm, 154, rfl⟩
abbrev main_while0b_call8_v2 : Ref sig .tc := ⟨.hbm, 155, rfl⟩
abbrev main_while0b_v104 : Ref sig .tc := ⟨.hbm, 156, rfl⟩
abbrev main_while0b_v105 : Ref sig .tc := ⟨.hbm, 157, rfl⟩
abbrev main_while0b_v106 : Ref sig .tc := ⟨.hbm, 158, rfl⟩
abbrev main_while0b_v107 : Ref sig .tc := ⟨.hbm, 159, rfl⟩
abbrev main_while0b_v108 : Ref sig .tc := ⟨.hbm, 160, rfl⟩
abbrev main_while0b_v109 : Ref sig .tc := ⟨.hbm, 161, rfl⟩
abbrev main_while0b_v110 : Ref sig .tc := ⟨.hbm, 162, rfl⟩
abbrev main_while0b_v111 : Ref sig .tc := ⟨.hbm, 163, rfl⟩
abbrev main_while0b_v112 : Ref sig .tc := ⟨.hbm, 164, rfl⟩
abbrev main_while0b_v113 : Ref sig .tc := ⟨.hbm, 165, rfl⟩
abbrev main_while0b_v114 : Ref sig .tc := ⟨.hbm, 166, rfl⟩
abbrev main_while0b_v115 : Ref sig .tc := ⟨.hbm, 167, rfl⟩
abbrev main_while0b_v116 : Ref sig .tc := ⟨.hbm, 168, rfl⟩
abbrev main_while0b_v117 : Ref sig .tc := ⟨.hbm, 169, rfl⟩
abbrev main_while0b_v118 : Ref sig .tc := ⟨.hbm, 170, rfl⟩
abbrev main_while0b_call9_v0 : Ref sig .tc := ⟨.hbm, 171, rfl⟩
abbrev main_while0b_call9_c : Ref sig .tc := ⟨.hbm, 172, rfl⟩
abbrev main_while0b_call9_c_0 : Ref sig .tc := ⟨.hbm, 173, rfl⟩
abbrev main_while0b_call9_c_1 : Ref sig .tc := ⟨.hbm, 174, rfl⟩
abbrev main_while0b_call9_c_2 : Ref sig .tc := ⟨.hbm, 175, rfl⟩
abbrev main_while0b_v119 : Ref sig .tc := ⟨.hbm, 176, rfl⟩
abbrev main_while0b_c_23 : Ref sig .tc := ⟨.hbm, 177, rfl⟩
abbrev main_while0b_v120 : Ref sig .tc := ⟨.hbm, 178, rfl⟩
abbrev main_v72 : Ref sig .tc := ⟨.hbm, 179, rfl⟩
abbrev main_v73 : Ref sig .tc := ⟨.hbm, 180, rfl⟩
abbrev main_v74 : Ref sig .tc := ⟨.hbm, 181, rfl⟩
abbrev main_cst_12 : Ref sig .tc := ⟨.hbm, 182, rfl⟩
abbrev main_v75 : Ref sig .tc := ⟨.hbm, 183, rfl⟩
abbrev main_v76 : Ref sig .tc := ⟨.hbm, 184, rfl⟩
abbrev main_cst_13 : Ref sig .tc := ⟨.hbm, 185, rfl⟩
abbrev main_v77 : Ref sig .tc := ⟨.hbm, 186, rfl⟩
abbrev main_v78 : Ref sig .tc := ⟨.hbm, 187, rfl⟩
abbrev main_cst_14 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_call10_v0 : Ref sig .tc := ⟨.hbm, 198, rfl⟩
abbrev main_call10_v1 : Ref sig .tc := ⟨.hbm, 199, rfl⟩
abbrev main_call10_cst : Ref sig .tc := ⟨.hbm, 200, rfl⟩
abbrev main_call10_v2 : Ref sig .tc := ⟨.hbm, 201, rfl⟩
abbrev main_call10_v3 : Ref sig .tc := ⟨.hbm, 202, rfl⟩
abbrev main_call10_cst_0 : Ref sig .tc := ⟨.hbm, 203, rfl⟩
abbrev main_call10_v4 : Ref sig .tc := ⟨.hbm, 204, rfl⟩
abbrev main_call10_v5 : Ref sig .tc := ⟨.hbm, 205, rfl⟩
abbrev main_v88 : Ref sig .tc := ⟨.hbm, 206, rfl⟩
abbrev main_v89 : Ref sig .tc := ⟨.hbm, 207, rfl⟩
abbrev main_v90 : Ref sig .tc := ⟨.hbm, 208, rfl⟩
abbrev main_v91 : Ref sig .tc := ⟨.hbm, 209, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S4x4096x1024 : Shape := ⟨3, ![4, 4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x2x2816 : Shape := ⟨3, ![4, 2, 2816]⟩
abbrev S4x1x2816 : Shape := ⟨3, ![4, 1, 2816]⟩
abbrev S16384x1024 : Shape := ⟨2, ![16384, 1024]⟩
abbrev S1x1024 : Shape := ⟨2, ![1, 1024]⟩
abbrev S1x2816 : Shape := ⟨2, ![1, 2816]⟩
abbrev S4x8x2816 : Shape := ⟨3, ![4, 8, 2816]⟩
abbrev S256x1024 : Shape := ⟨2, ![256, 1024]⟩
abbrev S1x1x2816 : Shape := ⟨3, ![1, 1, 2816]⟩
abbrev S1x2x2816 : Shape := ⟨3, ![1, 2, 2816]⟩
abbrev S1x8x2816 : Shape := ⟨3, ![1, 8, 2816]⟩
abbrev S8x2816 : Shape := ⟨2, ![8, 2816]⟩
abbrev S256 : Shape := ⟨1, ![256]⟩
abbrev S256x1 : Shape := ⟨2, ![256, 1]⟩
abbrev S256x256 : Shape := ⟨2, ![256, 256]⟩
abbrev S1024x256 : Shape := ⟨2, ![1024, 256]⟩
abbrev S8x256 : Shape := ⟨2, ![8, 256]⟩
abbrev S1x1x256 : Shape := ⟨3, ![1, 1, 256]⟩
abbrev S1x256 : Shape := ⟨2, ![1, 256]⟩
abbrev S1x8x256 : Shape := ⟨3, ![1, 8, 256]⟩

abbrev nBuf : Space → Nat
  | .hbm => 18
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S_, .f32⟩
  | .hbm, ⟨11, _⟩ => ⟨S4x2x2816, .f32⟩
  | .hbm, ⟨12, _⟩ => ⟨S4x1x2816, .f32⟩
  | .hbm, ⟨13, _⟩ => ⟨S16384x1024, .f32⟩
  | .hbm, ⟨14, _⟩ => ⟨S1x1024, .f32⟩
  | .hbm, ⟨15, _⟩ => ⟨S1x2816, .f32⟩
  | .hbm, ⟨16, _⟩ => ⟨S16384x1024, .f32⟩
  | .hbm, ⟨17, _⟩ => ⟨S4x8x2816, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1x1x2816, .f32⟩
  | .local _ .vmem, ⟨9, _⟩ => ⟨S1x1x2816, .f32⟩
  | .local _ .vmem, ⟨10, _⟩ => ⟨S1x2x2816, .f32⟩
  | .local _ .vmem, ⟨11, _⟩ => ⟨S1x2x2816, .f32⟩
  | .local _ .vmem, ⟨12, _⟩ => ⟨S256x1024, .f32⟩
  | .local _ .vmem, ⟨13, _⟩ => ⟨S256x1024, .f32⟩
  | .local _ .vmem, ⟨14, _⟩ => ⟨S1x8x2816, .f32⟩
  | .local _ .vmem, ⟨15, _⟩ => ⟨S1x8x2816, .f32⟩
  | .local _ .vmem, ⟨16, _⟩ => ⟨S8x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S4x4096x1024 : Shape := ⟨3, ![4, 4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x2x2816 : Shape := ⟨3, ![4, 2, 2816]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S4x8x2816 : Shape := ⟨3, ![4, 8, 2816]⟩
abbrev S16384x1024 : Shape := ⟨2, ![16384, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x2x2816, .f32⟩
  | .hbm, ⟨25, _⟩ => ⟨S4x4096x2816, .f32⟩
  | .hbm, ⟨26, _⟩ => ⟨S4x4098x2816, .f32⟩
  | .hbm, ⟨27, _⟩ => ⟨S4x4096x2816, .f32⟩
  | .hbm, ⟨28, _⟩ => ⟨S1x2816, .f32⟩
  | .hbm, ⟨29, _⟩ => ⟨S2816, .f32⟩
  | .hbm, ⟨30, _⟩ => ⟨S1x1x2816, .f32⟩
  | .hbm, ⟨31, _⟩ => ⟨S4x4096x2816, .f32⟩
  | .hbm, ⟨32, _⟩ => ⟨S4x4096x2816, .f32⟩
  | .hbm, ⟨33, _⟩ => ⟨S_, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S1x2816, .f32⟩
  | .hbm, ⟨45, _⟩ => ⟨S2816, .f32⟩
  | .hbm, ⟨46, _⟩ => ⟨S1x1x2816, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S1x1x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S_, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S4x4096x1024, .f32⟩
  | .hbm, ⟨65, _⟩ => ⟨S4x8x2816, .f32⟩
  | .hbm, ⟨66, _⟩ => ⟨S4x4096x1024, .f32⟩
  | .hbm, ⟨67, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Kernel3.lean ====
abbrev S4x256x1024 : Shape := ⟨3, ![4, 256, 1024]⟩
abbrev S1024x512 : Shape := ⟨2, ![1024, 512]⟩
abbrev S64 : Shape := ⟨1, ![64]⟩
abbrev S1024x1024 : Shape := ⟨2, ![1024, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1024x256 : Shape := ⟨2, ![1024, 256]⟩
abbrev S256x1024 : Shape := ⟨2, ![256, 1024]⟩
abbrev S256x256 : Shape := ⟨2, ![256, 256]⟩
abbrev S256x512 : Shape := ⟨2, ![256, 512]⟩

abbrev nBuf : Space → Nat
  | .hbm => 11
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S1024x512, .f32⟩
  | .hbm, ⟨2, _⟩ => ⟨S64, .f32⟩
  | .hbm, ⟨3, _⟩ => ⟨S1024x1024, .f32⟩
  | .hbm, ⟨4, _⟩ => ⟨S1024x512, .bf16⟩
  | .hbm, ⟨5, _⟩ => ⟨S1x64, .f32⟩
  | .hbm, ⟨6, _⟩ => ⟨S4x64, .f32⟩
  | .hbm, ⟨7, _⟩ => ⟨S256, .f32⟩
  | .hbm, ⟨8, _⟩ => ⟨S1x256, .f32⟩
  | .hbm, ⟨9, _⟩ => ⟨S1024x256, .f32⟩
  | .hbm, ⟨10, _⟩ => ⟨S1024x256, .f32⟩
  | .local _ .vmem, ⟨0, _⟩ => ⟨S256x1024, .f32⟩
  | .local _ .vmem, ⟨1, _⟩ => ⟨S256x1024, .f32⟩
  | .local _ .vmem, ⟨2, _⟩ => ⟨S1024x512, .bf16⟩
  | .local _ .vmem, ⟨3, _⟩ => ⟨S1x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x256x1024 : Shape := ⟨3, ![4, 256, 1024]⟩
abbrev S1024x512 : Shape := ⟨2, ![1024, 512]⟩
abbrev S64 : Shape := ⟨1, ![64]⟩
abbrev S4x256x512 : Shape := ⟨3, ![4, 256, 512]⟩
abbrev S4x256x256 : Shape := ⟨3, ![4, 256, 256]⟩
abbrev S4x256x4x64 : Shape := ⟨4, ![4, 256, 4, 64]⟩
abbrev S_ : Shape := ⟨0, ![]⟩
abbrev S4x256x4 : Shape := ⟨3, ![4, 256, 4]⟩
abbrev S4x256x4x1 : Shape := ⟨4, ![4, 256, 4, 1]⟩
abbrev S1x1x1x64 : Shape := ⟨4, ![1, 1, 1, 64]⟩
abbrev S1024x256 : Shape := ⟨2, ![1024, 256]⟩

abbrev nBuf : Space → Nat
  | .hbm => 26
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x512, .f32⟩
  | .hbm, ⟨2, _⟩ => ⟨S64, .f32⟩
  | .hbm, ⟨3, _⟩ => ⟨S4x256x512, .f32⟩
  | .hbm, ⟨4, _⟩ => ⟨S4x256x256, .f32⟩
  | .hbm, ⟨5, _⟩ => ⟨S4x256x256, .f32⟩
  | .hbm, ⟨6, _⟩ => ⟨S4x256x4x64, .f32⟩
  | .hbm, ⟨7, _⟩ => ⟨S4x256x4x64, .f32⟩
  | .hbm, ⟨8, _⟩ => ⟨S_, .f32⟩
  | .hbm, ⟨9, _⟩ => ⟨S4x256x4, .f32⟩
  | .hbm, ⟨10, _⟩ => ⟨S4x256x4x1, .f32⟩
  | .hbm, ⟨11, _⟩ => ⟨S_, .f32⟩
  | .hbm, ⟨12, _⟩ => ⟨S4x256x4x1, .f32⟩
  | .hbm, ⟨13, _⟩ => ⟨S4x256x4x1, .f32⟩
  | .hbm, ⟨14, _⟩ => ⟨S_, .f32⟩
  | .hbm, ⟨15, _⟩ => ⟨S4x256x4x1, .f32⟩
  | .hbm, ⟨16, _⟩ => ⟨S4x256x4x1, .f32⟩
  | .hbm, ⟨17, _⟩ => ⟨S4x256x4x1, .f32⟩
  | .hbm, ⟨18, _⟩ => ⟨S4x256x4x64, .f32⟩
  | .hbm, ⟨19, _⟩ => ⟨S4x256x4x64, .f32⟩
  | .hbm, ⟨20, _⟩ => ⟨S1x1x1x64, .f32⟩
  | .hbm, ⟨21, _⟩ => ⟨S4x256x4x64, .f32⟩
  | .hbm, ⟨22, _⟩ => ⟨S4x256x4x64, .f32⟩
  | .hbm, ⟨23, _⟩ => ⟨S4x256x4x64, .f32⟩
  | .hbm, ⟨24, _⟩ => ⟨S1024x256, .f32⟩
  | .hbm, ⟨25, _⟩ => ⟨S1024x256, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S4x4096x256 : Shape := ⟨3, ![4, 4096, 256]⟩
abbrev S64 : Shape := ⟨1, ![64]⟩
abbrev S1024x256 : Shape := ⟨2, ![1024, 256]⟩
abbrev S4x4096x1024 : Shape := ⟨3, ![4, 4096, 1024]⟩
abbrev S4x4096x768 : Shape := ⟨3, ![4, 4096, 768]⟩
abbrev S1024x1024 : Shape := ⟨2, ![1024, 1024]⟩
abbrev S1x4x256x256 : Shape := ⟨4, ![1, 4, 256, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S768x1024 : Shape := ⟨2, ![768, 1024]⟩
abbrev S256x1024 : Shape := ⟨2, ![256, 1024]⟩
abbrev S1x512x256 : Shape := ⟨3, ![1, 512, 256]⟩
abbrev S1x1x256x256 : Shape := ⟨4, ![1, 1, 256, 256]⟩
abbrev S1x512x1024 : Shape := ⟨3, ![1, 512, 1024]⟩
abbrev S1x512x768 : Shape := ⟨3, ![1, 512, 768]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S512x1024 : Shape := ⟨2, ![512, 1024]⟩
abbrev S512x768 : Shape := ⟨2, ![512, 768]⟩

abbrev nBuf : Space → Nat
  | .hbm => 17
  | .vmem => 15
  | .smem => 0
  | _ => 0

abbrev bufTy : (tb : Table) → Fin (tcTables nBuf tb) → BufTy
  | .hbm, ⟨0, _⟩ => ⟨S4x4096x256, .f32⟩
  | .hbm, ⟨1, _⟩ => ⟨S64, .f32⟩
  | .hbm, ⟨2, _⟩ => ⟨S1024x256, .f32⟩
  | .hbm, ⟨3, _⟩ => ⟨S1024x256, .f32⟩
  | .hbm, ⟨4, _⟩ => ⟨S4x4096x1024, .f32⟩
  | .hbm, ⟨5, _⟩ => ⟨S4x4096x768, .f32⟩
  | .hbm, ⟨6, _⟩ => ⟨S1024x1024, .f32⟩
  | .hbm, ⟨7, _⟩ => ⟨S1024x1024, .bf16⟩
  | .hbm, ⟨8, _⟩ => ⟨S1x4x256x256, .f32⟩
  | .hbm, ⟨9, _⟩ => ⟨S1x4x256x256, .f32⟩
  | .hbm, ⟨10, _⟩ => ⟨S1x64, .f32⟩
  | .hbm, ⟨11, _⟩ => ⟨S4x64, .f32⟩
  | .hbm, ⟨12, _⟩ => ⟨S256, .f32⟩
  | .hbm, ⟨13, _⟩ => ⟨S1x256, .f32⟩
  | .hbm, ⟨14, _⟩ => ⟨S768x1024, .bf16⟩
  | .hbm, ⟨15, _⟩ => ⟨S256x1024, .bf16⟩
  | .hbm, ⟨16, _⟩ => ⟨S4x4096x1024, .f32⟩
  | .local _ .vmem, ⟨0, _⟩ => ⟨S1x512x256, .f32⟩
  | .local _ .vmem, ⟨1, _⟩ => ⟨S1x512x256, .f32⟩
  | .local _ .vmem, ⟨2, _⟩ => ⟨S1x256, .f32⟩
  | .local _ .vmem, ⟨3, _⟩ => ⟨S1x1x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S1x1x256x256, .f32⟩
  | .local _ .vmem, ⟨7, _⟩ => ⟨S1x512x1024, .f32⟩
  | .local _ .vmem, ⟨8, _⟩ => ⟨S1x512x1024, .f32⟩
  | .local _ .vmem, ⟨9, _⟩ => ⟨S1x512x768, .f32⟩
  | .local _ .vmem, ⟨10, _⟩ => ⟨S1x512x768, .f32⟩
  | .local _ .vmem, ⟨11, _⟩ => ⟨S768x1024, .bf16⟩
  | .local _ .vmem, ⟨12, _⟩ => ⟨S256x1024, .bf16⟩
  | .local _ .vmem, ⟨13, _⟩ => ⟨S1x512x1024, .f32⟩
  | .local _ .vmem, ⟨14, _⟩ => ⟨S1x512x1024, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x4096x256 : Shape := ⟨3, ![4, 4096, 256]⟩
abbrev S64 : Shape := ⟨1, ![64]⟩
abbrev S1024x256 : Shape := ⟨2, ![1024, 256]⟩
abbrev S4x4096x1024 : Shape := ⟨3, ![4, 4096, 1024]⟩
abbrev S4x4096x768 : Shape := ⟨3, ![4, 4096, 768]⟩
abbrev S1024x1024 : Shape := ⟨2, ![1024, 1024]⟩
abbrev S4x256x4x64 : Shape := ⟨4, ![4, 256, 4, 64]⟩
abbrev S4x4096x4x64 : Shape := ⟨4, ![4, 4096, 4, 64]⟩
abbrev S_ : Shape := ⟨0, ![]⟩
abbrev S4x4096x4 : Shape := ⟨3, ![4, 4096, 4]⟩
abbrev S4x4096x4x1 : Shape := ⟨4, ![4, 4096, 4, 1]⟩
abbrev S1x1x1x64 : Shape := ⟨4, ![1, 1, 1, 64]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S64, .f32⟩
  | .hbm, ⟨2, _⟩ => ⟨S1024x256, .f32⟩
  | .hbm, ⟨3, _⟩ => ⟨S1024x256, .f32⟩
  | .hbm, ⟨4, _⟩ => ⟨S4x4096x1024, .f32⟩
  | .hbm, ⟨5, _⟩ => ⟨S4x4096x768, .f32⟩
  | .hbm, ⟨6, _⟩ => ⟨S1024x1024, .f32⟩
  | .hbm, ⟨7, _⟩ => ⟨S4x256x4x64, .f32⟩
  | .hbm, ⟨8, _⟩ => ⟨S4x256x4x64, .f32⟩
  | .hbm, ⟨9, _⟩ => ⟨S4x4096x4x64, .f32⟩
  | .hbm, ⟨10, _⟩ => ⟨S4x4096x4x64, .f32⟩
  | .hbm, ⟨11, _⟩ => ⟨S_, .f32⟩
  | .hbm, ⟨12, _⟩ => ⟨S4x4096x4, .f32⟩
  | .hbm, ⟨13, _⟩ => ⟨S4x4096x4x1, .f32⟩
  | .hbm, ⟨14, _⟩ => ⟨S_, .f32⟩
  | .hbm, ⟨15, _⟩ => ⟨S4x4096x4x1, .f32⟩
  | .hbm, ⟨16, _⟩ => ⟨S4x4096x4x1, .f32⟩
  | .hbm, ⟨17, _⟩ => ⟨S_, .f32⟩
  | .hbm, ⟨18, _⟩ => ⟨S4x4096x4x1, .f32⟩
  | .hbm, ⟨19, _⟩ => ⟨S4x4096x4x1, .f32⟩
  | .hbm, ⟨20, _⟩ => ⟨S4x4096x4x1, .f32⟩
  | .hbm, ⟨21, _⟩ => ⟨S4x4096x4x64, .f32⟩
  | .hbm, ⟨22, _⟩ => ⟨S4x4096x4x64, .f32⟩
  | .hbm, ⟨23, _⟩ => ⟨S1x1x1x64, .f32⟩
  | .hbm, ⟨24, _⟩ => ⟨S4x4096x4x64, .f32⟩
  | .hbm, ⟨25, _⟩ => ⟨S4x4096x4x64, .f32⟩
  | .hbm, ⟨26, _⟩ => ⟨S4x4x4096x256, .f32⟩
  | .hbm, ⟨27, _⟩ => ⟨S_, .f32⟩
  | .hbm, ⟨28, _⟩ => ⟨S4x4x4096x256, .f32⟩
  | .hbm, ⟨29, _⟩ => ⟨S4x4x4096x256, .f32⟩
  | .hbm, ⟨30, _⟩ => ⟨S_, .f32⟩
  | .hbm, ⟨31, _⟩ => ⟨S4x4x4096, .f32⟩
  | .hbm, ⟨32, _⟩ => ⟨S_, .f32⟩
  | .hbm, ⟨33, _⟩ => ⟨S4x4x4096, .f32⟩
  | .hbm, ⟨34, _⟩ => ⟨S4x4x4096, .f32⟩
  | .hbm, ⟨35, _⟩ => ⟨S4x4x4096x1, .f32⟩
  | .hbm, ⟨36, _⟩ => ⟨S4x4x4096x256, .f32⟩
  | .hbm, ⟨37, _⟩ => ⟨S4x4x4096x256, .f32⟩
  | .hbm, ⟨38, _⟩ => ⟨S4x4x4096x256, .f32⟩
  | .hbm, ⟨39, _⟩ => ⟨S_, .f32⟩
  | .hbm, ⟨40, _⟩ => ⟨S4x4x4096, .f32⟩
  | .hbm, ⟨41, _⟩ => ⟨S4x4x4096x1, .f32⟩
  | .hbm, ⟨42, _⟩ => ⟨S4x4x4096x256, .f32⟩
  | .hbm, ⟨43, _⟩ => ⟨S4x4x4096x256, .f32⟩
  | .hbm, ⟨44, _⟩ => ⟨S4x4x64x4096, .f32⟩
  | .hbm, ⟨45, _⟩ => ⟨S4x4096x4x64, .f32⟩
  | .hbm, ⟨46, _⟩ => ⟨S4x4096x256, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Hgrn.RefRun.lean ====
/-
  The reference's run, read off its generated fold: what @main leaves in its three results, as the operations after the
  loop over the carried buffers of the last trip and over the buffers computed before the loop, which no trip writes.
-/
module

public import proofs.«01_k».proof.Proof.Gen.ReferenceIdeal.Run
public import Idealize.ShloMosaic.Lib.Quiescent

@[expose] public section

noncomputable section

namespace Cert.Hgrn.Ref

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## Buffers that a part of @main does not write -/

/-- The buffers the operations before the loop write. -/
abbrev preW : List (Ref sig .tc) := hostOps0_W ++ hostOps0_1_W ++ hostOps0_2_W ++ hostOps0_3_W ++ hostOps0_4_W ++ hostOps0_5_W ++ hostOps0_6_W
/-- The buffers one trip of the loop writes. -/
abbrev tripW : List (Ref sig .tc) := condOps_W ++ while0Ops0_W ++ while0Ops0_1_W ++ while0Ops0_2_W ++ while0Ops0_3_W ++ while0Ops0_4_W ++ while0Ops0_5_W
  ++ while0Ops0_6_W ++ while0Ops0_7_W ++ while0Ops0_8_W ++ while0Ops0_9_W
/-- The buffers each stretch after the loop writes. -/
abbrev post0W : List (Ref sig .tc) := [main_v72, main_v73, main_v74, main_cst_12, main_v75, main_v76, main_cst_13, main_v77, main_v78, main_cst_14, main_v79, main_v80, main_v81, main_v82, main_v83, main_v84, main_v85, main_v86, main_v87]
abbrev post1W : List (Ref sig .tc) := [main_call10_v0, main_call10_v1, main_call10_cst, main_call10_v2, main_call10_v3, main_call10_cst_0, main_call10_v4, main_call10_v5, main_v88]
abbrev post2W : List (Ref sig .tc) := [main_v89, main_v90, main_v91]

theorem post0_writes : (hostOps0_7 : List (HloOp τ sig (Elt F))).Forall fun op => op.writes ⊆ (post0W.map (Proc.devRef (τ := τ) .tc)).toFinset :=
  forall_writes_sub_of_map rfl
theorem post1_writes : (hostOps0_8 : List (HloOp τ sig (Elt F))).Forall fun op => op.writes ⊆ (post1W.map (Proc.devRef (τ := τ) .tc)).toFinset :=
  forall_writes_sub_of_map rfl
theorem post2_writes : (hostOps0_9 : List (HloOp τ sig (Elt F))).Forall fun op => op.writes ⊆ (post2W.map (Proc.devRef (τ := τ) .tc)).toFinset :=
  forall_writes_sub_of_map rfl

/-- A buffer no operation before the loop writes is at the loop's entry as at the launch. -/
theorem pre_keep (V : Valuation τ sig (Elt F)) (r : Ref sig .tc) (h : r ∉ preW) : afterL preI V (Proc.devRef .tc r) = V (Proc.devRef .tc r) := by
  simp only [preW, List.mem_append, not_or] at h
  obtain ⟨⟨⟨⟨⟨⟨h0, h1⟩, h2⟩, h3⟩, h4⟩, h5⟩, h6⟩ := h
  simp only [afterL_cons, afterL_nil]
  rw [after_of_writes_sub _ _ hostOps0_6_writes h6, after_of_writes_sub _ _ hostOps0_5_writes h5, after_of_writes_sub _ _ hostOps0_4_writes h4,
    after_of_writes_sub _ _ hostOps0_3_writes h3, after_of_writes_sub _ _ hostOps0_2_writes h2, after_of_writes_sub _ _ hostOps0_1_writes h1,
    after_of_writes_sub _ _ hostOps0_writes h0]

/-- A buffer no operation of a trip writes is after the trip as before it. -/
theorem trip_keep (V : Valuation τ sig (Elt F)) (r : Ref sig .tc) (h : r ∉ tripW) :
    afterL bodyI (after condOps V) (Proc.devRef .tc r) = V (Proc.devRef .tc r) := by
  simp only [tripW, List.mem_append, not_or] at h
  obtain ⟨⟨⟨⟨⟨⟨⟨⟨⟨⟨hc, h0⟩, h1⟩, h2⟩, h3⟩, h4⟩, h5⟩, h6⟩, h7⟩, h8⟩, h9⟩ := h
  simp only [afterL_cons, afterL_nil]
  rw [after_of_writes_sub _ _ while0Ops0_9_writes h9, after_of_writes_sub _ _ while0Ops0_8_writes h8, after_of_writes_sub _ _ while0Ops0_7_writes h7,
    after_of_writes_sub _ _ while0Ops0_6_writes h6, after_of_writes_sub _ _ while0Ops0_5_writes h5, after_of_writes_sub _ _ while0Ops0_4_writes h4,
    after_of_writes_sub _ _ while0Ops0_3_writes h3, after_of_writes_sub _ _ while0Ops0_2_writes h2, after_of_writes_sub _ _ while0Ops0_1_writes h1,
    after_of_writes_sub _ _ while0Ops0_writes h0, after_of_writes_sub _ _ condOps_writes hc]

/-- So it is at every trip as at the loop's entry. -/
theorem atK_keep (c : Dev nD) (r : Ref sig .tc) (h : r ∉ tripW) : ∀ k, atK m k c (Proc.devRef .tc r) = entryContents preI m c (Proc.devRef .tc r)
  | 0 => rfl
  | k + 1 => (trip_keep (atK m k c) r h).trans (atK_keep c r h k)

/-- A buffer no operation after the loop writes is at the end as after the loop. -/
theorem post_keep (V : Valuation τ sig (Elt F)) (r : Ref sig .tc) (h : r ∉ post0W ++ post1W ++ post2W) : afterL postI V (Proc.devRef .tc r) = V (Proc.devRef .tc r) := by
  simp only [List.mem_append, not_or] at h
  obtain ⟨⟨h0, h1⟩, h2⟩ := h
  simp only [afterL_cons, afterL_nil]
  rw [after_of_writes_sub _ _ post2_writes h2, after_of_writes_sub _ _ post1_writes h1, after_of_writes_sub _ _ post0_writes h0]

/-- A buffer nothing writes ends as it was at the launch. -/
theorem keep (c : Dev nD) (r : Ref sig .tc) (h : r ∉ preW ∧ r ∉ tripW ∧ r ∉ post0W ++ post1W ++ post2W) :
    finalContents condOps preI bodyI postI 128 m c (Proc.devRef .tc r) = m ((c.tc : Thread nD τ).loc r) := by
  have hc : r ∉ condOps_W := fun hm => h.2.1 (by simp only [tripW, List.mem_append]; tauto)
  exact (post_keep _ r h.2.2).trans ((after_of_writes_sub _ _ condOps_writes hc).trans
    ((atK_keep m c r h.2.1 128).trans (pre_keep _ r h.1)))

/-- The reference's run keeps its arguments and ends with every counter at zero. -/
theorem kept : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun r h => ⟨fun c =>
      ⟨(h c main_arg0 rfl).trans (keep m c main_arg0 (by decide)), (h c main_arg1 rfl).trans (keep m c main_arg1 (by decide)),
       (h c main_arg2 rfl).trans (keep m c main_arg2 (by decide)), (h c main_arg3 rfl).trans (keep m c main_arg3 (by decide)),
       (h c main_arg4 rfl).trans (keep m c main_arg4 (by decide))⟩,
      sem_eq_zero_of_no_sems (by decide) r.2⟩)
    (run_fold m ρ)

end Cert.Hgrn.Ref

end
-- ==== Proof.Hgrn.Frames.lean ====
/- The frames of the fused HGRN call and of its reference. The compiled program and its ideal reading have the same
   text, so one run over any float format serves both frames. -/
module

public import proofs.«01_k».proof.Defs
public import proofs.«01_k».proof.Proof.Gen.Kernel
public import proofs.«01_k».proof.Proof.Gen.KernelIdeal.Frame
public import proofs.«01_k».proof.Proof.Hgrn.RefRun

@[expose] public section

noncomputable section

namespace Cert.Hgrn

open Idealize.ShloMosaic Idealize.SL.Sem

/-- The two programs' one kernel function is the same function. -/
theorem bodies_eq : Cert.Kernel.defs₀ (F := Bits) = Cert.KernelIdeal.defs₀ :=
  congrArg Defs.onTc (funext fun l => funext fun a => by
    match l, a with
    | 0, (t, s) => rfl
    | ⟨_ + 1, h⟩, _ => exact absurd h (Nat.not_lt.2 (Nat.le_add_left _ _)))

/-- So the two programs have the same functions. -/
theorem defs_eq : Cert.Kernel.defs (F := Bits) = Cert.KernelIdeal.defs :=
  congrArg (Pipeline.defs Cert.Kernel.pcfgs) bodies_eq

/-- The compiled call terminates, keeps its arguments and ends with its counters at zero. -/
theorem frame_kernel : Cert.quiescent_Kernel (hKernel := Cert.Kernel.Gen.facts) := fun m ρ _ => by
  rw [defs_eq]
  exact Cert.KernelIdeal.Gen.frame (F := Bits) m ρ

/-- The same of the ideal reading. -/
theorem frame_ideal : Cert.quiescent_KernelIdeal (hKernelIdeal := Cert.KernelIdeal.Gen.facts) := fun m ρ _ =>
  Cert.KernelIdeal.Gen.frame (F := Ideal) m ρ

/-- The same of the reference. -/
theorem frame_ref : Cert.quiescent_ReferenceIdeal (hReferenceIdeal := Cert.ReferenceIdeal.Gen.facts) := fun m ρ _ =>
  Cert.Hgrn.Ref.kept m ρ

end Cert.Hgrn

end
-- ==== Proof.Hgrn.Window.lean ====
module

public import Idealize.ShloMosaic.Lib.Pointwise

@[expose] public section

noncomputable section

namespace Cert.Hgrn

open Idealize.ShloMosaic

/-! # Running sums, printed as sums over windows -/

theorem foldl_add {ι : Type*} (g : ι → EReal) : ∀ (l : List ι) (v : EReal), l.foldl (fun r n => r + g n) v = v + (l.map g).sum
  | [], v => (add_zero v).symm
  | a :: l, v => by rw [List.foldl_cons, foldl_add g l, List.map_cons, List.sum_cons, add_assoc]

theorem window_sum {s t u : Shape} (window strides lo hi : Fin s.rank → Nat) (x : FVec Ideal s .f32) (init : FVec Ideal u .f32)
    (h : s.ReduceWindows window strides lo hi t) (hu : 0 < u.numel) (j : t.Idx) :
    Host.reduceWindowAdd window strides lo hi x init h hu j = init (Shape.Idx.first hu) +
      ∑ w : (⟨s.rank, window⟩ : Shape).Idx,
        if hin : ∀ a, lo a ≤ (j (a.cast h.1.symm)).val * strides a + (w a).val ∧ (j (a.cast h.1.symm)).val * strides a + (w a).val - lo a < s.size a then
          x (fun a => ⟨(j (a.cast h.1.symm)).val * strides a + (w a).val - lo a, (hin a).2⟩)
        else init (Shape.Idx.first hu) := by
  refine (foldl_add _ _ _).trans ?_
  congr 1
  rw [← Fin.sum_univ_def]
  refine (Finset.sum_congr rfl fun n _ => ?_).trans (Equiv.sum_comp (⟨s.rank, window⟩ : Shape).rowMajor.symm
    (fun w => if hin : ∀ a, lo a ≤ (j (a.cast h.1.symm)).val * strides a + (w a).val ∧ (j (a.cast h.1.symm)).val * strides a + (w a).val - lo a < s.size a then
          x (fun a => ⟨(j (a.cast h.1.symm)).val * strides a + (w a).val - lo a, (hin a).2⟩)
        else init (Shape.Idx.first hu)))
  dsimp only
  split
  · rfl
  · rfl

/-- The places of a window that meet the operand are those up to the window's own place. -/
theorem sum_turn (i : Fin 32) (f : Fin 32 → EReal) :
    (∑ w : Fin 32, if h : 31 ≤ i.val + w.val then f ⟨i.val + w.val - 31, by omega⟩ else 0) = ∑ j : Fin 32, if j ≤ i then f j else 0 := by
  refine Fintype.sum_equiv (Equiv.addRight (i + 1)) _ _ fun w => ?_
  have hi := i.isLt
  have hw := w.isLt
  have e : ((Equiv.addRight (i + 1)) w).val = (w.val + (i.val + 1)) % 32 := by
    show (w.val + (i.val + 1) % 32) % 32 = _
    omega
  by_cases h : 31 ≤ i.val + w.val
  · have e' : (Equiv.addRight (i + 1)) w = ⟨i.val + w.val - 31, by omega⟩ := Fin.ext (e.trans (by show _ = i.val + w.val - 31; omega))
    rw [dif_pos h, e', if_pos (by show i.val + w.val - 31 ≤ i.val; omega)]
  · rw [dif_neg h, if_neg (by show ¬((Equiv.addRight (i + 1)) w).val ≤ i.val; rw [e]; omega)]

/-- The running sum along the third axis of chunks of 32 rows. -/
theorem window_rows (x : FVec Ideal ⟨4, ![4, 6, 32, 128]⟩ .f32) (init : FVec Ideal ⟨0, ![]⟩ .f32)
    (h : (⟨4, ![4, 6, 32, 128]⟩ : Shape).ReduceWindows ![1, 1, 32, 1] ![1, 1, 1, 1] ![0, 0, 31, 0] ![0, 0, 0, 0] ⟨4, ![4, 6, 32, 128]⟩) (hu : 0 < (⟨0, ![]⟩ : Shape).numel)
    (h0 : init (Shape.Idx.first hu) = 0) (a : Fin 4) (b : Fin 6) (i : Fin 32) (d : Fin 128) :
    Host.reduceWindowAdd ![1, 1, 32, 1] ![1, 1, 1, 1] ![0, 0, 31, 0] ![0, 0, 0, 0] x init h hu (ix4 a b i d) = ∑ j : Fin 32, if j ≤ i then x (ix4 a b j d) else 0 := by
  rw [window_sum, h0, zero_add]
  refine (sum_idx4 (n0 := 1) (n1 := 1) (n2 := 32) (n3 := 1) _).trans ?_
  simp only [Fin.sum_univ_one]
  refine (Finset.sum_congr rfl fun w _ => ?_).trans (sum_turn i fun j => x (ix4 a b j d))
  have ha := a.isLt
  have hb := b.isLt
  have hi := i.isLt
  have hd := d.isLt
  have hw := w.isLt
  split
  · next hin =>
    have h2 := hin 2
    change 31 ≤ i.val * 1 + w.val ∧ i.val * 1 + w.val - 31 < 32 at h2
    rw [dif_pos (by omega)]
    refine congrArg x (funext fun k => Fin.ext ?_)
    match k with
    | ⟨0, _⟩ => show a.val * 1 + 0 - 0 = a.val; omega
    | ⟨1, _⟩ => show b.val * 1 + 0 - 0 = b.val; omega
    | ⟨2, _⟩ => show i.val * 1 + w.val - 31 = i.val + w.val - 31; omega
    | ⟨3, _⟩ => show d.val * 1 + 0 - 0 = d.val; omega
  · next hin =>
    rw [dif_neg fun hle => hin fun k => by
      match k with
      | ⟨0, _⟩ => show 0 ≤ a.val * 1 + 0 ∧ a.val * 1 + 0 - 0 < 4; omega
      | ⟨1, _⟩ => show 0 ≤ b.val * 1 + 0 ∧ b.val * 1 + 0 - 0 < 6; omega
      | ⟨2, _⟩ => show 31 ≤ i.val * 1 + w.val ∧ i.val * 1 + w.val - 31 < 32; omega
      | ⟨3, _⟩ => show 0 ≤ d.val * 1 + 0 ∧ d.val * 1 + 0 - 0 < 128; omega]

/-- The first row of a running sum of two rows is the first row. -/
theorem window_first (x : FVec Ideal ⟨2, ![2, 768]⟩ .f32) (init : FVec Ideal ⟨0, ![]⟩ .f32)
    (h : (⟨2, ![2, 768]⟩ : Shape).ReduceWindows ![2, 1] ![1, 1] ![1, 0] ![0, 0] ⟨2, ![2, 768]⟩) (hu : 0 < (⟨0, ![]⟩ : Shape).numel)
    (h0 : init (Shape.Idx.first hu) = 0) (c : Fin 768) :
    Host.reduceWindowAdd ![2, 1] ![1, 1] ![1, 0] ![0, 0] x init h hu (ix2 0 c) = x (ix2 0 c) := by
  have hc := c.isLt
  rw [window_sum, h0, zero_add]
  refine (sum_idx2 (n0 := 2) (n1 := 1) _).trans ?_
  simp only [Fin.sum_univ_one, Fin.sum_univ_two]
  rw [dif_neg (fun hin => absurd (show 1 ≤ 0 * 1 + 0 from (hin 0).1) (by omega)), zero_add, dif_pos (fun k => by
      match k with
      | ⟨0, _⟩ => show 1 ≤ 0 * 1 + 1 ∧ 0 * 1 + 1 - 1 < 2; omega
      | ⟨1, _⟩ => show 0 ≤ c.val * 1 + 0 ∧ c.val * 1 + 0 - 0 < 768; omega)]
  refine congrArg x (funext fun k => Fin.ext ?_)
  match k with
  | ⟨0, _⟩ => rfl
  | ⟨1, _⟩ => show c.val * 1 + 0 - 0 = c.val; omega

end Cert.Hgrn

end
-- ==== Proof.Hgrn.Spec.lean ====
/- The layer's recurrence on extended reals: the gated rows of one sequence and head cut into chunks of 32, the state at
   the start of every chunk, and a chunk's rows of the output. Also two facts about sums that both programs need. -/
module

public import Idealize.ShloMosaic.Lib.Pointwise

@[expose] public section

noncomputable section

namespace Cert.Hgrn

open Idealize.ShloMosaic

/-! ## The recurrence -/

/-- The mean of squares is taken over this many entries, and this is added to it. -/
def scale (n : BitVec 32) (s x : EReal) : EReal := x * Ideal.rsqrt (Ideal.div s (Ideal.ofBits .f32 n) + Ideal.ofBits .f32 897988541#32)

section

variable (lb : ℕ → EReal) (z : ℕ → ℕ → EReal) (on : ℕ → EReal) (h : ℕ)

/-- The forget gate at row `r`, lane `d`. -/
def gate (r d : ℕ) : EReal := lb (128 * h + d) + (1 - lb (128 * h + d)) * Ideal.logistic (z r (128 * (6 + h) + d))

/-- Its logarithm. -/
def lgate (r d : ℕ) : EReal := Ideal.log (gate lb z h r d)

/-- The running sum of the log gate within chunk `n`, up to row `i` of the chunk. -/
def csum (n i d : ℕ) : EReal := ∑ j : Fin 32, if j.val ≤ i then lgate lb z h (32 * n + j) d else 0

/-- The sum of the log gate over chunk `n`. -/
def ctot (n d : ℕ) : EReal := ∑ j : Fin 32, lgate lb z h (32 * n + j) d

/-- The decayed query. -/
def qd (n i d : ℕ) : EReal :=
  z (32 * n + i) (128 * h + d) * Ideal.logistic (z (32 * n + i) (128 * h + d)) * Ideal.exp (csum lb z h n i d)

/-- The key, with the decay up to its row undone. -/
def kd (n j d : ℕ) : EReal := (1 - gate lb z h (32 * n + j) d) * Ideal.exp (-csum lb z h n j d)

/-- The key, decayed to the end of the chunk. -/
def kr (n j d : ℕ) : EReal := (1 - gate lb z h (32 * n + j) d) * Ideal.exp (ctot lb z h n d - csum lb z h n j d)

/-- The value row. -/
def vv (n j e : ℕ) : EReal := z (32 * n + j) (128 * (12 + h) + e)

/-- The score of rows `i`, `j` of chunk `n`. -/
def score (n i j : ℕ) : EReal := ∑ d : Fin 128, qd lb z h n i d * kd lb z h n j d

/-- What rows of the chunk contribute to row `i`. -/
def intra (n i e : ℕ) : EReal := ∑ j : Fin 32, (if j.val ≤ i then score lb z h n i j else 0) * vv z h n j e

/-- What chunk `n` adds to the state. -/
def incr (n d e : ℕ) : EReal := ∑ j : Fin 32, kr lb z h n j d * vv z h n j e

/-- The state at the start of chunk `n`. -/
def St : ℕ → ℕ → ℕ → EReal
  | 0, _, _ => 0
  | n + 1, d, e => Ideal.exp (ctot lb z h n d) * St n d e + incr lb z h n d e

/-- The output before normalisation. -/
def oo (n i e : ℕ) : EReal := (∑ d : Fin 128, qd lb z h n i d * St lb z h n d e) + intra lb z h n i e

/-- The output at row `r`, lane `e`. -/
def yy (r e : ℕ) : EReal :=
  scale 1124073472#32 (∑ x : Fin 128, oo lb z h (r / 32) (r % 32) x * oo lb z h (r / 32) (r % 32) x) (oo lb z h (r / 32) (r % 32) e) * on e
    * (z r (128 * (18 + h) + e) * Ideal.logistic (z r (128 * (18 + h) + e)))

end

/-! ## Sums -/

/-- A sum that only counts one chunk of a block of eight is the sum over that chunk. -/
theorem sum_chunk {M : Type*} [AddCommMonoid M] (f : ℕ → M) (p : ℕ → Prop) [DecidablePred p] {c : ℕ} (hc : c < 8) :
    (∑ j : Fin 256, if j.val / 32 = c ∧ p j then f j else 0) = ∑ i : Fin 32, if p (32 * c + i) then f (32 * c + i) else 0 := by
  rw [Fin.sum_univ_tiles 8 32 rfl, Finset.sum_eq_single (⟨c, hc⟩ : Fin 8)]
  · refine Finset.sum_congr rfl fun i _ => ?_
    have hi := i.isLt
    have e : c * 32 + i.val = 32 * c + i.val := by omega
    have e2 : (c * 32 + i.val) / 32 = c := by omega
    show (if (c * 32 + i.val) / 32 = c ∧ p (c * 32 + i.val) then f (c * 32 + i.val) else 0) = _
    rw [e2, e]
    simp only [true_and]
  · intro b _ hb
    refine Finset.sum_eq_zero fun i _ => if_neg fun hh => hb (Fin.ext ?_)
    have hi := i.isLt
    have := hh.1
    show b.val = c
    simp only at this
    omega
  · intro hh
    exact absurd (Finset.mem_univ _) hh

/-- The first chunk-selecting sum, over eight chunks of 128 lanes side by side. -/
theorem sum_group {M : Type*} [AddCommMonoid M] (f : ℕ → ℕ → M) {c : ℕ} (hc : c < 8) :
    (∑ k : Fin 1024, if k.val / 128 = c then f c (k.val % 128) else 0) = ∑ d : Fin 128, f c d := by
  rw [Fin.sum_univ_tiles 8 128 rfl, Finset.sum_eq_single (⟨c, hc⟩ : Fin 8)]
  · refine Finset.sum_congr rfl fun i _ => ?_
    have hi := i.isLt
    have e1 : (c * 128 + i.val) / 128 = c := by omega
    have e2 : (c * 128 + i.val) % 128 = i.val := by omega
    simp only [e1, e2, if_true]
  · intro b _ hb
    refine Finset.sum_eq_zero fun i _ => if_neg fun hh => hb (Fin.ext ?_)
    have hi := i.isLt
    show b.val = c
    simp only at hh
    omega
  · intro hh
    exact absurd (Finset.mem_univ _) hh

/-- A sum one of whose terms is the bottom is the bottom. -/
theorem sum_bot {n : ℕ} (f : Fin n → EReal) {i : Fin n} (hi : f i = ⊥) : ∑ j, f j = ⊥ := by
  rw [← Finset.add_sum_erase _ _ (Finset.mem_univ i), hi, EReal.bot_add]

/-- The low half of an exact split adds nothing to a masked sum, unless the sum is the bottom anyway. -/
theorem sum_split {n : ℕ} (p : Fin n → Prop) [DecidablePred p] (g : Fin n → EReal) (hg : ∀ i, g i ≠ ⊤) :
    (∑ i, (if p i then g i else 0)) + (∑ i, if p i then g i - g i else 0) = ∑ i, if p i then g i else 0 := by
  by_cases hb : ∃ i, p i ∧ g i = ⊥
  · obtain ⟨i, hp, hi⟩ := hb
    rw [sum_bot (i := i) (fun i => if p i then g i else 0) (by simp only [if_pos hp, hi]), EReal.bot_add]
  · have : ∀ i, (if p i then g i - g i else 0) = 0 := by
      intro i
      by_cases hp : p i
      · rw [if_pos hp]
        exact EReal.sub_self (hg i) fun h => hb ⟨i, hp, h⟩
      · rw [if_neg hp]
    simp only [this, Finset.sum_const_zero, add_zero]

/-! ## The gate has a logarithm below the top -/

theorem sig_real (x : EReal) : ∃ r : ℝ, Ideal.logistic x = (r : EReal) := by
  induction x with
  | bot => exact ⟨0, by simp⟩
  | top => exact ⟨1, by simp⟩
  | coe x => exact ⟨_, Ideal.logistic_coe x⟩

theorem gate_ne_top {lb : ℕ → EReal} (hlb : ∀ c, lb c ≠ ⊤) (z : ℕ → ℕ → EReal) (h r d : ℕ) : gate lb z h r d ≠ ⊤ := by
  obtain ⟨s, hs⟩ := sig_real (z r (128 * (6 + h) + d))
  unfold gate
  rw [hs]
  generalize hl : lb (128 * h + d) = l
  have hl' : l ≠ ⊤ := hl ▸ hlb _
  induction l with
  | bot => rw [EReal.bot_add]; exact bot_ne_top
  | top => exact absurd rfl hl'
  | coe l =>
    have : (l : EReal) + (1 - (l : EReal)) * (s : EReal) = ((l + (1 - l) * s : ℝ) : EReal) := by push_cast; rfl
    rw [this]
    exact EReal.coe_ne_top _

theorem lgate_ne_top {lb : ℕ → EReal} (hlb : ∀ c, lb c ≠ ⊤) (z : ℕ → ℕ → EReal) (h r d : ℕ) : lgate lb z h r d ≠ ⊤ := by
  have := gate_ne_top hlb z h r d
  unfold lgate
  generalize gate lb z h r d = g at this
  induction g with
  | bot => simp
  | top => exact absurd rfl this
  | coe g =>
    rw [Ideal.log_coe]
    split
    · exact bot_ne_top
    · exact EReal.coe_ne_top _

end Cert.Hgrn

end
-- ==== Proof.Hgrn.Args.lean ====
module

public import Idealize.ShloMosaic.Lib.Pointwise
public import proofs.«01_k».proof.Proof.Hgrn.Spec

@[expose] public section

noncomputable section

namespace Cert.Hgrn

open Idealize.ShloMosaic

/-! # The quantities of the recurrence, of the five argument arrays -/

/-- The largest of two logits, as a softmax subtracts it. -/
def peak (a : Fin 2 → EReal) : EReal :=
  max (Ideal.ofBits .f32 4286578688#32) (Finset.fold max (Ideal.ofBits .f32 4286578688#32) (fun x => a x) Finset.univ)

/-- The first of two softmax shares. -/
def share (a : Fin 2 → EReal) : EReal := Ideal.div (Ideal.exp (a 0 - peak a)) (∑ x, Ideal.exp (a x - peak a))

theorem exp_nonneg (x : EReal) : 0 ≤ Ideal.exp x := by
  induction x using EReal.rec with
  | bot => exact le_refl _
  | coe x => exact EReal.coe_nonneg.mpr (Real.exp_pos x).le
  | top => exact le_top

theorem share_ne_top (a : Fin 2 → EReal) : share a ≠ ⊤ := by
  have h0 := exp_nonneg (a 0 - peak a)
  have h1 := exp_nonneg (a 1 - peak a)
  unfold share
  rw [Fin.sum_univ_two]
  generalize Ideal.exp (a 0 - peak a) = u at *
  generalize Ideal.exp (a 1 - peak a) = v at *
  have hle : u ≤ u + v := le_add_of_nonneg_right h1
  unfold Ideal.div
  split
  · next h =>
    rw [h] at hle
    rw [if_neg (not_lt.mpr hle)]
    exact bot_ne_top
  · next h =>
    intro ht
    by_cases hs : u + v = ⊤
    · rw [hs, EReal.inv_top, mul_zero] at ht
      exact EReal.zero_ne_top ht
    · have hu : u ≠ ⊤ := fun e => hs (top_le_iff.mp (e ▸ hle))
      have hub : u ≠ ⊥ := fun e => by rw [e] at h0; exact absurd h0 (by simp)
      have hsb : u + v ≠ ⊥ := fun e => by
        have := h0.trans hle
        rw [e] at this
        exact absurd this (by simp)
      lift u to ℝ using ⟨hu, hub⟩
      generalize (u : EReal) + v = s at *
      lift s to ℝ using ⟨hs, hsb⟩
      rw [← EReal.coe_inv, ← EReal.coe_mul] at ht
      exact EReal.coe_ne_top _ ht

variable (x : FVec Ideal ⟨3, ![4, 4096, 1024]⟩ .f32) (nm : FVec Ideal ⟨2, ![2, 1024]⟩ .f32) (w : FVec Ideal ⟨3, ![1, 1024, 3328]⟩ .f32)
  (lg : FVec Ideal ⟨2, ![2, 768]⟩ .f32) (no : FVec Ideal ⟨2, ![1, 128]⟩ .f32)

/-- Entry `(r, j)` of the projection of sequence `b`. -/
def zval (b : Fin 4) (r : Fin 4096) (j : Fin 3328) : EReal :=
  ∑ k : Fin 1024, scale 1149239296#32 (∑ j : Fin 1024, x (ix3 b r j) * x (ix3 b r j)) (x (ix3 b r k)) * nm (ix2 0 k) * w (ix3 0 k j)

def zall (b r j : ℕ) : EReal := if h : (b < 4 ∧ r < 4096) ∧ j < 3328 then zval x nm w ⟨b, h.1.1⟩ ⟨r, h.1.2⟩ ⟨j, h.2⟩ else 0

def lows (j : ℕ) : EReal := if h : j < 768 then share (fun i => lg (ix2 i ⟨j, h⟩)) else 0

def norms (d : ℕ) : EReal := if h : d < 128 then no (ix2 0 ⟨d, h⟩) else 0

theorem zall_eq (b : Fin 4) (r : Fin 4096) (j : Fin 3328) : zall x nm w b r j = zval x nm w b r j := dif_pos ⟨⟨b.isLt, r.isLt⟩, j.isLt⟩

theorem lows_eq (j : Fin 768) : lows lg j = share (fun i => lg (ix2 i j)) := dif_pos j.isLt

theorem norms_eq (d : Fin 128) : norms no d = no (ix2 0 d) := dif_pos d.isLt

theorem lows_ne_top (j : ℕ) : lows lg j ≠ ⊤ := by
  unfold lows
  split
  · exact share_ne_top _
  · exact EReal.zero_ne_top

end Cert.Hgrn

end
-- ==== Proof.Hgrn.Block.lean ====
/- One block of the fused HGRN kernel — a run of 256 rows of one head — as vector functions of what the block loads, and
   the lists of stores a grid point makes, written as recursions over its 24 blocks. Nothing here depends on the values. -/
module

public import proofs.«01_k».proof.Proof.Gen.KernelIdeal.Frame.RunC

@[expose] public section

noncomputable section

namespace Cert.Hgrn

open Idealize.ShloMosaic Cert.KernelIdeal Cert.KernelIdeal.Gen

variable {F : FTy → Type} [FloatOps F]

/-! ## The masks -/

/-- Row and column lie in one chunk, the column not after the row. -/
def causal : IVec S256x256 1 :=
  k0_pay18 (iota .tc S256x256 32 [0] iota_S256x256_d0_w32) (iota .tc S256x256 32 [1] iota_S256x256_d1_w32) k0_pay14 32#32 k0_pay15 k0_pay16 1#32

/-- The causal mask over the same-chunk mask, as ones and zeros: the left factor of the two running sums. -/
def sums : FVec F S512x256 .bf16 :=
  k0_pay19 (iota .tc S256x256 32 [0] iota_S256x256_d0_w32) (iota .tc S256x256 32 [1] iota_S256x256_d1_w32) k0_pay14 32#32 k0_pay15 k0_pay16 1#32

/-- The rows of chunk `c` of the block. -/
def inChunk (c : BitVec 32) : IVec S256x128 1 := cmpi .eq k0_pay20 (broadcast S256x128 c)

/-! ## One block -/

/-- The two running sums of the log forget gate, each as a high and a low half side by side. -/
def logSums (lb : Vec F S1x128 .f32) (zf : Vec F S256x128 .f32) : FVec F S512x256 .f32 := k0_pay70 sums lb zf

/-- The running sum within the chunk. -/
def run (lb : Vec F S1x128 .f32) (zf : Vec F S256x128 .f32) : FVec F S256x128 .f32 := k0_pay71 sums lb zf

/-- The query scaled by the running decay. -/
def qdec (lb : Vec F S1x128 .f32) (zq zf : Vec F S256x128 .f32) : FVec F S256x128 .f32 := k0_pay73 (k0_pay66 zq) (run lb zf)

/-- What each of the eight chunks adds to the state, side by side. -/
def incs (lb : Vec F S1x128 .f32) (zf zv : Vec F S256x128 .f32) : FVec F S128x1024 .f32 :=
  k0_pay76 (inChunk 0#32) (inChunk 1#32) (inChunk 2#32) (inChunk 3#32) (inChunk 4#32) (inChunk 5#32) (inChunk 6#32) (inChunk 7#32)
    (k0_pay68 lb zf) (k0_pay69 zv) (logSums lb zf) (run lb zf)

/-- The decay across the chunk a row lies in. -/
def decay (lb : Vec F S1x128 .f32) (zf : Vec F S256x128 .f32) : FVec F S256x128 .f32 := k0_pay74 (logSums lb zf)

/-- The first chunk's decay, spread over the state. -/
def decay0 (lb : Vec F S1x128 .f32) (zf : Vec F S256x128 .f32) : FVec F S128x128 .f32 := k0_pay79 (logSums lb zf)

/-- The state after the block. -/
def nextState (lb : Vec F S1x128 .f32) (zf zv : Vec F S256x128 .f32) (st : Vec F S1x128x128 .f32) : FVec F S1x128x128 .f32 :=
  k0_pay94 (decay lb zf) (incs lb zf zv) (k0_pay77 st) (decay0 lb zf)

/-- The block's rows of the output. -/
def blockOut (lb : Vec F S1x128 .f32) (zq zf zv zg : Vec F S256x128 .f32) (on : Vec F S1x128 .f32) (st : Vec F S1x128x128 .f32) :
    FVec F S1x256x128 .f32 :=
  k0_pay98 (inChunk 2#32) (inChunk 3#32) (inChunk 4#32) (inChunk 5#32) (inChunk 6#32) (inChunk 7#32) (qdec lb zq zf)
    (k0_pay75 causal (k0_pay66 zq) (k0_pay68 lb zf) (k0_pay69 zv) (run lb zf)) (k0_pay78 st)
    (k0_pay81 (incs lb zf zv) (k0_pay77 st) (decay0 lb zf)) (k0_pay83 (decay lb zf) (incs lb zf zv) (k0_pay77 st) (decay0 lb zf))
    (k0_pay85 (decay lb zf) (incs lb zf zv) (k0_pay77 st) (decay0 lb zf)) (k0_pay87 (decay lb zf) (incs lb zf zv) (k0_pay77 st) (decay0 lb zf))
    (k0_pay89 (decay lb zf) (incs lb zf zv) (k0_pay77 st) (decay0 lb zf)) (k0_pay91 (decay lb zf) (incs lb zf zv) (k0_pay77 st) (decay0 lb zf))
    (k0_pay93 (decay lb zf) (incs lb zf zv) (k0_pay77 st) (decay0 lb zf))
    (k0_pay95 (inChunk 0#32) (qdec lb zq zf)) (k0_pay96 (inChunk 1#32) (qdec lb zq zf)) k0_pay97 on zg

/-! ## The stores of a grid point -/

/-- In-bounds evidence at rank three, axis by axis. -/
theorem inb3 {d off size : Fin 3 → ℕ} (h0 : off 0 + size 0 ≤ d 0) (h1 : off 1 + size 1 ≤ d 1) (h2 : off 2 + size 2 ≤ d 2) :
    ∀ a, off a + size a ≤ (⟨3, d⟩ : Shape).size a :=
  Fin.forall_fin_succ.mpr ⟨h0, Fin.forall_fin_succ.mpr ⟨h1, Fin.forall_fin_one.mpr h2⟩⟩

/-- In-bounds evidence at rank four, axis by axis. -/
theorem inb4 {d off size : Fin 4 → ℕ} (h0 : off 0 + size 0 ≤ d 0) (h1 : off 1 + size 1 ≤ d 1) (h2 : off 2 + size 2 ≤ d 2)
    (h3 : off 3 + size 3 ≤ d 3) : ∀ a, off a + size a ≤ (⟨4, d⟩ : Shape).size a :=
  Fin.forall_fin_succ.mpr ⟨h0, Fin.forall_fin_succ.mpr ⟨h1, Fin.forall_fin_succ.mpr ⟨h2, Fin.forall_fin_one.mpr h3⟩⟩⟩

/-- 256 rows and 256 columns of the projected rows. -/
def rectZ (s j : ℕ) (hs : s < 4) (hj : j < 13) : Rect S1024x3328 :=
  Rect.unit ![256 * s, 256 * j] S256x256.size (Rect.inb₂ (by show 256 * s + 256 ≤ 1024; omega) (by show 256 * j + 256 ≤ 3328; omega))

/-- 256 rows and the 128 columns of one head of one part of the projected rows. -/
def rectH (s j : ℕ) (hs : s < 4) (hj : j < 26) : Rect S1024x3328 :=
  Rect.unit ![256 * s, 128 * j] S256x128.size (Rect.inb₂ (by show 256 * s + 256 ≤ 1024; omega) (by show 128 * j + 128 ≤ 3328; omega))

/-- One head's state. -/
def rectS (h : ℕ) (hh : h < 6) : Rect S6x128x128 :=
  Rect.unit ![h, 0, 0] S1x128x128.size (inb3 (by show h + 1 ≤ 6; omega) (by show 0 + 128 ≤ 128; omega) (by show 0 + 128 ≤ 128; omega))

/-- 256 rows of one head of the output. -/
def rectO (s h : ℕ) (hs : s < 4) (hh : h < 6) : Rect S1x1024x768 :=
  Rect.unit ![0, 256 * s, 128 * h] S1x256x128.size (inb3 (by show 0 + 1 ≤ 1; omega) (by show 256 * s + 256 ≤ 1024; omega) (by show 128 * h + 128 ≤ 768; omega))

/-- 256 rows of the columns that pass through. -/
def rectM (s : ℕ) (hs : s < 4) : Rect S1x1024x256 :=
  Rect.unit ![0, 256 * s, 0] S1x256x256.size (inb3 (by show 0 + 1 ≤ 1; omega) (by show 256 * s + 256 ≤ 1024; omega) (by show 0 + 256 ≤ 256; omega))

/-- One head's initial or final state. -/
def rectF (h : ℕ) (hh : h < 6) : Rect S1x6x128x128 :=
  Rect.unit ![0, h, 0, 0] S1x1x128x128.size (inb4 (by show 0 + 1 ≤ 1; omega) (by show h + 1 ≤ 6; omega) (by show 0 + 128 ≤ 128; omega) (by show 0 + 128 ≤ 128; omega))

/-- 256 rows of the input. -/
def rectX (s : ℕ) (hs : s < 4) : Rect S1x1024x1024 :=
  Rect.unit ![0, 256 * s, 0] S1x256x1024.size (inb3 (by show 0 + 1 ≤ 1; omega) (by show 256 * s + 256 ≤ 1024; omega) (by show 0 + 1024 ≤ 1024; omega))

/-- 256 columns of the weights. -/
def rectW (j : ℕ) (hj : j < 13) : Rect S1024x3328 :=
  Rect.unit ![0, 256 * j] S1024x256.size (Rect.inb₂ (by show 0 + 1024 ≤ 1024; omega) (by show 256 * j + 256 ≤ 3328; omega))

/-- One head's lower bounds. -/
def rectL (h : ℕ) (hh : h < 6) : Rect S1x768 :=
  Rect.unit ![0, 128 * h] S1x128.size (Rect.inb₂ (by show 0 + 1 ≤ 1; omega) (by show 128 * h + 128 ≤ 768; omega))

/-- The stores of the projection, one after the other (the last first): 13 column blocks for each of the 4 runs of 256 rows. -/
def projStores (X : Vec F S1x1024x1024 .f32) (N : Vec F S1x1024 .f32) (W : Vec F S1024x3328 .bf16) :
    (n : ℕ) → n ≤ 52 → List (View.Piece (Elt F) S1024x3328 .f32)
  | 0, _ => []
  | n + 1, h => ⟨rectZ (n / 13) (n % 13) (by omega) (Nat.mod_lt _ (by decide)),
      k0_pay37 (View.ld X (rectX (n / 13) (by omega))) (View.ld N (Rect.unit ![0, 0] S1x1024.size inb_S1x1024_S1x1024_0_0)) (View.ld W (rectW (n % 13) (Nat.mod_lt _ (by decide))))⟩
      :: projStores X N W n (by omega)

/-- How many of them have been made when the blocks of row run `s` are computed. -/
def projUpTo (s : ℕ) : ℕ := min (13 * (s + 2)) 52

section Blocks

variable (V : View sig .tc .vmem S1024x3328 .f32) (VS : View sig .tc .vmem S6x128x128 .f32)
  (X : Vec F S1x1024x1024 .f32) (N : Vec F S1x1024 .f32) (W : Vec F S1024x3328 .bf16) (B : Vec F S1x768 .f32) (G : Vec F S1x128 .f32)
  (base : List (View.Piece (Elt F) S6x128x128 .f32))
  (first : (k : ℕ) → k < 6 → List (View.Piece (Elt F) S6x128x128 .f32) → Vec F S1x128x128 .f32)

/-- What the block of row run `s` loads of column block `j` of the projected rows. -/
def loadZ (s j : ℕ) (hs : s < 4) (hj : j < 26) : Vec F S256x128 .f32 :=
  V.readCov (projStores X N W (projUpTo s) (by unfold projUpTo; omega)) (rectH s j hs hj).toLoadRect

/-- The state a block loads after the stores `L`: at the first six blocks what the point finds, later what was stored. -/
def loadS (k : ℕ) (L : List (View.Piece (Elt F) S6x128x128 .f32)) : Vec F S1x128x128 .f32 :=
  if h : k < 6 then first k h L else VS.readCov L (rectS (k % 6) (Nat.mod_lt _ (by decide))).toLoadRect

/-- The stores of the state (the last first): block `k` is head `k % 6` of row run `k / 6`. -/
def stateStores : (k : ℕ) → k ≤ 24 → List (View.Piece (Elt F) S6x128x128 .f32)
  | 0, _ => base
  | k + 1, h => ⟨rectS (k % 6) (Nat.mod_lt _ (by decide)),
      nextState (View.ld B (rectL (k % 6) (Nat.mod_lt _ (by decide)))) (loadZ V X N W (k / 6) (6 + k % 6) (by omega) (by omega))
        (loadZ V X N W (k / 6) (12 + k % 6) (by omega) (by omega)) (loadS VS first k (stateStores k (by omega)))⟩
      :: stateStores k (by omega)

/-- The stores of the output (the last first). -/
def outStores : (k : ℕ) → k ≤ 24 → List (View.Piece (Elt F) S1x1024x768 .f32)
  | 0, _ => []
  | k + 1, h => ⟨rectO (k / 6) (k % 6) (by omega) (Nat.mod_lt _ (by decide)),
      blockOut (View.ld B (rectL (k % 6) (Nat.mod_lt _ (by decide)))) (loadZ V X N W (k / 6) (k % 6) (by omega) (by omega))
        (loadZ V X N W (k / 6) (6 + k % 6) (by omega) (by omega)) (loadZ V X N W (k / 6) (12 + k % 6) (by omega) (by omega))
        (loadZ V X N W (k / 6) (18 + k % 6) (by omega) (by omega)) (View.ld G (Rect.unit ![0, 0] S1x128.size inb_S1x128_S1x128_0_0))
        (loadS VS first k (stateStores V VS X N W B base first k (by omega)))⟩
      :: outStores k (by omega)

/-- The stores of the remaining columns of the projected rows, which pass through (the last first). -/
def passStores : (s : ℕ) → s ≤ 4 → List (View.Piece (Elt F) S1x1024x256 .f32)
  | 0, _ => []
  | s + 1, h => ⟨rectM s (by omega), k0_pay50 (V.readCov (projStores X N W (13 * (s + 1)) (by omega)) (rectZ s 12 (by omega) (by decide)).toLoadRect)⟩
      :: passStores s (by omega)

/-- The stores of the initial state at the first point of a sequence, transposed (the last first). -/
def initStores (S : Vec F S1x6x128x128 .f32) : (h : ℕ) → h ≤ 6 → List (View.Piece (Elt F) S6x128x128 .f32)
  | 0, _ => []
  | h + 1, hh => ⟨rectS h (by omega), k0_pay4 (View.ld S (rectF h (by omega)))⟩ :: initStores S h (by omega)

/-- The stores of the final state at the last point of a sequence, transposed back (the last first). -/
def finalStores (L : List (View.Piece (Elt F) S6x128x128 .f32)) : (h : ℕ) → h ≤ 6 → List (View.Piece (Elt F) S1x6x128x128 .f32)
  | 0, _ => []
  | h + 1, hh => ⟨rectF h (by omega), k0_pay8 (VS.readCov L (rectS h (by omega)).toLoadRect)⟩ :: finalStores L h (by omega)

end Blocks

end Cert.Hgrn

end
-- ==== Proof.Hgrn.Stores.lean ====
/- Each case of the kernel's body makes exactly the stores of Block.lean. -/
module

public import proofs.«01_k».proof.Proof.Hgrn.Block
public import proofs.«01_k».proof.Proof.Gen.KernelIdeal.Frame

@[expose] public section

set_option maxRecDepth 20000

noncomputable section

namespace Cert.Hgrn

open Idealize.ShloMosaic Cert.KernelIdeal Cert.KernelIdeal.Gen

variable {F : FTy → Type} [FloatOps F]

variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S1x768 .f32) (harg5 : arg5.IsWhole) (arg6 : Memref sig .tc .vmem S1x128 .f32) (harg6 : arg6.IsWhole) (arg7 : Memref sig .tc .vmem S1x6x128x128 .f32) (harg7 : arg7.IsWhole) (arg8 : Memref sig .tc .vmem S1x1024x768 .f32) (harg8 : arg8.IsWhole) (arg9 : Memref sig .tc .vmem S1x1024x256 .f32) (harg9 : arg9.IsWhole) (arg10 : Memref sig .tc .vmem S1x6x128x128 .f32) (harg10 : arg10.IsWhole) (arg11 : Memref sig .tc .vmem S1024x3328 .f32) (harg11 : arg11.IsWhole) (arg12 : Memref sig .tc .vmem S6x128x128 .f32) (harg12 : arg12.IsWhole)
  (x0 : Vec F S1x1024x1024 .f32) (x1 : Vec F S1x1024 .f32) (x2 : Vec F S1024x3328 .bf16) (x3 : Vec F S1x768 .f32) (x4 : Vec F S1x128 .f32)
  (x5 : Vec F S1x6x128x128 .f32) (xs1 : Vec F S6x128x128 .f32)

/-! ## The first point of a sequence -/

theorem out_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1 =
      outStores arg11.view arg12.view (arg2.view.read (Elt F) (harg2.unread x0)) (arg3.view.read (Elt F) (harg3.unread x1)) (arg4.view.read (Elt F) (harg4.unread x2)) (arg5.view.read (Elt F) (harg5.unread x3)) (arg6.view.read (Elt F) (harg6.unread x4))
      (initStores (arg7.view.read (Elt F) (harg7.unread x5)) 6 le_rfl) (fun k hk L => arg12.view.readCov L (rectS k hk).toLoadRect) 24 le_rfl := by rfl

theorem pass_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1 =
      passStores arg11.view (arg2.view.read (Elt F) (harg2.unread x0)) (arg3.view.read (Elt F) (harg3.unread x1)) (arg4.view.read (Elt F) (harg4.unread x2)) 4 le_rfl := by rfl

theorem state_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 =
      stateStores arg11.view arg12.view (arg2.view.read (Elt F) (harg2.unread x0)) (arg3.view.read (Elt F) (harg3.unread x1)) (arg4.view.read (Elt F) (harg4.unread x2)) (arg5.view.read (Elt F) (harg5.unread x3))
      (initStores (arg7.view.read (Elt F) (harg7.unread x5)) 6 le_rfl) (fun k hk L => arg12.view.readCov L (rectS k hk).toLoadRect) 24 le_rfl := by rfl

/-! ## The middle points of a sequence -/

theorem out_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs1).1 =
      outStores arg11.view arg12.view (arg2.view.read (Elt F) (harg2.unread x0)) (arg3.view.read (Elt F) (harg3.unread x1)) (arg4.view.read (Elt F) (harg4.unread x2)) (arg5.view.read (Elt F) (harg5.unread x3)) (arg6.view.read (Elt F) (harg6.unread x4))
      [] (fun k hk _ => View.ld (arg12.view.read (Elt F) (harg12.unread xs1)) (rectS k hk)) 24 le_rfl := by rfl

theorem pass_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs1).2.1 =
      passStores arg11.view (arg2.view.read (Elt F) (harg2.unread x0)) (arg3.view.read (Elt F) (harg3.unread x1)) (arg4.view.read (Elt F) (harg4.unread x2)) 4 le_rfl := by rfl

theorem state_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs1).2.2.2.1 =
      stateStores arg11.view arg12.view (arg2.view.read (Elt F) (harg2.unread x0)) (arg3.view.read (Elt F) (harg3.unread x1)) (arg4.view.read (Elt F) (harg4.unread x2)) (arg5.view.read (Elt F) (harg5.unread x3))
      [] (fun k hk _ => View.ld (arg12.view.read (Elt F) (harg12.unread xs1)) (rectS k hk)) 24 le_rfl := by rfl

/-! ## The last point of a sequence -/

theorem out_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs1).1 =
      outStores arg11.view arg12.view (arg2.view.read (Elt F) (harg2.unread x0)) (arg3.view.read (Elt F) (harg3.unread x1)) (arg4.view.read (Elt F) (harg4.unread x2)) (arg5.view.read (Elt F) (harg5.unread x3)) (arg6.view.read (Elt F) (harg6.unread x4))
      [] (fun k hk _ => View.ld (arg12.view.read (Elt F) (harg12.unread xs1)) (rectS k hk)) 24 le_rfl := by rfl

theorem pass_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs1).2.1 =
      passStores arg11.view (arg2.view.read (Elt F) (harg2.unread x0)) (arg3.view.read (Elt F) (harg3.unread x1)) (arg4.view.read (Elt F) (harg4.unread x2)) 4 le_rfl := by rfl

theorem state_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs1).2.2.2.1 =
      stateStores arg11.view arg12.view (arg2.view.read (Elt F) (harg2.unread x0)) (arg3.view.read (Elt F) (harg3.unread x1)) (arg4.view.read (Elt F) (harg4.unread x2)) (arg5.view.read (Elt F) (harg5.unread x3))
      [] (fun k hk _ => View.ld (arg12.view.read (Elt F) (harg12.unread xs1)) (rectS k hk)) 24 le_rfl := by rfl

theorem final_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs1).2.2.1 =
      finalStores arg12.view (stateStores arg11.view arg12.view (arg2.view.read (Elt F) (harg2.unread x0)) (arg3.view.read (Elt F) (harg3.unread x1)) (arg4.view.read (Elt F) (harg4.unread x2)) (arg5.view.read (Elt F) (harg5.unread x3))
      [] (fun k hk _ => View.ld (arg12.view.read (Elt F) (harg12.unread xs1)) (rectS k hk)) 24 le_rfl) 6 le_rfl := by rfl

end Cert.Hgrn

end
-- ==== Proof.Hgrn.Masks.lean ====
/- The masks of one block of the fused HGRN kernel, read at an index: which rows lie in one chunk, and which of them come first. -/
module

public import proofs.«01_k».proof.Proof.Hgrn.Block
public import Idealize.ShloMosaic.Lib.Pointwise

@[expose] public section

noncomputable section

namespace Cert.Hgrn

open Idealize.ShloMosaic Cert.KernelIdeal Cert.KernelIdeal.Gen

/-- The chunk a row lies in, as the kernel computes it. -/
def chunkWord (w : BitVec 32) : BitVec 32 :=
  Scalar.select
    (IntOp.andi (IntOp.cmpi CmpIPredicate.ne
        (IntOp.subi (BitVec.setWidth 32 (IntOp.cmpi CmpIPredicate.sgt w 0#32)) (BitVec.setWidth 32 (IntOp.cmpi CmpIPredicate.slt w 0#32))) 1#32)
      (IntOp.cmpi CmpIPredicate.ne (IntOp.remsi ArithUnit.vector w 32#32) 0#32))
    (IntOp.subi (IntOp.divsi ArithUnit.vector w 32#32) 1#32) (IntOp.divsi ArithUnit.vector w 32#32)

theorem chunkWord_eq : ∀ r : Fin 256, chunkWord (BitVec.ofNat 32 r) = BitVec.ofNat 32 (r.val / 32) := by decide

theorem eq_word (a b : ℕ) (ha : a < 8) (hb : b < 8) : IntOp.cmpi .eq (BitVec.ofNat 32 a) (BitVec.ofNat 32 b) = if a = b then 1#1 else 0#1 := by
  have : ∀ a b : Fin 8, IntOp.cmpi .eq (BitVec.ofNat 32 a.val) (BitVec.ofNat 32 b.val) = if a.val = b.val then 1#1 else 0#1 := by decide
  exact this ⟨a, ha⟩ ⟨b, hb⟩

theorem ge_word (a b : ℕ) (ha : a < 256) (hb : b < 256) : IntOp.cmpi .sge (BitVec.ofNat 32 a) (BitVec.ofNat 32 b) = if b ≤ a then 1#1 else 0#1 := by
  have h1 : (BitVec.ofNat 32 a).toInt = a := by rw [BitVec.toInt_eq_toNat_of_lt] <;> simp <;> omega
  have h2 : (BitVec.ofNat 32 b).toInt = b := by rw [BitVec.toInt_eq_toNat_of_lt] <;> simp <;> omega
  by_cases h : b ≤ a
  · simp [IntOp.cmpi, BitVec.sle, h1, h2, h]
  · simp [IntOp.cmpi, BitVec.sle, h1, h2, h]

theorem causal_apply (r c : Fin 256) : causal (ix2 r c) = if c.val / 32 = r.val / 32 ∧ c.val ≤ r.val then 1#1 else 0#1 := by
  unfold causal
  unfold_payloads
  pointwise
  change IntOp.andi (IntOp.cmpi .eq (chunkWord (BitVec.ofNat 32 r)) (chunkWord (BitVec.ofNat 32 c))) _ = _
  rw [chunkWord_eq, chunkWord_eq, eq_word _ _ (by omega) (by omega), ge_word _ _ (by omega) (by omega)]
  by_cases h1 : r.val / 32 = c.val / 32 <;> by_cases h2 : c.val ≤ r.val <;> simp [h1, h2, eq_comm, IntOp.andi]

theorem inChunk_apply (c : ℕ) (hc : c < 8) (r : Fin 256) (d : Fin 128) : inChunk (BitVec.ofNat 32 c) (ix2 r d) = if r.val / 32 = c then 1#1 else 0#1 := by
  unfold inChunk
  unfold_payloads
  pointwise
  change IntOp.cmpi .eq (chunkWord (BitVec.ofNat 32 r)) (BitVec.ofNat 32 c) = _
  rw [chunkWord_eq, eq_word _ _ (by omega) (by omega)]

/-- The factor of the two running sums: one where the column's row is counted, zero elsewhere. -/
theorem sums_apply (p : Fin 512) (c : Fin 256) : sums (F := Ideal) (ix2 p c) =
    if c.val / 32 = p.val % 256 / 32 ∧ (p.val < 256 → c.val ≤ p.val) then 1 else 0 := by
  have h1 : sums (F := Ideal) (ix2 p c) = if h : p.val < 256 then Scalar.select (causal (ix2 ⟨p.val, h⟩ c)) 1 0
     else Scalar.select (IntOp.cmpi .eq (chunkWord (BitVec.ofNat 32 (p.val - 256))) (chunkWord (BitVec.ofNat 32 c))) 1 0 := by
    unfold sums causal
    unfold_payloads
    pointwise
    rfl
  rw [h1]
  by_cases h : p.val < 256
  · rw [dif_pos h, causal_apply]
    have : p.val % 256 = p.val := Nat.mod_eq_of_lt h
    by_cases h2 : c.val / 32 = p.val / 32 ∧ c.val ≤ p.val
    · simp [h2, this, Scalar.select]
    · simp [h2, this, h, Scalar.select]
  · have e : p.val % 256 = p.val - 256 := by omega
    have e2 := chunkWord_eq ⟨p.val - 256, by omega⟩
    simp only at e2
    rw [dif_neg h, e2, chunkWord_eq, eq_word _ _ (by omega) (by omega), e]
    by_cases h2 : (p.val - 256) / 32 = c.val / 32
    · simp [h2, h, Scalar.select]
    · have h3 : ¬c.val / 32 = (p.val - 256) / 32 := fun hh => h2 hh.symm
      simp [h2, h3, h, Scalar.select]

end Cert.Hgrn

end
-- ==== Proof.Hgrn.Payload.lean ====
/- The pieces of one block of the fused HGRN kernel read at an index, over extended reals: contractions as sums, the eight
   parts laid side by side as a ladder of cases that is then read by part and lane. -/
module

public import proofs.«01_k».proof.Proof.Hgrn.Masks
public import proofs.«01_k».proof.Proof.Hgrn.Spec

@[expose] public section

noncomputable section

namespace Cert.Hgrn

open Idealize.ShloMosaic Cert.KernelIdeal Cert.KernelIdeal.Gen

/-- Eight parts of 128 lanes side by side, position by position. -/
def ladder (f : ℕ → Fin 128 → EReal) (k : Fin 1024) : EReal :=
  if h : k.val < 128 then f 0 ⟨k.val, h⟩
  else if h : k.val - 128 < 128 then f 1 ⟨k.val - 128, h⟩
  else if h : k.val - 128 - 128 < 128 then f 2 ⟨k.val - 128 - 128, h⟩
  else if h : k.val - 128 - 128 - 128 < 128 then f 3 ⟨k.val - 128 - 128 - 128, h⟩
  else if h : k.val - 128 - 128 - 128 - 128 < 128 then f 4 ⟨k.val - 128 - 128 - 128 - 128, h⟩
  else if h : k.val - 128 - 128 - 128 - 128 - 128 < 128 then f 5 ⟨k.val - 128 - 128 - 128 - 128 - 128, h⟩
  else if h : k.val - 128 - 128 - 128 - 128 - 128 - 128 < 128 then f 6 ⟨k.val - 128 - 128 - 128 - 128 - 128 - 128, h⟩
  else f 7 ⟨k.val - 128 - 128 - 128 - 128 - 128 - 128 - 128, by omega⟩

/-- Position `k` is lane `k % 128` of part `k / 128`. -/
theorem ladder_eq (f : ℕ → Fin 128 → EReal) (k : Fin 1024) : ladder f k = f (k.val / 128) ⟨k.val % 128, Nat.mod_lt _ (by decide)⟩ := by
  have hf : ∀ {a b : ℕ} {x y : Fin 128}, a = b → x = y → f a x = f b y := fun h1 h2 => by rw [h1, h2]
  have hk := k.isLt
  unfold ladder
  split_ifs <;> exact hf (by omega) (Fin.ext (by simp only; omega))

/-! ## What the chunks add to the state -/

theorem pay76_apply (M : ℕ → IVec S256x128 1) (kk : FVec Ideal S256x128 .f32) (vb : FVec Ideal S256x128 .bf16)
    (ls : FVec Ideal S512x256 .f32) (rn : FVec Ideal S256x128 .f32) (e : Fin 128) (k : Fin 1024) :
    k0_pay76 (M 0) (M 1) (M 2) (M 3) (M 4) (M 5) (M 6) (M 7) kk vb ls rn (ix2 e k) =
      ∑ x : Fin 256, vb (ix2 x e) * ladder (fun c d => Scalar.select (M c (ix2 x d)) (kk (ix2 x d) * Ideal.exp (k0_pay72 ls (ix2 x d) - rn (ix2 x d))) 0) k := by
  pointwise [k0_pay76, dot_S256x128_S256x1024_S128x1024_0_0_1_1_n_n]
  rfl

/-! ## The output rows -/

theorem pay98_apply (M : ℕ → IVec S256x128 1) (q A : FVec Ideal S256x128 .f32) (T : ℕ → FVec Ideal S128x128 .bf16)
    (on : Vec Ideal S1x128 .f32) (zg : Vec Ideal S256x128 .f32) (r : Fin 256) (e : Fin 128) (O : Fin 128 → EReal)
    (hO : ∀ x, O x = A (ix2 r x) + ∑ k : Fin 1024, ladder (fun c d => Scalar.select (M c (ix2 r d)) (q (ix2 r d)) 0) k
      * ladder (fun c d => T c (ix2 x d)) k) :
    k0_pay98 (M 2) (M 3) (M 4) (M 5) (M 6) (M 7) q A (T 0) (T 1) (T 2) (T 3) (T 4) (T 5) (T 6) (T 7)
        (k0_pay95 (M 0) q) (k0_pay96 (M 1) q) k0_pay97 on zg (ix3 0 r e) =
      scale 1124073472#32 (∑ x : Fin 128, O x * O x) (O e) * on (ix2 0 e) * (zg (ix2 r e) * Ideal.logistic (zg (ix2 r e))) := by
  simp only [hO]
  pointwise [k0_pay98, k0_pay95, k0_pay96, k0_pay97, dot_S256x1024_S128x1024_S256x128_1_1_0_0_n_n]
  rfl

theorem pay75_apply (q kk : FVec Ideal S256x128 .f32) (vb : FVec Ideal S256x128 .bf16) (rn : FVec Ideal S256x128 .f32) (r : Fin 256) (e : Fin 128) :
    k0_pay75 causal q kk vb rn (ix2 r e) = ∑ j : Fin 256, Scalar.select (causal (ix2 r j))
      (∑ d : Fin 128, q (ix2 r d) * Ideal.exp (rn (ix2 r d)) * (kk (ix2 j d) * Ideal.exp (-rn (ix2 j d)))) 0 * vb (ix2 j e) := by
  pointwise [k0_pay75, k0_pay73, dot_S256x128_S256x128_S256x256_1_1_0_0_n_n, dot_S256x256_S256x128_S256x128_1_0_0_1_n_n]
  have h0 : ∀ x : EReal, 0 - x = -x := fun x => by rw [sub_eq_add_neg, zero_add]
  simp only [h0]

/-! ## The running sums -/

theorem gate_apply (lb : Vec Ideal S1x128 .f32) (zf : Vec Ideal S256x128 .f32) (r : Fin 256) (d : Fin 128) :
    k0_pay67 lb zf (ix2 r d) = lb (ix2 0 d) + (1 - lb (ix2 0 d)) * Ideal.logistic (zf (ix2 r d)) := by
  pointwise [k0_pay67]

theorem logSums_high (lb : Vec Ideal S1x128 .f32) (zf : Vec Ideal S256x128 .f32) (p : Fin 512) (d : Fin 128) :
    logSums lb zf (ix2 p ⟨d.val, by omega⟩) = ∑ j : Fin 256, sums (F := Ideal) (ix2 p j) * Ideal.log (k0_pay67 lb zf (ix2 j d)) := by
  have hd := d.isLt
  pointwise [logSums, k0_pay70, dot_S512x256_S256x256_S512x256_1_0_0_1_n_n, hd]

theorem logSums_low (lb : Vec Ideal S1x128 .f32) (zf : Vec Ideal S256x128 .f32) (p : Fin 512) (d : Fin 128) :
    logSums lb zf (ix2 p ⟨128 + d.val, by omega⟩) = ∑ j : Fin 256, sums (F := Ideal) (ix2 p j) *
      (Ideal.log (k0_pay67 lb zf (ix2 j d)) - Ideal.log (k0_pay67 lb zf (ix2 j d))) := by
  have hd : ¬ 128 + d.val < 128 := by omega
  pointwise [logSums, k0_pay70, dot_S512x256_S256x256_S512x256_1_0_0_1_n_n, hd]

theorem run_apply (lb : Vec Ideal S1x128 .f32) (zf : Vec Ideal S256x128 .f32) (r : Fin 256) (d : Fin 128) :
    run lb zf (ix2 r d) = logSums lb zf (ix2 ⟨r.val, by omega⟩ ⟨d.val, by omega⟩) + logSums lb zf (ix2 ⟨r.val, by omega⟩ ⟨128 + d.val, by omega⟩) := by
  pointwise [run, k0_pay71]
  rfl

theorem tot_apply (ls : FVec Ideal S512x256 .f32) (r : Fin 256) (d : Fin 128) :
    k0_pay72 ls (ix2 r d) = ls (ix2 ⟨256 + r.val, by omega⟩ ⟨d.val, by omega⟩) + ls (ix2 ⟨256 + r.val, by omega⟩ ⟨128 + d.val, by omega⟩) := by
  pointwise [k0_pay72]

/-! ## The state, chunk by chunk -/

theorem steps (de : FVec Ideal S256x128 .f32) (inc : FVec Ideal S128x1024 .f32) (st de0 : FVec Ideal S128x128 .f32) (e d : Fin 128) :
    k0_pay80 inc st de0 (ix2 e d) = st (ix2 e d) * de0 (ix2 e d) + inc (ix2 e ⟨d.val, by omega⟩)
    ∧ k0_pay82 de inc st de0 (ix2 e d) = k0_pay80 inc st de0 (ix2 e d) * de (ix2 32 d) + inc (ix2 e ⟨128 + d.val, by omega⟩)
    ∧ k0_pay84 de inc st de0 (ix2 e d) = k0_pay82 de inc st de0 (ix2 e d) * de (ix2 64 d) + inc (ix2 e ⟨256 + d.val, by omega⟩)
    ∧ k0_pay86 de inc st de0 (ix2 e d) = k0_pay84 de inc st de0 (ix2 e d) * de (ix2 96 d) + inc (ix2 e ⟨384 + d.val, by omega⟩)
    ∧ k0_pay88 de inc st de0 (ix2 e d) = k0_pay86 de inc st de0 (ix2 e d) * de (ix2 128 d) + inc (ix2 e ⟨512 + d.val, by omega⟩)
    ∧ k0_pay90 de inc st de0 (ix2 e d) = k0_pay88 de inc st de0 (ix2 e d) * de (ix2 160 d) + inc (ix2 e ⟨640 + d.val, by omega⟩)
    ∧ k0_pay92 de inc st de0 (ix2 e d) = k0_pay90 de inc st de0 (ix2 e d) * de (ix2 192 d) + inc (ix2 e ⟨768 + d.val, by omega⟩)
    ∧ k0_pay94 de inc st de0 (ix3 0 e d) = k0_pay92 de inc st de0 (ix2 e d) * de (ix2 224 d) + inc (ix2 e ⟨896 + d.val, by omega⟩) := by
  refine ⟨?_, ?_, ?_, ?_, ?_, ?_, ?_, ?_⟩
  · pointwise [k0_pay80]
  · pointwise [k0_pay82]
  · pointwise [k0_pay84]
  · pointwise [k0_pay86]
  · pointwise [k0_pay88]
  · pointwise [k0_pay90]
  · pointwise [k0_pay92]
  · pointwise [k0_pay94]

theorem decay0_apply (lb : Vec Ideal S1x128 .f32) (zf : Vec Ideal S256x128 .f32) (e d : Fin 128) : decay0 lb zf (ix2 e d) = decay lb zf (ix2 0 d) := by
  pointwise [decay0, k0_pay79, decay]

theorem decay_apply (lb : Vec Ideal S1x128 .f32) (zf : Vec Ideal S256x128 .f32) (r : Fin 256) (d : Fin 128) :
    decay lb zf (ix2 r d) = Ideal.exp (k0_pay72 (logSums lb zf) (ix2 r d)) := by
  pointwise [decay, k0_pay74]

theorem state_apply (st : Vec Ideal S1x128x128 .f32) (e d : Fin 128) : k0_pay77 st (ix2 e d) = st (ix3 0 e d) := by
  pointwise [k0_pay77]

theorem key_apply (lb : Vec Ideal S1x128 .f32) (zf : Vec Ideal S256x128 .f32) (r : Fin 256) (d : Fin 128) :
    k0_pay68 lb zf (ix2 r d) = 1 - k0_pay67 lb zf (ix2 r d) := by
  pointwise [k0_pay68]

theorem query_apply (zq : Vec Ideal S256x128 .f32) (r : Fin 256) (d : Fin 128) : k0_pay66 zq (ix2 r d) = zq (ix2 r d) * Ideal.logistic (zq (ix2 r d)) := by
  pointwise [k0_pay66]

theorem value_apply (zv : Vec Ideal S256x128 .f32) (r : Fin 256) (d : Fin 128) : k0_pay69 zv (ix2 r d) = zv (ix2 r d) := by
  pointwise [k0_pay69]

theorem qdec_apply (lb : Vec Ideal S1x128 .f32) (zq zf : Vec Ideal S256x128 .f32) (r : Fin 256) (d : Fin 128) :
    qdec lb zq zf (ix2 r d) = k0_pay66 zq (ix2 r d) * Ideal.exp (run lb zf (ix2 r d)) := by
  pointwise [qdec, k0_pay73]

end Cert.Hgrn

end
-- ==== Proof.Hgrn.BlockValue.lean ====
/- One block of the fused HGRN kernel against the recurrence: rows `256 * m …` of head `h`, given what it loads. -/
module

public import proofs.«01_k».proof.Proof.Hgrn.Payload

@[expose] public section

noncomputable section

namespace Cert.Hgrn

open Idealize.ShloMosaic Cert.KernelIdeal Cert.KernelIdeal.Gen

theorem select_mul (b : BitVec 1) (x y : EReal) : Scalar.select b x 0 * y = Scalar.select b (x * y) 0 := by
  unfold Scalar.select
  split
  · rfl
  · exact zero_mul y

theorem mul_select (b : BitVec 1) (x y : EReal) : y * Scalar.select b x 0 = Scalar.select b (y * x) 0 := by
  unfold Scalar.select
  split
  · rfl
  · exact mul_zero y

theorem select_ite (p : Prop) [Decidable p] (x y : EReal) : Scalar.select (if p then 1#1 else 0#1) x y = if p then x else y := by
  by_cases h : p
  · rw [if_pos h, if_pos h]; rfl
  · rw [if_neg h, if_neg h]; rfl

/-- The eight chunk masks. -/
def masks (c : ℕ) : IVec S256x128 1 := inChunk (BitVec.ofNat 32 c)

section

variable {lb : ℕ → EReal} {z : ℕ → ℕ → EReal} {on : ℕ → EReal} {h m : ℕ}
variable {lb' : Vec Ideal S1x128 .f32} {zq zf zv zg : Vec Ideal S256x128 .f32} {on' : Vec Ideal S1x128 .f32} {st : Vec Ideal S1x128x128 .f32}

theorem row_split (m r : ℕ) : 256 * m + r = 32 * (8 * m + r / 32) + r % 32 := by omega

theorem gate_eq (hl : ∀ d : Fin 128, lb' (ix2 0 d) = lb (128 * h + d)) (hf : ∀ (r : Fin 256) (d : Fin 128), zf (ix2 r d) = z (256 * m + r) (128 * (6 + h) + d))
    (r : Fin 256) (d : Fin 128) : k0_pay67 lb' zf (ix2 r d) = gate lb z h (256 * m + r) d := by
  rw [gate_apply, hl, hf]
  rfl

section Sums

variable (hlb : ∀ c, lb c ≠ ⊤) (hl : ∀ d : Fin 128, lb' (ix2 0 d) = lb (128 * h + d))
  (hf : ∀ (r : Fin 256) (d : Fin 128), zf (ix2 r d) = z (256 * m + r) (128 * (6 + h) + d))
include hlb hl hf

/-- High and low halves of one running sum together. -/
theorem logSums_eq (p : Fin 512) (d : Fin 128) :
    logSums lb' zf (ix2 p ⟨d.val, by omega⟩) + logSums lb' zf (ix2 p ⟨128 + d.val, by omega⟩) =
      ∑ j : Fin 256, if j.val / 32 = p.val % 256 / 32 ∧ (p.val < 256 → j.val ≤ p.val) then lgate lb z h (256 * m + j) d else 0 := by
  rw [logSums_high, logSums_low]
  simp only [sums_apply, gate_eq hl hf, ite_mul, one_mul, zero_mul]
  exact sum_split (fun j : Fin 256 => j.val / 32 = p.val % 256 / 32 ∧ (p.val < 256 → j.val ≤ p.val)) (fun j => lgate lb z h (256 * m + j) d)
    fun j => lgate_ne_top hlb z h _ _

theorem run_eq (r : Fin 256) (d : Fin 128) : run lb' zf (ix2 r d) = csum lb z h (8 * m + r.val / 32) (r.val % 32) d := by
  rw [run_apply, logSums_eq hlb hl hf ⟨r.val, by omega⟩ d]
  have e1 : r.val % 256 = r.val := Nat.mod_eq_of_lt r.isLt
  have := sum_chunk (fun j => lgate lb z h (256 * m + j) d) (fun j => r.val < 256 → j ≤ r.val) (c := r.val / 32) (by omega)
  simp only [e1]
  refine this.trans (Finset.sum_congr rfl fun j _ => ?_)
  have e2 : 256 * m + (32 * (r.val / 32) + j.val) = 32 * (8 * m + r.val / 32) + j.val := by omega
  have e3 : (r.val < 256 → 32 * (r.val / 32) + j.val ≤ r.val) ↔ j.val ≤ r.val % 32 := by
    have := r.isLt
    omega
  simp only [e2, e3]

theorem tot_eq (r : Fin 256) (d : Fin 128) : k0_pay72 (logSums lb' zf) (ix2 r d) = ctot lb z h (8 * m + r.val / 32) d := by
  rw [tot_apply, logSums_eq hlb hl hf ⟨256 + r.val, by omega⟩ d]
  have e1 : (256 + r.val) % 256 = r.val := by omega
  have := sum_chunk (fun j => lgate lb z h (256 * m + j) d) (fun j => 256 + r.val < 256 → j ≤ 256 + r.val) (c := r.val / 32) (by omega)
  simp only [e1]
  refine this.trans (Finset.sum_congr rfl fun j _ => ?_)
  have e2 : 256 * m + (32 * (r.val / 32) + j.val) = 32 * (8 * m + r.val / 32) + j.val := by omega
  have e3 : 256 + r.val < 256 → 32 * (r.val / 32) + j.val ≤ 256 + r.val := fun hh => by omega
  rw [if_pos e3, e2]

theorem decay_eq (r : Fin 256) (d : Fin 128) : decay lb' zf (ix2 r d) = Ideal.exp (ctot lb z h (8 * m + r.val / 32) d) := by
  rw [decay_apply, tot_eq hlb hl hf]

variable (hv : ∀ (r : Fin 256) (d : Fin 128), zv (ix2 r d) = z (256 * m + r) (128 * (12 + h) + d))
include hv

theorem incs_eq (e : Fin 128) (k : Fin 1024) : incs lb' zf zv (ix2 e k) = incr lb z h (8 * m + k.val / 128) (k.val % 128) e := by
  have h1 := pay76_apply masks (k0_pay68 lb' zf) (k0_pay69 zv) (logSums lb' zf) (run lb' zf) e k
  refine Eq.trans h1 ?_
  have hk := k.isLt
  simp only [ladder_eq, masks, inChunk_apply _ (show k.val / 128 < 8 by omega), select_ite, key_apply, value_apply, gate_eq hl hf, hv,
    tot_eq hlb hl hf, run_eq hlb hl hf, mul_ite, mul_zero]
  have := sum_chunk (fun x => z (256 * m + x) (128 * (12 + h) + e) * ((1 - gate lb z h (256 * m + x) (k.val % 128)) *
    Ideal.exp (ctot lb z h (8 * m + x / 32) (k.val % 128) - csum lb z h (8 * m + x / 32) (x % 32) (k.val % 128)))) (fun _ => True) (c := k.val / 128) (by omega)
  simp only [and_true, if_true] at this
  refine this.trans (Finset.sum_congr rfl fun j _ => ?_)
  have e2 : 256 * m + (32 * (k.val / 128) + j.val) = 32 * (8 * m + k.val / 128) + j.val := by omega
  have e3 : (32 * (k.val / 128) + j.val) / 32 = k.val / 128 := by omega
  have e4 : (32 * (k.val / 128) + j.val) % 32 = j.val := by omega
  simp only [e2, e3, e4]
  rw [mul_comm]
  rfl

/-- One step of the state. -/
theorem state_step {c : ℕ} {x : EReal} (e d : Fin 128) (r : Fin 256) (k : Fin 1024) (hr : r.val = 32 * c) (hk : k.val = 128 * c + d.val)
    (hx : x = St lb z h (8 * m + c) d e) :
    x * decay lb' zf (ix2 r d) + incs lb' zf zv (ix2 e k) = St lb z h (8 * m + (c + 1)) d e := by
  have e1 : r.val / 32 = c := by omega
  have e2 : k.val / 128 = c := by omega
  have e3 : k.val % 128 = d.val := by omega
  rw [decay_eq hlb hl hf, incs_eq hlb hl hf hv, hx, mul_comm, e1, e2, e3]
  rfl

variable (hst : ∀ e d : Fin 128, st (ix3 0 e d) = St lb z h (8 * m) d e)
include hst

theorem states_eq (e d : Fin 128) :
    k0_pay77 st (ix2 e d) = St lb z h (8 * m + 0) d e
    ∧ k0_pay80 (incs lb' zf zv) (k0_pay77 st) (decay0 lb' zf) (ix2 e d) = St lb z h (8 * m + 1) d e
    ∧ k0_pay82 (decay lb' zf) (incs lb' zf zv) (k0_pay77 st) (decay0 lb' zf) (ix2 e d) = St lb z h (8 * m + 2) d e
    ∧ k0_pay84 (decay lb' zf) (incs lb' zf zv) (k0_pay77 st) (decay0 lb' zf) (ix2 e d) = St lb z h (8 * m + 3) d e
    ∧ k0_pay86 (decay lb' zf) (incs lb' zf zv) (k0_pay77 st) (decay0 lb' zf) (ix2 e d) = St lb z h (8 * m + 4) d e
    ∧ k0_pay88 (decay lb' zf) (incs lb' zf zv) (k0_pay77 st) (decay0 lb' zf) (ix2 e d) = St lb z h (8 * m + 5) d e
    ∧ k0_pay90 (decay lb' zf) (incs lb' zf zv) (k0_pay77 st) (decay0 lb' zf) (ix2 e d) = St lb z h (8 * m + 6) d e
    ∧ k0_pay92 (decay lb' zf) (incs lb' zf zv) (k0_pay77 st) (decay0 lb' zf) (ix2 e d) = St lb z h (8 * m + 7) d e
    ∧ k0_pay94 (decay lb' zf) (incs lb' zf zv) (k0_pay77 st) (decay0 lb' zf) (ix3 0 e d) = St lb z h (8 * m + 8) d e := by
  obtain ⟨s1, s2, s3, s4, s5, s6, s7, s8⟩ := steps (decay lb' zf) (incs lb' zf zv) (k0_pay77 st) (decay0 lb' zf) e d
  have h0 : k0_pay77 st (ix2 e d) = St lb z h (8 * m + 0) d e := by rw [state_apply, hst]; rfl
  rw [decay0_apply] at s1
  have h1 := s1.trans (state_step hlb hl hf hv (c := 0) e d _ _ rfl (by simp) h0)
  have h2 := s2.trans (state_step hlb hl hf hv (c := 1) e d _ _ rfl (by simp) h1)
  have h3 := s3.trans (state_step hlb hl hf hv (c := 2) e d _ _ rfl (by simp) h2)
  have h4 := s4.trans (state_step hlb hl hf hv (c := 3) e d _ _ rfl (by simp) h3)
  have h5 := s5.trans (state_step hlb hl hf hv (c := 4) e d _ _ rfl (by simp) h4)
  have h6 := s6.trans (state_step hlb hl hf hv (c := 5) e d _ _ rfl (by simp) h5)
  have h7 := s7.trans (state_step hlb hl hf hv (c := 6) e d _ _ rfl (by simp) h6)
  exact ⟨h0, h1, h2, h3, h4, h5, h6, h7, s8.trans (state_step hlb hl hf hv (c := 7) e d _ _ rfl (by simp) h7)⟩

theorem nextState_eq (e d : Fin 128) : nextState lb' zf zv st (ix3 0 e d) = St lb z h (8 * (m + 1)) d e :=
  (states_eq hlb hl hf hv hst e d).2.2.2.2.2.2.2.2

variable (hq : ∀ (r : Fin 256) (d : Fin 128), zq (ix2 r d) = z (256 * m + r) (128 * h + d))
include hq

omit hv hst in
theorem qdec_eq (r : Fin 256) (d : Fin 128) : qdec lb' zq zf (ix2 r d) = qd lb z h (8 * m + r.val / 32) (r.val % 32) d := by
  rw [qdec_apply, query_apply, hq, run_eq hlb hl hf, row_split m r.val]
  rfl

omit hst in
theorem intra_eq (r : Fin 256) (e : Fin 128) :
    k0_pay75 causal (k0_pay66 zq) (k0_pay68 lb' zf) (k0_pay69 zv) (run lb' zf) (ix2 r e) = intra lb z h (8 * m + r.val / 32) (r.val % 32) e := by
  rw [pay75_apply]
  simp only [causal_apply, select_ite, query_apply, key_apply, value_apply, gate_eq hl hf, hv, hq, run_eq hlb hl hf, ite_mul, zero_mul]
  have := sum_chunk (fun j => (∑ d : Fin 128, z (256 * m + r.val) (128 * h + d) * Ideal.logistic (z (256 * m + r.val) (128 * h + d)) *
      Ideal.exp (csum lb z h (8 * m + r.val / 32) (r.val % 32) d) * ((1 - gate lb z h (256 * m + j) d) *
        Ideal.exp (-csum lb z h (8 * m + j / 32) (j % 32) d))) * z (256 * m + j) (128 * (12 + h) + e)) (fun j => j ≤ r.val) (c := r.val / 32) (by omega)
  refine this.trans ?_
  unfold intra
  refine Finset.sum_congr rfl fun j _ => ?_
  have e2 : 256 * m + (32 * (r.val / 32) + j.val) = 32 * (8 * m + r.val / 32) + j.val := by omega
  have e3 : (32 * (r.val / 32) + j.val) / 32 = r.val / 32 := by omega
  have e4 : (32 * (r.val / 32) + j.val) % 32 = j.val := by omega
  have e5 : 32 * (r.val / 32) + j.val ≤ r.val ↔ j.val ≤ r.val % 32 := by omega
  simp only [e2, e3, e4, e5, row_split m r.val, ite_mul, zero_mul]
  rfl

variable (hg : ∀ (r : Fin 256) (d : Fin 128), zg (ix2 r d) = z (256 * m + r) (128 * (18 + h) + d)) (hon : ∀ d : Fin 128, on' (ix2 0 d) = on d)
include hg hon

theorem blockOut_eq (r : Fin 256) (e : Fin 128) : blockOut lb' zq zf zv zg on' st (ix3 0 r e) = yy lb z on h (256 * m + r) e := by
  let T : ℕ → FVec Ideal S128x128 .bf16 := fun c i => St lb z h (8 * m + c) (i 1).val (i 0).val
  have hT : ∀ {f : FVec Ideal S128x128 .bf16} {c : ℕ}, (∀ e d : Fin 128, f (ix2 e d) = St lb z h (8 * m + c) d e) → f = T c := by
    intro f c hh
    funext i
    rw [eq_ix2 i]
    exact hh _ _
  have hs := states_eq hlb hl hf hv hst
  have key := pay98_apply masks (qdec lb' zq zf) (k0_pay75 causal (k0_pay66 zq) (k0_pay68 lb' zf) (k0_pay69 zv) (run lb' zf)) T on' zg r e
    (fun x => oo lb z h ((256 * m + r.val) / 32) ((256 * m + r.val) % 32) x) (by
      intro x
      have hr := r.isLt
      have e1 : (256 * m + r.val) / 32 = 8 * m + r.val / 32 := by omega
      have e2 : (256 * m + r.val) % 32 = r.val % 32 := by omega
      rw [intra_eq hlb hl hf hv hq, e1, e2]
      refine (add_comm _ _).trans (congrArg (intra lb z h (8 * m + r.val / 32) (r.val % 32) x + ·) ?_)
      have : ∀ k : Fin 1024, ladder (fun c d => Scalar.select (masks c (ix2 r d)) (qdec lb' zq zf (ix2 r d)) 0) k * ladder (fun c d => T c (ix2 x d)) k
          = if k.val / 128 = r.val / 32 then (fun c d => qd lb z h (8 * m + r.val / 32) (r.val % 32) d * St lb z h (8 * m + c) d x) (r.val / 32) (k.val % 128) else 0 := by
        intro k
        have hk := k.isLt
        rw [ladder_eq, ladder_eq]
        simp only [masks, inChunk_apply _ (show k.val / 128 < 8 by omega), select_ite, qdec_eq hlb hl hf hq, ite_mul, zero_mul]
        by_cases hkr : r.val / 32 = k.val / 128
        · rw [if_pos hkr, if_pos hkr.symm, hkr]
          rfl
        · rw [if_neg hkr, if_neg fun hh => hkr hh.symm]
      rw [Finset.sum_congr rfl fun k _ => this k, sum_group (fun c d => qd lb z h (8 * m + r.val / 32) (r.val % 32) d * St lb z h (8 * m + c) d x) (by omega)])
  have c0 : k0_pay78 st = T 0 := hT fun e d => (hs e d).1
  have c1 : k0_pay81 (incs lb' zf zv) (k0_pay77 st) (decay0 lb' zf) = T 1 := hT fun e d => (hs e d).2.1
  have c2 : k0_pay83 (decay lb' zf) (incs lb' zf zv) (k0_pay77 st) (decay0 lb' zf) = T 2 := hT fun e d => (hs e d).2.2.1
  have c3 : k0_pay85 (decay lb' zf) (incs lb' zf zv) (k0_pay77 st) (decay0 lb' zf) = T 3 := hT fun e d => (hs e d).2.2.2.1
  have c4 : k0_pay87 (decay lb' zf) (incs lb' zf zv) (k0_pay77 st) (decay0 lb' zf) = T 4 := hT fun e d => (hs e d).2.2.2.2.1
  have c5 : k0_pay89 (decay lb' zf) (incs lb' zf zv) (k0_pay77 st) (decay0 lb' zf) = T 5 := hT fun e d => (hs e d).2.2.2.2.2.1
  have c6 : k0_pay91 (decay lb' zf) (incs lb' zf zv) (k0_pay77 st) (decay0 lb' zf) = T 6 := hT fun e d => (hs e d).2.2.2.2.2.2.1
  have c7 : k0_pay93 (decay lb' zf) (incs lb' zf zv) (k0_pay77 st) (decay0 lb' zf) = T 7 := hT fun e d => (hs e d).2.2.2.2.2.2.2.1
  unfold blockOut
  rw [c0, c1, c2, c3, c4, c5, c6, c7]
  refine Eq.trans key ?_
  rw [hg, hon]
  rfl

end Sums

end

end Cert.Hgrn

end
-- ==== Proof.Hgrn.Canon.lean ====
/- Lists of stores through unit-stride rectangles, read back one store at a time at an index given by its coordinates. -/
module

public import Idealize.ShloMosaic.Lib.Pipeline.ValueKit.Tiles

@[expose] public section

noncomputable section

namespace Cert.Hgrn

open Idealize.ShloMosaic

variable {Val : EltTy → Type} {e : EltTy} [∀ e, Nonempty (Val e)]

/-- The last store decides where it reaches, the earlier ones elsewhere. -/
theorem canon_cons_unit {s : Shape} {off size : Fin s.rank → ℕ} {inb : ∀ a, off a + size a ≤ s.size a} {w : (⟨s.rank, size⟩ : Shape).Idx → Val e}
    {L : List (View.Piece Val s e)} {y : s.Idx} {v : Val e}
    (hit : ∀ x : (⟨s.rank, size⟩ : Shape).Idx, (∀ a, (y a).val = off a + (x a).val) → w x = v)
    (miss : (¬∀ a, off a ≤ (y a).val ∧ (y a).val < off a + size a) → View.canon L y = v) :
    View.canon ((⟨Rect.unit off size inb, w⟩ : View.Piece Val s e) :: L) y = v := by
  by_cases hy : y ∈ (Rect.unit off size inb).set
  · obtain ⟨x, rfl⟩ := (Rect.unit off size inb).exists_idx_of_mem hy
    refine (View.canon_cons_emb (Rect.unit off size inb) w L x).trans (hit x fun a => ?_)
    exact Rect.idx_unit_val off size inb x a
  · rw [View.canon_cons_of_not_mem _ _ hy]
    exact miss fun h => hy (Rect.mem_set_unit.mpr h)

theorem canon_cons2 {d off size : Fin 2 → ℕ} {inb : ∀ a, off a + size a ≤ (⟨2, d⟩ : Shape).size a} {w : (⟨2, size⟩ : Shape).Idx → Val e}
    {L : List (View.Piece Val ⟨2, d⟩ e)} {y : (⟨2, d⟩ : Shape).Idx} {v : Val e} {o0 o1 n0 n1 : ℕ} (ho : off = ![o0, o1]) (hn : size = ![n0, n1])
    (hit : ∀ x : (⟨2, size⟩ : Shape).Idx, (y 0).val = o0 + (x 0).val → (y 1).val = o1 + (x 1).val → w x = v)
    (miss : ¬(o0 ≤ (y 0).val ∧ (y 0).val < o0 + n0 ∧ o1 ≤ (y 1).val ∧ (y 1).val < o1 + n1) → View.canon L y = v) :
    View.canon ((⟨Rect.unit off size inb, w⟩ : View.Piece Val ⟨2, d⟩ e) :: L) y = v := by
  subst ho hn
  refine canon_cons_unit (fun x hx => hit x (hx 0) (hx 1)) fun h => miss fun hh => h ?_
  exact Fin.forall_fin_two.mpr ⟨⟨hh.1, hh.2.1⟩, hh.2.2⟩

theorem canon_cons3 {d off size : Fin 3 → ℕ} {inb : ∀ a, off a + size a ≤ (⟨3, d⟩ : Shape).size a} {w : (⟨3, size⟩ : Shape).Idx → Val e}
    {L : List (View.Piece Val ⟨3, d⟩ e)} {y : (⟨3, d⟩ : Shape).Idx} {v : Val e} {o0 o1 o2 n0 n1 n2 : ℕ} (ho : off = ![o0, o1, o2]) (hn : size = ![n0, n1, n2])
    (hit : ∀ x : (⟨3, size⟩ : Shape).Idx, (y 0).val = o0 + (x 0).val → (y 1).val = o1 + (x 1).val → (y 2).val = o2 + (x 2).val → w x = v)
    (miss : ¬(o0 ≤ (y 0).val ∧ (y 0).val < o0 + n0 ∧ o1 ≤ (y 1).val ∧ (y 1).val < o1 + n1 ∧ o2 ≤ (y 2).val ∧ (y 2).val < o2 + n2) → View.canon L y = v) :
    View.canon ((⟨Rect.unit off size inb, w⟩ : View.Piece Val ⟨3, d⟩ e) :: L) y = v := by
  subst ho hn
  refine canon_cons_unit (fun x hx => hit x (hx 0) (hx 1) (hx 2)) fun h => miss fun hh => h ?_
  exact Fin.forall_fin_succ.mpr ⟨⟨hh.1, hh.2.1⟩, Fin.forall_fin_two.mpr ⟨⟨hh.2.2.1, hh.2.2.2.1⟩, hh.2.2.2.2⟩⟩

theorem canon_cons4 {d off size : Fin 4 → ℕ} {inb : ∀ a, off a + size a ≤ (⟨4, d⟩ : Shape).size a} {w : (⟨4, size⟩ : Shape).Idx → Val e}
    {L : List (View.Piece Val ⟨4, d⟩ e)} {y : (⟨4, d⟩ : Shape).Idx} {v : Val e} {o0 o1 o2 o3 n0 n1 n2 n3 : ℕ} (ho : off = ![o0, o1, o2, o3])
    (hn : size = ![n0, n1, n2, n3])
    (hit : ∀ x : (⟨4, size⟩ : Shape).Idx, (y 0).val = o0 + (x 0).val → (y 1).val = o1 + (x 1).val → (y 2).val = o2 + (x 2).val →
      (y 3).val = o3 + (x 3).val → w x = v)
    (miss : ¬(o0 ≤ (y 0).val ∧ (y 0).val < o0 + n0 ∧ o1 ≤ (y 1).val ∧ (y 1).val < o1 + n1 ∧ o2 ≤ (y 2).val ∧ (y 2).val < o2 + n2 ∧
      o3 ≤ (y 3).val ∧ (y 3).val < o3 + n3) → View.canon L y = v) :
    View.canon ((⟨Rect.unit off size inb, w⟩ : View.Piece Val ⟨4, d⟩ e) :: L) y = v := by
  subst ho hn
  refine canon_cons_unit (fun x hx => hit x (hx 0) (hx 1) (hx 2) (hx 3)) fun h => miss fun hh => h ?_
  exact Fin.forall_fin_succ.mpr ⟨⟨hh.1, hh.2.1⟩, Fin.forall_fin_succ.mpr ⟨⟨hh.2.2.1, hh.2.2.2.1⟩,
    Fin.forall_fin_two.mpr ⟨⟨hh.2.2.2.2.1, hh.2.2.2.2.2.1⟩, hh.2.2.2.2.2.2⟩⟩⟩

/-! ## Indices equal by coordinates -/

theorem ext2 {d : Fin 2 → ℕ} {x y : (⟨2, d⟩ : Shape).Idx} (h0 : (x 0).val = (y 0).val) (h1 : (x 1).val = (y 1).val) : x = y :=
  funext (Fin.forall_fin_two.mpr ⟨Fin.ext h0, Fin.ext h1⟩)

theorem ext3 {d : Fin 3 → ℕ} {x y : (⟨3, d⟩ : Shape).Idx} (h0 : (x 0).val = (y 0).val) (h1 : (x 1).val = (y 1).val) (h2 : (x 2).val = (y 2).val) : x = y :=
  funext (Fin.forall_fin_succ.mpr ⟨Fin.ext h0, Fin.forall_fin_two.mpr ⟨Fin.ext h1, Fin.ext h2⟩⟩)

theorem ext4 {d : Fin 4 → ℕ} {x y : (⟨4, d⟩ : Shape).Idx} (h0 : (x 0).val = (y 0).val) (h1 : (x 1).val = (y 1).val) (h2 : (x 2).val = (y 2).val)
    (h3 : (x 3).val = (y 3).val) : x = y :=
  funext (Fin.forall_fin_succ.mpr ⟨Fin.ext h0, Fin.forall_fin_succ.mpr ⟨Fin.ext h1, Fin.forall_fin_two.mpr ⟨Fin.ext h2, Fin.ext h3⟩⟩⟩)

end Cert.Hgrn

end
-- ==== Proof.Hgrn.PointValue.lean ====
/- The stores of one grid point of the fused HGRN kernel read back over extended reals, against the recurrence. -/
module

public import proofs.«01_k».proof.Proof.Hgrn.BlockValue
public import proofs.«01_k».proof.Proof.Hgrn.Canon

@[expose] public section

noncomputable section

namespace Cert.Hgrn

open Idealize.ShloMosaic Cert.KernelIdeal Cert.KernelIdeal.Gen

theorem pay37_apply (x : Vec Ideal S1x256x1024 .f32) (n : Vec Ideal S1x1024 .f32) (w : Vec Ideal S1024x256 .bf16) (r c : Fin 256) :
    k0_pay37 x n w (ix2 r c) = ∑ k : Fin 1024, scale 1149239296#32 (∑ j : Fin 1024, x (ix3 0 r j) * x (ix3 0 r j)) (x (ix3 0 r k)) * n (ix2 0 k) * w (ix2 k c) := by
  unfold_payloads
  pointwise [dot_S256x1024_S1024x256_S256x256_1_0_0_1_n_n]
  rfl

section

variable (V : View sig .tc .vmem S1024x3328 .f32) (VS : View sig .tc .vmem S6x128x128 .f32)
  (X : Vec Ideal S1x1024x1024 .f32) (N : Vec Ideal S1x1024 .f32) (W : Vec Ideal S1024x3328 .bf16) (B : Vec Ideal S1x768 .f32) (G : Vec Ideal S1x128 .f32)
variable (z : ℕ → ℕ → EReal) (p : ℕ)

/-- The rows of the point's block, normalised and projected, are rows `1024 * p …` of `z`. -/
def Projects : Prop := ∀ (r : Fin 1024) (j : Fin 3328),
  (∑ k : Fin 1024, scale 1149239296#32 (∑ j : Fin 1024, X (ix3 0 r j) * X (ix3 0 r j)) (X (ix3 0 r k)) * N (ix2 0 k) * W (ix2 k j)) = z (1024 * p + r) j

variable {X N W z p} (hz : Projects X N W z p)
include hz

theorem canon_proj : ∀ (n : ℕ) (hn : n ≤ 52) (r : Fin 1024) (j : Fin 3328), 13 * (r.val / 256) + j.val / 256 < n →
    View.canon (projStores X N W n hn) (ix2 r j) = z (1024 * p + r) j := by
  intro n
  induction n with
  | zero => intro _ _ _ h; exact absurd h (Nat.not_lt_zero _)
  | succ n ih =>
    intro hn r j hlt
    have hr := r.isLt
    have hj := j.isLt
    refine canon_cons2 (o0 := 256 * (n / 13)) (o1 := 256 * (n % 13)) (n0 := 256) (n1 := 256) rfl rfl ?_ ?_
    · intro (x : S256x256.Idx) h0 h1
      rw [← hz r j, eq_ix2 x]
      refine (pay37_apply _ _ _ _ _).trans ?_
      have hx : ∀ k : Fin 1024, View.ld X (rectX (n / 13) (by omega)) (ix3 0 (x 0) k) = X (ix3 0 r k) := fun k => View.ld_unit_apply_of _ _ _ _ _ _
        (Fin.forall_fin_succ.mpr ⟨rfl, Fin.forall_fin_two.mpr ⟨h0, (Nat.zero_add _).symm⟩⟩)
      have hw : ∀ k : Fin 1024, View.ld W (rectW (n % 13) (Nat.mod_lt _ (by decide))) (ix2 k (x 1)) = W (ix2 k j) := fun k => View.ld_unit_apply_of _ _ _ _ _ _
        (Fin.forall_fin_two.mpr ⟨(Nat.zero_add _).symm, h1⟩)
      have hN : View.ld N (Rect.unit ![0, 0] S1x1024.size inb_S1x1024_S1x1024_0_0) = N := View.ld_unit_lit _ _ (Fin.forall_fin_two.mpr ⟨rfl, rfl⟩)
      rw [hN]
      simp only [hx, hw]
    · intro h
      refine ih (by omega) r j ?_
      have h' : ¬(256 * (n / 13) ≤ r.val ∧ r.val < 256 * (n / 13) + 256 ∧ 256 * (n % 13) ≤ j.val ∧ j.val < 256 * (n % 13) + 256) := h
      omega

theorem loadZ_eq (s j : ℕ) (hs : s < 4) (hj : j < 26) (r : Fin 256) (d : Fin 128) :
    loadZ V X N W s j hs hj (ix2 r d) = z (256 * (4 * p + s) + r) (128 * j + d) := by
  have hr := r.isLt
  have hd := d.isLt
  unfold loadZ
  rw [View.readCov_eq_canon']
  have e : (rectH s j hs hj).idx (ix2 r d) = ix2 ⟨256 * s + r.val, by omega⟩ ⟨128 * j + d.val, by omega⟩ := by
    exact ext2 (Rect.idx_unit_val _ _ _ _ 0) (Rect.idx_unit_val _ _ _ _ 1)
  refine (congrArg (View.canon _) e).trans ((canon_proj hz _ _ _ _ ?_).trans ?_)
  · unfold projUpTo
    simp only
    omega
  · congr 1
    simp only
    omega

theorem canon_pass : ∀ (s : ℕ) (hs : s ≤ 4) (r : Fin 1024) (c : Fin 256), r.val / 256 < s →
    View.canon (passStores V X N W s hs) (ix3 0 r c) = z (1024 * p + r) (3072 + c) := by
  intro s
  induction s with
  | zero => intro _ _ _ h; exact absurd h (Nat.not_lt_zero _)
  | succ s ih =>
    intro hs r c hlt
    have hr := r.isLt
    have hc := c.isLt
    refine canon_cons3 (o0 := 0) (o1 := 256 * s) (o2 := 0) (n0 := 1) (n1 := 256) (n2 := 256) rfl rfl ?_ ?_
    · intro (x : S1x256x256.Idx) h0 h1 h2
      have h1' : r.val = 256 * s + (x 1).val := h1
      have h2' : c.val = 0 + (x 2).val := h2
      have hx0 : x 0 = (0 : Fin 1) := Fin.ext (Nat.lt_one_iff.mp (x 0).isLt)
      rw [eq_ix3 x, hx0]
      have hp : ∀ (f : Vec Ideal S256x256 .f32) (a b : Fin 256), k0_pay50 f (ix3 0 a b) = f (ix2 a b) := by
        intro f a b
        pointwise [k0_pay50]
      refine (hp _ _ _).trans ?_
      rw [View.readCov_eq_canon']
      have e : (rectZ s 12 (by omega) (by decide)).idx (ix2 (x 1) (x 2)) = ix2 r ⟨3072 + c.val, by omega⟩ := by
        refine ext2 ((Rect.idx_unit_val _ _ _ _ 0).trans h1'.symm) ((Rect.idx_unit_val _ _ _ _ 1).trans ?_)
        show 256 * 12 + (x 2).val = 3072 + c.val
        omega
      refine (congrArg (View.canon _) e).trans ((canon_proj hz _ _ _ _ ?_).trans rfl)
      simp only
      omega
    · intro h
      refine ih (by omega) r c ?_
      have h' : ¬(0 ≤ 0 ∧ 0 < 0 + 1 ∧ 256 * s ≤ r.val ∧ r.val < 256 * s + 256 ∧ 0 ≤ c.val ∧ c.val < 0 + 256) := h
      omega

variable (base : List (View.Piece (Elt Ideal) S6x128x128 .f32))
  (first : (k : ℕ) → k < 6 → List (View.Piece (Elt Ideal) S6x128x128 .f32) → Vec Ideal S1x128x128 .f32)
variable {lb : ℕ → EReal} (hlb : ∀ c, lb c ≠ ⊤) (hB : ∀ c : Fin 768, B (ix2 0 c) = lb c)
  (hfirst : ∀ (k : ℕ) (hk : k < 6) (e d : Fin 128), first k hk (stateStores V VS X N W B base first k (Nat.le_of_lt (Nat.lt_of_lt_of_le hk (Nat.le_of_ble_eq_true rfl)))) (ix3 0 e d) = St lb z k (8 * (4 * p)) d e)
include hlb hB hfirst

omit hz hlb hfirst in
theorem loadB_eq (h : ℕ) (hh : h < 6) (d : Fin 128) : View.ld B (rectL h hh) (ix2 0 d) = lb (128 * h + d) := by
  have hd := d.isLt
  refine (View.ld_unit_apply_of B _ _ _ _ (ix2 0 (⟨128 * h + d.val, by omega⟩ : Fin 768)) ?_).trans (hB _)
  exact Fin.forall_fin_two.mpr ⟨rfl, rfl⟩

/-- What block `k` loads, and what the stores before it hold: every head has taken its runs of 256 rows so far. -/
theorem state_run : ∀ (k : ℕ) (hk : k ≤ 24),
    (∀ (h : ℕ) (hh : h < 6) (e d : Fin 128), h < k →
      View.canon (stateStores V VS X N W B base first k hk) (ix3 ⟨h, hh⟩ e d) = St lb z h (8 * (4 * p + (k + 5 - h) / 6)) d e)
    ∧ ∀ e d : Fin 128, loadS VS first k (stateStores V VS X N W B base first k hk) (ix3 0 e d) = St lb z (k % 6) (8 * (4 * p + k / 6)) d e := by
  intro k
  induction k with
  | zero =>
    intro hk
    refine ⟨fun h hh e d h0 => absurd h0 (Nat.not_lt_zero _), fun e d => ?_⟩
    exact hfirst 0 (by decide) e d
  | succ k ih =>
    intro hk
    obtain ⟨ih1, ih2⟩ := ih (by omega)
    have hcanon : ∀ (h : ℕ) (hh : h < 6) (e d : Fin 128), h < k + 1 →
        View.canon (stateStores V VS X N W B base first (k + 1) hk) (ix3 ⟨h, hh⟩ e d) = St lb z h (8 * (4 * p + (k + 1 + 5 - h) / 6)) d e := by
      intro h hh e d hlt
      refine canon_cons3 (o0 := k % 6) (o1 := 0) (o2 := 0) (n0 := 1) (n1 := 128) (n2 := 128) rfl rfl ?_ ?_
      · intro (x : S1x128x128.Idx) h0 h1 h2
        have hx0 : x 0 = (0 : Fin 1) := Fin.ext (Nat.lt_one_iff.mp (x 0).isLt)
        have h0' : h = k % 6 := by
          have : h = k % 6 + (x 0).val := h0
          rw [hx0] at this
          exact this
        have e1 : x 1 = e := Fin.ext (by have : e.val = 0 + (x 1).val := h1; omega)
        have e2 : x 2 = d := Fin.ext (by have : d.val = 0 + (x 2).val := h2; omega)
        rw [eq_ix3 x, hx0, e1, e2]
        refine (nextState_eq (h := k % 6) (m := 4 * p + k / 6) hlb (loadB_eq B hB _ _) (fun r d => loadZ_eq V hz _ _ _ _ r d)
          (fun r d => loadZ_eq V hz _ _ _ _ r d) ih2 e d).trans ?_
        have : 4 * p + k / 6 + 1 = 4 * p + (k + 1 + 5 - h) / 6 := by omega
        rw [this, h0']
      · intro hm
        have hm' : ¬(k % 6 ≤ h ∧ h < k % 6 + 1 ∧ 0 ≤ e.val ∧ e.val < 0 + 128 ∧ 0 ≤ d.val ∧ d.val < 0 + 128) := hm
        have he := e.isLt
        have hd := d.isLt
        refine (ih1 h hh e d (by omega)).trans ?_
        have : (k + 5 - h) / 6 = (k + 1 + 5 - h) / 6 := by omega
        rw [this]
    refine ⟨hcanon, fun e d => ?_⟩
    by_cases h6 : k + 1 < 6
    · have e0 : loadS VS first (k + 1) (stateStores V VS X N W B base first (k + 1) hk) = first (k + 1) h6 (stateStores V VS X N W B base first (k + 1) hk) := dif_pos h6
      rw [e0, hfirst (k + 1) h6 e d]
      have e1 : (k + 1) % 6 = k + 1 := Nat.mod_eq_of_lt h6
      have e2 : (k + 1) / 6 = 0 := Nat.div_eq_of_lt h6
      rw [e1, e2]
      rfl
    · have e1 : loadS VS first (k + 1) (stateStores V VS X N W B base first (k + 1) hk) =
          VS.readCov (stateStores V VS X N W B base first (k + 1) hk) (rectS ((k + 1) % 6) (Nat.mod_lt _ (by decide))).toLoadRect := dif_neg h6
      rw [e1, View.readCov_eq_canon']
      have e0 : (rectS ((k + 1) % 6) (Nat.mod_lt _ (by decide))).idx (ix3 0 e d) = ix3 ⟨(k + 1) % 6, Nat.mod_lt _ (by decide)⟩ e d := by
        exact ext3 (Rect.idx_unit_val _ _ _ _ 0) ((Rect.idx_unit_val _ _ _ _ 1).trans (Nat.zero_add _)) ((Rect.idx_unit_val _ _ _ _ 2).trans (Nat.zero_add _))
      refine (congrArg (View.canon _) e0).trans ((hcanon _ _ e d (by omega)).trans ?_)
      have : (k + 1 + 5 - (k + 1) % 6) / 6 = (k + 1) / 6 := by omega
      rw [this]

/-- The state the point leaves. -/
theorem state_end (h : Fin 6) (e d : Fin 128) :
    View.canon (stateStores V VS X N W B base first 24 le_rfl) (ix3 h e d) = St lb z h (8 * (4 * (p + 1))) d e := by
  have hh := h.isLt
  refine ((state_run V VS B hz base first hlb hB hfirst 24 le_rfl).1 h.val hh e d (by omega)).trans ?_
  have : 4 * p + (24 + 5 - h.val) / 6 = 4 * (p + 1) := by omega
  rw [this]

variable {on : ℕ → EReal} (hG : ∀ d : Fin 128, G (ix2 0 d) = on d)
include hG

/-- The rows of the output. -/
theorem canon_out : ∀ (k : ℕ) (hk : k ≤ 24) (r : Fin 1024) (c : Fin 768), 6 * (r.val / 256) + c.val / 128 < k →
    View.canon (outStores V VS X N W B G base first k hk) (ix3 0 r c) = yy lb z on (c.val / 128) (1024 * p + r) (c.val % 128) := by
  intro k
  induction k with
  | zero => intro _ _ _ h; exact absurd h (Nat.not_lt_zero _)
  | succ k ih =>
    intro hk r c hlt
    have hr := r.isLt
    have hc := c.isLt
    refine canon_cons3 (o0 := 0) (o1 := 256 * (k / 6)) (o2 := 128 * (k % 6)) (n0 := 1) (n1 := 256) (n2 := 128) rfl rfl ?_ ?_
    · intro (x : S1x256x128.Idx) h0 h1 h2
      have h1' : r.val = 256 * (k / 6) + (x 1).val := h1
      have h2' : c.val = 128 * (k % 6) + (x 2).val := h2
      have hx1 : (x 1).val < 256 := (x 1).isLt
      have hx2 : (x 2).val < 128 := (x 2).isLt
      have hx0 : x 0 = (0 : Fin 1) := Fin.ext (Nat.lt_one_iff.mp (x 0).isLt)
      rw [eq_ix3 x, hx0]
      have hN : View.ld G (Rect.unit ![0, 0] S1x128.size inb_S1x128_S1x128_0_0) = G := View.ld_unit_lit _ _ (Fin.forall_fin_two.mpr ⟨rfl, rfl⟩)
      refine (blockOut_eq (h := k % 6) (m := 4 * p + k / 6) (on := on) hlb (loadB_eq B hB _ _) (fun r d => loadZ_eq V hz _ _ _ _ r d)
        (fun r d => loadZ_eq V hz _ _ _ _ r d) (state_run V VS B hz base first hlb hB hfirst k (by omega)).2 (fun r d => loadZ_eq V hz _ _ _ _ r d)
        (fun r d => loadZ_eq V hz _ _ _ _ r d) (fun d => by rw [hN]; exact hG d) (x 1) (x 2)).trans ?_
      have e1 : c.val / 128 = k % 6 := by omega
      have e2 : c.val % 128 = (x 2).val := by omega
      have e3 : 256 * (4 * p + k / 6) + (x 1).val = 1024 * p + r.val := by omega
      rw [e1, e2, e3]
    · intro h
      refine ih (by omega) r c ?_
      have h' : ¬(0 ≤ 0 ∧ 0 < 0 + 1 ∧ 256 * (k / 6) ≤ r.val ∧ r.val < 256 * (k / 6) + 256 ∧ 128 * (k % 6) ≤ c.val ∧ c.val < 128 * (k % 6) + 128) := h
      omega

end

/-! ## The initial and the final state -/

section

variable (V : View sig .tc .vmem S1024x3328 .f32) (VS : View sig .tc .vmem S6x128x128 .f32)
  (X : Vec Ideal S1x1024x1024 .f32) (N : Vec Ideal S1x1024 .f32) (W : Vec Ideal S1024x3328 .bf16) (B : Vec Ideal S1x768 .f32)
  (base : List (View.Piece (Elt Ideal) S6x128x128 .f32))
  (first : (k : ℕ) → k < 6 → List (View.Piece (Elt Ideal) S6x128x128 .f32) → Vec Ideal S1x128x128 .f32)

/-- The first blocks leave the later heads as they were. -/
theorem canon_untouched : ∀ (k : ℕ) (hk : k ≤ 24) (h : Fin 6) (e d : Fin 128), k ≤ h.val →
    View.canon (stateStores V VS X N W B base first k hk) (ix3 h e d) = View.canon base (ix3 h e d) := by
  intro k
  induction k with
  | zero => intros; rfl
  | succ k ih =>
    intro hk h e d hle
    have hh := h.isLt
    refine canon_cons3 (o0 := k % 6) (o1 := 0) (o2 := 0) (n0 := 1) (n1 := 128) (n2 := 128) rfl rfl ?_ ?_
    · intro (x : S1x128x128.Idx) h0 h1 h2
      have h0' : h.val = k % 6 + (x 0).val := h0
      have : (x 0).val < 1 := (x 0).isLt
      omega
    · intro _
      exact ih (by omega) h e d (by omega)

theorem canon_init (S : Vec Ideal S1x6x128x128 .f32) : ∀ (n : ℕ) (hn : n ≤ 6) (h : Fin 6) (e d : Fin 128), h.val < n →
    View.canon (initStores S n hn) (ix3 h e d) = S (ix4 0 h d e) := by
  intro n
  induction n with
  | zero => intro _ _ _ _ h; exact absurd h (Nat.not_lt_zero _)
  | succ n ih =>
    intro hn h e d hlt
    refine canon_cons3 (o0 := n) (o1 := 0) (o2 := 0) (n0 := 1) (n1 := 128) (n2 := 128) rfl rfl ?_ ?_
    · intro (x : S1x128x128.Idx) h0 h1 h2
      have hx0 : x 0 = (0 : Fin 1) := Fin.ext (Nat.lt_one_iff.mp (x 0).isLt)
      have h0' : h.val = n := by
        have : h.val = n + (x 0).val := h0
        rw [hx0] at this
        exact this
      have e1 : x 1 = e := Fin.ext (by have : e.val = 0 + (x 1).val := h1; omega)
      have e2 : x 2 = d := Fin.ext (by have : d.val = 0 + (x 2).val := h2; omega)
      rw [eq_ix3 x, hx0, e1, e2]
      have hp : ∀ f : Vec Ideal S1x1x128x128 .f32, k0_pay4 f (ix3 0 e d) = f (ix4 0 0 d e) := by
        intro f
        pointwise [k0_pay4]
      refine (hp _).trans (View.ld_unit_apply_of S _ _ _ _ _ ?_)
      exact Fin.forall_fin_succ.mpr ⟨rfl, Fin.forall_fin_succ.mpr ⟨h0', Fin.forall_fin_two.mpr ⟨(Nat.zero_add _).symm, (Nat.zero_add _).symm⟩⟩⟩
    · intro hm
      have hm' : ¬(n ≤ h.val ∧ h.val < n + 1 ∧ 0 ≤ e.val ∧ e.val < 0 + 128 ∧ 0 ≤ d.val ∧ d.val < 0 + 128) := hm
      have he := e.isLt
      have hd := d.isLt
      exact ih (by omega) h e d (by omega)

theorem canon_final (L : List (View.Piece (Elt Ideal) S6x128x128 .f32)) : ∀ (n : ℕ) (hn : n ≤ 6) (h : Fin 6) (d e : Fin 128), h.val < n →
    View.canon (finalStores VS L n hn) (ix4 0 h d e) = View.canon L (ix3 h e d) := by
  intro n
  induction n with
  | zero => intro _ _ _ _ h; exact absurd h (Nat.not_lt_zero _)
  | succ n ih =>
    intro hn h d e hlt
    refine canon_cons4 (o0 := 0) (o1 := n) (o2 := 0) (o3 := 0) (n0 := 1) (n1 := 1) (n2 := 128) (n3 := 128) rfl rfl ?_ ?_
    · intro (x : S1x1x128x128.Idx) h0 h1 h2 h3
      have hx0 : x 0 = (0 : Fin 1) := Fin.ext (Nat.lt_one_iff.mp (x 0).isLt)
      have hx1 : x 1 = (0 : Fin 1) := Fin.ext (Nat.lt_one_iff.mp (x 1).isLt)
      have h1' : h.val = n := by
        have : h.val = n + (x 1).val := h1
        rw [hx1] at this
        exact this
      have e2 : x 2 = d := Fin.ext (by have : d.val = 0 + (x 2).val := h2; omega)
      have e3 : x 3 = e := Fin.ext (by have : e.val = 0 + (x 3).val := h3; omega)
      rw [eq_ix4 x, hx0, hx1, e2, e3]
      have hp : ∀ f : Vec Ideal S1x128x128 .f32, k0_pay8 f (ix4 0 0 d e) = f (ix3 0 e d) := by
        intro f
        pointwise [k0_pay8]
      refine (hp _).trans ?_
      rw [View.readCov_eq_canon']
      exact congrArg (View.canon L) (ext3 ((Rect.idx_unit_val _ _ _ _ 0).trans h1'.symm) ((Rect.idx_unit_val _ _ _ _ 1).trans (Nat.zero_add _))
        ((Rect.idx_unit_val _ _ _ _ 2).trans (Nat.zero_add _)))
    · intro hm
      have hm' : ¬(0 ≤ 0 ∧ 0 < 0 + 1 ∧ n ≤ h.val ∧ h.val < n + 1 ∧ 0 ≤ d.val ∧ d.val < 0 + 128 ∧ 0 ≤ e.val ∧ e.val < 0 + 128) := hm
      have he := e.isLt
      have hd := d.isLt
      exact ih (by omega) h d e (by omega)

end

end Cert.Hgrn

end
-- ==== Proof.Hgrn.Grid.lean ====
module

public import Idealize.ShloMosaic.Lib.Ring
public import proofs.«01_k».proof.Proof.Gen.KernelIdeal.Value
public import proofs.«01_k».proof.Proof.Hgrn.Stores
public import proofs.«01_k».proof.Proof.Hgrn.PointValue

@[expose] public section

noncomputable section

namespace Cert.Hgrn

open Idealize.ShloMosaic Idealize.ShloMosaic.TcCoe Idealize.SL.Sem Cert.KernelIdeal Cert.KernelIdeal.Gen Cert.KernelIdeal.Value

/-- What the three output blocks and the carried state are to hold after point `p` of a sequence; `last` says that the
    final state is written there. -/
structure Holds (lb : ℕ → EReal) (z : ℕ → ℕ → EReal) (on : ℕ → EReal) (p : ℕ) (last : Prop)
    (s : Vec Ideal S1x1024x768 .f32 × Vec Ideal S1x1024x256 .f32 × Vec Ideal S1x6x128x128 .f32 × Vec Ideal S6x128x128 .f32) : Prop where
  out : ∀ (r : Fin 1024) (c : Fin 768), s.1 (ix3 0 r c) = yy lb z on (c.val / 128) (1024 * p + r) (c.val % 128)
  pass : ∀ (r : Fin 1024) (c : Fin 256), s.2.1 (ix3 0 r c) = z (1024 * p + r) (3072 + c)
  final : last → ∀ (h : Fin 6) (d e : Fin 128), s.2.2.1 (ix4 0 h d e) = St lb z h (8 * (4 * (p + 1))) d e
  state : ∀ (h : Fin 6) (e d : Fin 128), s.2.2.2 (ix3 h e d) = St lb z h (8 * (4 * (p + 1))) d e

variable (m : (ℓ : Loc nD τ sig) → Buf (Elt Ideal) ℓ) (c : Dev nD) (t : Fin cfg0.N)
variable {lb : ℕ → EReal} {z : ℕ → ℕ → EReal} {on : ℕ → EReal} {p : ℕ}

/-- What a point's blocks are to hold for its sequence. -/
structure Blocks (lb : ℕ → EReal) (z : ℕ → ℕ → EReal) (on : ℕ → EReal) (p : ℕ) : Prop where
  proj : Projects (iblk m c 0 t : Vec Ideal S1x1024x1024 .f32) (iblk m c 1 t : Vec Ideal S1x1024 .f32) (iblk m c 2 t : Vec Ideal S1024x3328 .bf16) z p
  top : ∀ j, lb j ≠ ⊤
  low : ∀ j : Fin 768, (iblk m c 3 t : Vec Ideal S1x768 .f32) (ix2 0 j) = lb j
  norm : ∀ d : Fin 128, (iblk m c 4 t : Vec Ideal S1x128 .f32) (ix2 0 d) = on d
  zero : ∀ (h : Fin 6) (d e : Fin 128), (show EReal from (iblk m c 5 t : Vec Ideal S1x6x128x128 .f32) (ix4 0 h d e)) = 0

/-- A head's part of a carried state. -/
theorem ld_state (M : Memref sig .tc .vmem S6x128x128 .f32) (hM : M.IsWhole) (xs : Vec Ideal S6x128x128 .f32) (k : ℕ) (hk : k < 6) (e d : Fin 128) :
    View.ld (M.view.read (Elt Ideal) (hM.unread xs)) (rectS k hk) (ix3 0 e d) = xs (ix3 ⟨k, hk⟩ e d) := by
  rw [Memref.IsWhole.read_unread]
  refine View.ld_unit_apply_of xs _ _ _ _ (ix3 (⟨k, hk⟩ : Fin 6) e d) ?_
  exact Fin.forall_fin_succ.mpr ⟨rfl, Fin.forall_fin_two.mpr ⟨(Nat.zero_add _).symm, (Nat.zero_add _).symm⟩⟩

theorem readCov_state (M : View sig .tc .vmem S6x128x128 .f32) (L : List (View.Piece (Elt Ideal) S6x128x128 .f32)) (k : ℕ) (hk : k < 6) (e d : Fin 128) :
    M.readCov L (rectS k hk).toLoadRect (ix3 0 e d) = View.canon L (ix3 ⟨k, hk⟩ e d) := by
  rw [View.readCov_eq_canon']
  have e : (rectS k hk).idx (ix3 0 e d) = ix3 ⟨k, hk⟩ e d :=
    ext3 (Rect.idx_unit_val _ _ _ _ 0) ((Rect.idx_unit_val _ _ _ _ 1).trans (Nat.zero_add _)) ((Rect.idx_unit_val _ _ _ _ 2).trans (Nat.zero_add _))
  exact congrArg (View.canon L) e

variable (acc : Vec Ideal S1x1024x768 .f32 × Vec Ideal S1x1024x256 .f32 × Vec Ideal S1x6x128x128 .f32 × Vec Ideal S6x128x128 .f32)

theorem step_A (h0 : t.val % 4 = 0) (h1 : t.val % 4 ≠ 3) (hb : Blocks m c t lb z on 0) :
    Holds lb z on 0 (t.val % 4 = 3) (stAt0 m c t.val t.isLt acc) := by
  rw [stAt0_A m c t acc h0 h1]
  have first : ∀ (V : View sig .tc .vmem S1024x3328 .f32) (VS : View sig .tc .vmem S6x128x128 .f32) X N W B (k : ℕ) (hk : k < 6) (e d : Fin 128),
      VS.readCov (stateStores V VS X N W B (initStores (iblk m c 5 t : Vec Ideal S1x6x128x128 .f32) 6 le_rfl)
        (fun k hk L => VS.readCov L (rectS k hk).toLoadRect) k (by omega)) (rectS k hk).toLoadRect (ix3 0 e d) = St lb z k (8 * (4 * 0)) d e := by
    intro V VS X N W B k hk e d
    exact (readCov_state _ _ k hk e d).trans ((canon_untouched V VS X N W B _ _ k _ ⟨k, hk⟩ e d le_rfl).trans
      ((canon_init _ 6 le_rfl ⟨k, hk⟩ e d hk).trans (hb.zero _ _ _)))
  refine ⟨fun r j => ?_, fun r j => ?_, fun h => absurd h h1, fun h e d => ?_⟩
  · dsimp only
    unfold out0_A_6
    refine (View.read_writes_junk_apply_eq_canon (Val := Elt Ideal) VO0_6 (ix3 0 r j) _).trans ?_
    rw [out_A]
    simp only [Memref.IsWhole.read_unread]
    exact canon_out _ _ _ _ hb.proj _ _ hb.top hb.low (fun k hk e d => first _ _ _ _ _ _ k hk e d) hb.norm _ _ _ _ (by have := r.isLt; have := j.isLt; omega)
  · dsimp only
    unfold out0_A_7
    refine (View.read_writes_junk_apply_eq_canon (Val := Elt Ideal) VO0_7 (ix3 0 r j) _).trans ?_
    rw [pass_A]
    simp only [Memref.IsWhole.read_unread]
    exact canon_pass _ hb.proj _ _ _ _ (by have := r.isLt; omega)
  · dsimp only
    unfold sout0_A_1
    refine (View.read_writes_junk_apply_eq_canon (Val := Elt Ideal) VS0_1 (ix3 h e d) _).trans ?_
    rw [state_A]
    simp only [Memref.IsWhole.read_unread]
    exact state_end _ _ _ hb.proj _ _ hb.top hb.low (fun k hk e d => first _ _ _ _ _ _ k hk e d) _ _ _

theorem step_B (h0 : t.val % 4 ≠ 0) (h1 : t.val % 4 ≠ 3) (hb : Blocks m c t lb z on p)
    (hacc : ∀ (h : Fin 6) (e d : Fin 128), acc.2.2.2 (ix3 h e d) = St lb z h (8 * (4 * p)) d e) :
    Holds lb z on p (t.val % 4 = 3) (stAt0 m c t.val t.isLt acc) := by
  rw [stAt0_B m c t acc h0 h1]
  refine ⟨fun r j => ?_, fun r j => ?_, fun h => absurd h h1, fun h e d => ?_⟩
  · dsimp only
    unfold out0_B_6
    refine (View.read_writes_junk_apply_eq_canon (Val := Elt Ideal) VO0_6 (ix3 0 r j) _).trans ?_
    rw [out_B]
    rw [Memref.IsWhole.read_unread, Memref.IsWhole.read_unread, Memref.IsWhole.read_unread, Memref.IsWhole.read_unread, Memref.IsWhole.read_unread]
    exact canon_out _ _ _ _ hb.proj _ _ hb.top hb.low (fun k hk e d => (ld_state _ _ _ k hk e d).trans (hacc _ _ _)) hb.norm _ _ _ _ (by have := r.isLt; have := j.isLt; omega)
  · dsimp only
    unfold out0_B_7
    refine (View.read_writes_junk_apply_eq_canon (Val := Elt Ideal) VO0_7 (ix3 0 r j) _).trans ?_
    rw [pass_B]
    rw [Memref.IsWhole.read_unread, Memref.IsWhole.read_unread, Memref.IsWhole.read_unread]
    exact canon_pass _ hb.proj _ _ _ _ (by have := r.isLt; omega)
  · dsimp only
    unfold sout0_B_1
    refine (View.read_writes_junk_apply_eq_canon (Val := Elt Ideal) VS0_1 (ix3 h e d) _).trans ?_
    rw [state_B]
    rw [Memref.IsWhole.read_unread, Memref.IsWhole.read_unread, Memref.IsWhole.read_unread, Memref.IsWhole.read_unread]
    exact state_end _ _ _ hb.proj _ _ hb.top hb.low (fun k hk e d => (ld_state _ _ _ k hk e d).trans (hacc _ _ _)) _ _ _

theorem step_C (h0 : t.val % 4 ≠ 0) (h1 : t.val % 4 = 3) (hb : Blocks m c t lb z on p)
    (hacc : ∀ (h : Fin 6) (e d : Fin 128), acc.2.2.2 (ix3 h e d) = St lb z h (8 * (4 * p)) d e) :
    Holds lb z on p (t.val % 4 = 3) (stAt0 m c t.val t.isLt acc) := by
  rw [stAt0_C m c t acc h0 h1]
  refine ⟨fun r j => ?_, fun r j => ?_, fun _ h d e => ?_, fun h e d => ?_⟩
  · dsimp only
    unfold out0_C_6
    refine (View.read_writes_junk_apply_eq_canon (Val := Elt Ideal) VO0_6 (ix3 0 r j) _).trans ?_
    rw [out_C]
    rw [Memref.IsWhole.read_unread, Memref.IsWhole.read_unread, Memref.IsWhole.read_unread, Memref.IsWhole.read_unread, Memref.IsWhole.read_unread]
    exact canon_out _ _ _ _ hb.proj _ _ hb.top hb.low (fun k hk e d => (ld_state _ _ _ k hk e d).trans (hacc _ _ _)) hb.norm _ _ _ _ (by have := r.isLt; have := j.isLt; omega)
  · dsimp only
    unfold out0_C_7
    refine (View.read_writes_junk_apply_eq_canon (Val := Elt Ideal) VO0_7 (ix3 0 r j) _).trans ?_
    rw [pass_C]
    rw [Memref.IsWhole.read_unread, Memref.IsWhole.read_unread, Memref.IsWhole.read_unread]
    exact canon_pass _ hb.proj _ _ _ _ (by have := r.isLt; omega)
  · dsimp only
    unfold out0_C_8
    refine (View.read_writes_junk_apply_eq_canon (Val := Elt Ideal) VO0_8 (ix4 0 h d e) _).trans ?_
    rw [final_C]
    rw [Memref.IsWhole.read_unread, Memref.IsWhole.read_unread, Memref.IsWhole.read_unread, Memref.IsWhole.read_unread]
    exact (canon_final _ _ _ _ h d e h.isLt).trans
      (state_end _ _ _ hb.proj _ _ hb.top hb.low (fun k hk e d => (ld_state _ _ _ k hk e d).trans (hacc _ _ _)) h e d)
  · dsimp only
    unfold sout0_C_1
    refine (View.read_writes_junk_apply_eq_canon (Val := Elt Ideal) VS0_1 (ix3 h e d) _).trans ?_
    rw [state_C]
    rw [Memref.IsWhole.read_unread, Memref.IsWhole.read_unread, Memref.IsWhole.read_unread, Memref.IsWhole.read_unread]
    exact state_end _ _ _ hb.proj _ _ hb.top hb.low (fun k hk e d => (ld_state _ _ _ k hk e d).trans (hacc _ _ _)) _ _ _

variable (zz : ℕ → ℕ → ℕ → EReal)

/-- Every point leaves what its sequence asks for. -/
theorem holds_all (hb : ∀ t : Fin cfg0.N, Blocks m c t lb (zz (t.val / 4)) on (t.val % 4)) : ∀ (n : ℕ) (hn : 0 + n < cfg0.N),
    Holds lb (zz (n / 4)) on (n % 4) (n % 4 = 3) (Pipeline.accAt (fun n h => stAt0 m c n h junk0) (stAt0 m c) 0 n hn) := by
  intro n
  induction n with
  | zero => intro hn; exact step_A m c ⟨0, by omega⟩ _ rfl (by show 0 % 4 ≠ 3; decide) (hb ⟨0, by omega⟩)
  | succ n ih =>
    intro hn
    have hn' : n + 1 < cfg0.N := by omega
    have hi := ih (by omega)
    have hB := hb ⟨n + 1, hn'⟩
    rw [Pipeline.accAt_succ]
    generalize Pipeline.accAt (fun n h => stAt0 m c n h junk0) (stAt0 m c) 0 n _ = acc at hi ⊢
    have e : ∀ (j : ℕ) (hj : j < cfg0.N), j = n + 1 → stAt0 m c j hj acc = stAt0 m c (n + 1) hn' acc := by
      intro j hj h; subst h; rfl
    rw [e _ _ (Nat.zero_add _)]
    by_cases h0 : (n + 1) % 4 = 0
    · have := step_A (lb := lb) (z := zz ((n + 1) / 4)) (on := on) m c ⟨n + 1, hn'⟩ acc h0 (by show (n + 1) % 4 ≠ 3; omega) (by rw [← h0]; exact hB)
      rw [h0]
      simpa only [h0] using this
    · have hq : n / 4 = (n + 1) / 4 := by omega
      have hp : n % 4 + 1 = (n + 1) % 4 := by omega
      rw [hq] at hi
      have hs := hi.state
      rw [hp] at hs
      by_cases h1 : (n + 1) % 4 = 3
      · exact step_C m c ⟨n + 1, hn'⟩ acc h0 h1 hB hs
      · exact step_B m c ⟨n + 1, hn'⟩ acc h0 h1 hB hs

end Cert.Hgrn

end
-- ==== Proof.Hgrn.Inputs.lean ====
module

public import Idealize.ShloMosaic.Lib.Pointwise
public import Idealize.ShloMosaic.Lib.StableHlo.RunRead
public import proofs.«01_k».proof.Proof.Gen.KernelIdeal.Value
public import proofs.«01_k».proof.Proof.Hgrn.Window
public import proofs.«01_k».proof.Proof.Hgrn.Args
public import proofs.«01_k».proof.Proof.Hgrn.Grid

@[expose] public section

noncomputable section

namespace Cert.Hgrn

open Idealize.ShloMosaic Idealize.ShloMosaic.TcCoe Idealize.SL.Sem Cert.KernelIdeal Cert.KernelIdeal.Gen Cert.KernelIdeal.Value
open Idealize.ShloMosaic.StableHlo

variable (m : (ℓ : Loc nD τ sig) → Buf (Elt Ideal) ℓ) (c : Dev nD)

theorem in_norm (k : Fin 1024) : (V m c main_v20 : Vec Ideal S1x1024 .f32) (ix2 0 k) = (m ((c : Thread nD τ).loc main_arg1) : Vec Ideal S2x1024 .f32) (ix2 0 k) := by
  simp only [V, List.flatten_cons, List.flatten_nil, List.append_nil, List.cons_append, List.nil_append]
  after_reads_simp
  pointwise

theorem in_w (k : Fin 1024) (j : Fin 3328) : (V m c main_v13 : Vec Ideal S1024x3328 .bf16) (ix2 k j) = (m ((c : Thread nD τ).loc main_arg2) : Vec Ideal S1x1024x3328 .f32) (ix3 0 k j) := by
  simp only [V, List.flatten_cons, List.flatten_nil, List.append_nil, List.cons_append, List.nil_append]
  after_reads_simp
  pointwise

theorem in_out (d : Fin 128) : (V m c main_v22 : Vec Ideal S1x128 .f32) (ix2 0 d) = (m ((c : Thread nD τ).loc main_arg4) : Vec Ideal S1x128 .f32) (ix2 0 d) := by
  simp only [V, List.flatten_cons, List.flatten_nil, List.append_nil, List.cons_append, List.nil_append]
  after_reads_simp
  pointwise

theorem in_zero (b : Fin 4) (h : Fin 6) (d e : Fin 128) : (show EReal from (V m c main_v14 : Vec Ideal S4x6x128x128 .f32) (ix4 b h d e)) = 0 := by
  simp only [V, List.flatten_cons, List.flatten_nil, List.append_nil, List.cons_append, List.nil_append]
  after_reads_simp
  pointwise

theorem in_low (j : Fin 768) : (V m c main_v21 : Vec Ideal S1x768 .f32) (ix2 0 j) = lows (m ((c : Thread nD τ).loc main_arg3)) j := by
  simp only [V, List.flatten_cons, List.flatten_nil, List.append_nil, List.cons_append, List.nil_append]
  after_reads_simp
  pointwise
  refine (window_first _ _ reduceWindows_S2x768_S2x768_w2s1p1_0_w1s1p0_0 h_S_ (Ideal.ofBits_zero .f32) j).trans ?_
  dsimp only [TRef.toBuf, TRef.ofBuf, cast_eq]
  pointwise
  exact (lows_eq _ j).symm

/-! ## Where the blocks of a point lie -/

theorem place0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)

theorem place1 : ∀ t : Fin cfg0.N, win0_1.index t (0 : Fin 2) = 0 ∧ win0_1.index t (1 : Fin 2) = 0 :=
  (by decide +kernel : ∀ t : Fin grid0.N, _)

theorem place2 : ∀ t : Fin cfg0.N, win0_2.index t (0 : Fin 2) = 0 ∧ win0_2.index t (1 : Fin 2) = 0 :=
  (by decide +kernel : ∀ t : Fin grid0.N, _)

theorem place3 : ∀ t : Fin cfg0.N, win0_3.index t (0 : Fin 2) = 0 ∧ win0_3.index t (1 : Fin 2) = 0 :=
  (by decide +kernel : ∀ t : Fin grid0.N, _)

theorem place4 : ∀ t : Fin cfg0.N, win0_4.index t (0 : Fin 2) = 0 ∧ win0_4.index t (1 : Fin 2) = 0 :=
  (by decide +kernel : ∀ t : Fin grid0.N, _)

theorem place5 : ∀ t : Fin cfg0.N, win0_5.index t (0 : Fin 4) = t.val / 4 ∧ win0_5.index t (1 : Fin 4) = 0 ∧ win0_5.index t (2 : Fin 4) = 0 ∧ win0_5.index t (3 : Fin 4) = 0 :=
  (by decide +kernel : ∀ t : Fin grid0.N, _)

variable (t : Fin cfg0.N)

theorem lt_points : t.val < 16 := lt_of_lt_of_eq t.isLt N_0

theorem block0 (r k : Fin 1024) : (iblk m c 0 t : Vec Ideal S1x1024x1024 .f32) (ix3 0 r k)
    = (m ((c : Thread nD τ).loc main_arg0) : Vec Ideal S4x4096x1024 .f32) (ix3 ⟨t.val / 4, by have := lt_points t; omega⟩ ⟨1024 * (t.val % 4) + r.val, by have := r.isLt; omega⟩ k) := by
  obtain ⟨e0, e1, e2⟩ := place0 t
  refine Eq.trans (congrArg (V m c main_arg0 : Vec Ideal S4x4096x1024 .f32) (ext3 ?_ ?_ ?_)) (congrFun (V_main_arg0 m c) _)
  · show win0_0.index t (0 : Fin 3) * 1 + 1 * 0 = t.val / 4
    omega
  · show win0_0.index t (1 : Fin 3) * 1024 + 1 * r.val = 1024 * (t.val % 4) + r.val
    omega
  · show win0_0.index t (2 : Fin 3) * 1024 + 1 * k.val = k.val
    omega

theorem block1 (k : Fin 1024) : (iblk m c 1 t : Vec Ideal S1x1024 .f32) (ix2 0 k) = (V m c main_v20 : Vec Ideal S1x1024 .f32) (ix2 0 k) := by
  obtain ⟨e0, e1⟩ := place1 t
  refine congrArg (V m c main_v20 : Vec Ideal S1x1024 .f32) (ext2 ?_ ?_)
  · show win0_1.index t (0 : Fin 2) * 1 + 1 * 0 = 0
    omega
  · show win0_1.index t (1 : Fin 2) * 1024 + 1 * k.val = k.val
    omega

theorem block2 (k : Fin 1024) (j : Fin 3328) : (iblk m c 2 t : Vec Ideal S1024x3328 .bf16) (ix2 k j) = (V m c main_v13 : Vec Ideal S1024x3328 .bf16) (ix2 k j) := by
  obtain ⟨e0, e1⟩ := place2 t
  refine congrArg (V m c main_v13 : Vec Ideal S1024x3328 .bf16) (ext2 ?_ ?_)
  · show win0_2.index t (0 : Fin 2) * 1024 + 1 * k.val = k.val
    omega
  · show win0_2.index t (1 : Fin 2) * 3328 + 1 * j.val = j.val
    omega

theorem block3 (j : Fin 768) : (iblk m c 3 t : Vec Ideal S1x768 .f32) (ix2 0 j) = (V m c main_v21 : Vec Ideal S1x768 .f32) (ix2 0 j) := by
  obtain ⟨e0, e1⟩ := place3 t
  refine congrArg (V m c main_v21 : Vec Ideal S1x768 .f32) (ext2 ?_ ?_)
  · show win0_3.index t (0 : Fin 2) * 1 + 1 * 0 = 0
    omega
  · show win0_3.index t (1 : Fin 2) * 768 + 1 * j.val = j.val
    omega

theorem block4 (d : Fin 128) : (iblk m c 4 t : Vec Ideal S1x128 .f32) (ix2 0 d) = (V m c main_v22 : Vec Ideal S1x128 .f32) (ix2 0 d) := by
  obtain ⟨e0, e1⟩ := place4 t
  refine congrArg (V m c main_v22 : Vec Ideal S1x128 .f32) (ext2 ?_ ?_)
  · show win0_4.index t (0 : Fin 2) * 1 + 1 * 0 = 0
    omega
  · show win0_4.index t (1 : Fin 2) * 128 + 1 * d.val = d.val
    omega

theorem block5 (h : Fin 6) (d e : Fin 128) : (iblk m c 5 t : Vec Ideal S1x6x128x128 .f32) (ix4 0 h d e)
    = (V m c main_v14 : Vec Ideal S4x6x128x128 .f32) (ix4 ⟨t.val / 4, by have := lt_points t; omega⟩ h d e) := by
  obtain ⟨e0, e1, e2, e3⟩ := place5 t
  refine congrArg (V m c main_v14 : Vec Ideal S4x6x128x128 .f32) (ext4 ?_ ?_ ?_ ?_)
  · show win0_5.index t (0 : Fin 4) * 1 + 1 * 0 = t.val / 4
    omega
  · show win0_5.index t (1 : Fin 4) * 6 + 1 * h.val = h.val
    omega
  · show win0_5.index t (2 : Fin 4) * 128 + 1 * d.val = d.val
    omega
  · show win0_5.index t (3 : Fin 4) * 128 + 1 * e.val = e.val
    omega

/-- The quantities of the recurrence, of the arguments as launched. -/
def Z (b r j : ℕ) : EReal :=
  zall (m ((c : Thread nD τ).loc main_arg0)) (m ((c : Thread nD τ).loc main_arg1)) (m ((c : Thread nD τ).loc main_arg2)) b r j

def LB (j : ℕ) : EReal := lows (m ((c : Thread nD τ).loc main_arg3)) j

def ON (d : ℕ) : EReal := norms (m ((c : Thread nD τ).loc main_arg4)) d

theorem blocks : Blocks m c t (LB m c) (Z m c (t.val / 4)) (ON m c) (t.val % 4) where
  proj := by
    intro r j
    have ht := lt_points t
    have hr := r.isLt
    refine Eq.trans ?_ (zall_eq _ _ _ ⟨t.val / 4, by omega⟩ ⟨1024 * (t.val % 4) + r.val, by omega⟩ j).symm
    unfold zval
    refine Finset.sum_congr rfl fun k _ => ?_
    rw [block1, block2, in_norm, in_w]
    simp only [block0]
  top := lows_ne_top _
  low := fun j => (block3 m c t j).trans (in_low m c j)
  norm := fun d => (block4 m c t d).trans ((in_out m c d).trans (norms_eq _ d).symm)
  zero := fun h d e => (block5 m c t h d e).trans (in_zero m c _ h d e)

/-! ## What the three results hold -/

theorem points_hold (n : ℕ) (hn : 0 + n < cfg0.N) :
    Holds (LB m c) (Z m c (n / 4)) (ON m c) (n % 4) (n % 4 = 3) (Pipeline.accAt (fun n h => stAt0 m c n h junk0) (stAt0 m c) 0 n hn) :=
  holds_all m c (Z m c) (blocks m c) n hn

theorem result6 (b : Fin 4) (r : Fin 4096) (j : Fin 768) :
    (G6 m c : Vec Ideal S4x4096x768 .f32) (ix3 b r j) = yy (LB m c) (Z m c b) (ON m c) (j.val / 128) r (j.val % 128) := by
  have hb := b.isLt
  have hr := r.isLt
  have hj := j.isLt
  have hN : cfg0.N = 16 := N_0
  have hp : pt6Of (ix3 b r j) = 4 * b.val + r.val / 1024 := by
    show 4 * (b.val / 1 - 0) + 1 * (r.val / 1024 - 0) + 1 * (j.val / 768 - 0) = _
    omega
  have hl : loc6Of (ix3 b r j) = ix3 0 ⟨r.val % 1024, by omega⟩ j :=
    ext3 (show b.val % 1 = 0 by omega) (show r.val % 1024 = r.val % 1024 from rfl) (show j.val % 768 = j.val by omega)
  unfold G6
  rw [dif_pos (by rw [hp, hN]; omega), hl]
  refine ((points_hold m c _ _).out _ _).trans ?_
  rw [hp]
  have e1 : (4 * b.val + r.val / 1024) / 4 = b.val := by omega
  have e2 : 1024 * ((4 * b.val + r.val / 1024) % 4) + r.val % 1024 = r.val := by omega
  rw [e1]
  exact congrArg (fun q => yy (LB m c) (Z m c b) (ON m c) (j.val / 128) q (j.val % 128)) e2

theorem result7 (b : Fin 4) (r : Fin 4096) (j : Fin 256) :
    (G7 m c : Vec Ideal S4x4096x256 .f32) (ix3 b r j) = Z m c b r (3072 + j) := by
  have hb := b.isLt
  have hr := r.isLt
  have hj := j.isLt
  have hN : cfg0.N = 16 := N_0
  have hp : pt7Of (ix3 b r j) = 4 * b.val + r.val / 1024 := by
    show 4 * (b.val / 1 - 0) + 1 * (r.val / 1024 - 0) + 1 * (j.val / 256 - 0) = _
    omega
  have hl : loc7Of (ix3 b r j) = ix3 0 ⟨r.val % 1024, by omega⟩ j :=
    ext3 (show b.val % 1 = 0 by omega) (show r.val % 1024 = r.val % 1024 from rfl) (show j.val % 256 = j.val by omega)
  unfold G7
  rw [dif_pos (by rw [hp, hN]; omega), hl]
  refine ((points_hold m c _ _).pass _ _).trans ?_
  rw [hp]
  have e1 : (4 * b.val + r.val / 1024) / 4 = b.val := by omega
  have e2 : 1024 * ((4 * b.val + r.val / 1024) % 4) + r.val % 1024 = r.val := by omega
  rw [e1]
  exact congrArg (fun q => Z m c b q (3072 + j)) e2

theorem result8 (b : Fin 4) (h : Fin 6) (d e : Fin 128) :
    (G8 m c : Vec Ideal S4x6x128x128 .f32) (ix4 b h d e) = St (LB m c) (Z m c b) h 128 d e := by
  have hb := b.isLt
  have hh := h.isLt
  have hd := d.isLt
  have he := e.isLt
  have hN : cfg0.N = 16 := N_0
  have hp : pt8Of (ix4 b h d e) = 4 * b.val + 3 := by
    show 4 * (1 * (b.val / 1 - 0) + 1 * (h.val / 6 - 0) + 1 * (d.val / 128 - 0) + 1 * (e.val / 128 - 0)) + 3 = _
    omega
  have hl : loc8Of (ix4 b h d e) = ix4 0 h d e :=
    ext4 (show b.val % 1 = 0 by omega) (show h.val % 6 = h.val by omega) (show d.val % 128 = d.val by omega) (show e.val % 128 = e.val by omega)
  unfold G8
  rw [dif_pos (by rw [hp, hN]; omega), hl]
  refine ((points_hold m c _ _).final (by rw [hp]; omega) _ _ _).trans ?_
  rw [hp]
  have e1 : (4 * b.val + 3) / 4 = b.val := by omega
  have e2 : 8 * (4 * ((4 * b.val + 3) % 4 + 1)) = 128 := by omega
  rw [e1, e2]

end Cert.Hgrn

end
-- ==== Proof.Hgrn.RefEntry.lean ====
module

public import Idealize.ShloMosaic.Lib.Pointwise
public import Idealize.ShloMosaic.Lib.StableHlo.RunRead
public import proofs.«01_k».proof.Proof.Gen.ReferenceIdeal.Run
public import proofs.«01_k».proof.Proof.Hgrn.Window
public import proofs.«01_k».proof.Proof.Hgrn.Args

@[expose] public section

noncomputable section

namespace Cert.Hgrn.Ref

open Idealize.ShloMosaic Idealize.ShloMosaic.TcCoe Idealize.SL.Sem Cert.ReferenceIdeal Cert.ReferenceIdeal.Gen Cert.ReferenceIdeal.Value
open Idealize.ShloMosaic.StableHlo

/-! # What the reference holds when its loop begins -/

/-- The projection. -/
def zvec (x : FVec Ideal S4x4096x1024 .f32) (nm : FVec Ideal S2x1024 .f32) (w : FVec Ideal S1x1024x3328 .f32) : FVec Ideal S4x4096x3328 .f32 :=
  Host.dotGeneral dot_S4x4096x1024_S1024x3328_S4x4096x3328_2_0_01_1_n_n none
    (mulf (mulf x (broadcastInDim S4x4096x1024 ![0, 1, 2] bcast_S4x4096x1_S4x4096x1024_0_1_2
        (Host.rsqrt (addf (Host.divf (broadcastInDim S4x4096x1 ![0, 1] bcast_S4x4096_S4x4096x1_0_1
              (Host.reduceAdd (mulf x x) (constant S_ .f32 0x00000000#32) reducesTo_S4x4096x1024_S4x4096_d2 h_S_))
            (broadcastInDim S4x4096x1 ![] bcast_S_S4x4096x1 (constant S_ .f32 0x44800000#32)))
          (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2
        (shapeCast S1024 (extractStridedSlice S1x1024 ![0, 0] nm slices_S2x1024_S1x1024_0_0) shapeCasts_S1x1024_S1024))))
    (shapeCast S1024x3328 w shapeCasts_S1x1024x3328_S1024x3328)

/-- The running sums of the softmax of the logits. -/
def sums (lg : FVec Ideal S2x768 .f32) : FVec Ideal S2x768 .f32 :=
  Host.reduceWindowAdd ![2, 1] ![1, 1] ![1, 0] ![0, 0]
    (Host.divf
      (Host.exp (subf lg (broadcastInDim S2x768 ![0, 1] bcast_S1x768_S2x768_0_1 (broadcastInDim S1x768 ![1] bcast_S768_S1x768_1
        (maximumf (broadcastInDim S768 ![] bcast_S_S768 (constant S_ .f32 0xFF800000#32))
          (Host.reduce FloatOps.maximumf lg (constant S_ .f32 0xFF800000#32) reducesTo_S2x768_S768_d0 h_S_))))))
      (broadcastInDim S2x768 ![0, 1] bcast_S1x768_S2x768_0_1 (broadcastInDim S1x768 ![1] bcast_S768_S1x768_1
        (Host.reduceAdd (Host.exp (subf lg (broadcastInDim S2x768 ![0, 1] bcast_S1x768_S2x768_0_1 (broadcastInDim S1x768 ![1] bcast_S768_S1x768_1
            (maximumf (broadcastInDim S768 ![] bcast_S_S768 (constant S_ .f32 0xFF800000#32))
              (Host.reduce FloatOps.maximumf lg (constant S_ .f32 0xFF800000#32) reducesTo_S2x768_S768_d0 h_S_))))))
          (constant S_ .f32 0x00000000#32) reducesTo_S2x768_S768_d0 h_S_))))
    (broadcastInDim S_ ![] bcast_S_S_ (constant S_ .f32 0x00000000#32)) reduceWindows_S2x768_S2x768_w2s1p1_0_w1s1p0_0 h_S_

/-- The lower bounds, head by head. -/
def bounds (s : FVec Ideal S2x768 .f32) : FVec Ideal S6x128 .f32 :=
  shapeCast S6x128 (shapeCast S768 (extractStridedSlice S1x768 ![0, 0] s slices_S2x768_S1x768_0_0) shapeCasts_S1x768_S768) shapeCasts_S768_S6x128

def part0 (z : FVec Ideal S4x4096x3328 .f32) : FVec Ideal S4x4096x768 .f32 :=
  extractStridedSlice S4x4096x768 ![0, 0, 0] (extractStridedSlice S4x4096x3072 ![0, 0, 0] z slices_S4x4096x3328_S4x4096x3072_0_0_0) slices_S4x4096x3072_S4x4096x768_0_0_0

def part1 (z : FVec Ideal S4x4096x3328 .f32) : FVec Ideal S4x4096x768 .f32 :=
  extractStridedSlice S4x4096x768 ![0, 0, 768] (extractStridedSlice S4x4096x3072 ![0, 0, 0] z slices_S4x4096x3328_S4x4096x3072_0_0_0) slices_S4x4096x3072_S4x4096x768_0_0_768

def part2 (z : FVec Ideal S4x4096x3328 .f32) : FVec Ideal S4x4096x768 .f32 :=
  extractStridedSlice S4x4096x768 ![0, 0, 1536] (extractStridedSlice S4x4096x3072 ![0, 0, 0] z slices_S4x4096x3328_S4x4096x3072_0_0_0) slices_S4x4096x3072_S4x4096x768_0_0_1536

def part3 (z : FVec Ideal S4x4096x3328 .f32) : FVec Ideal S4x4096x768 .f32 :=
  extractStridedSlice S4x4096x768 ![0, 0, 2304] (extractStridedSlice S4x4096x3072 ![0, 0, 0] z slices_S4x4096x3328_S4x4096x3072_0_0_0) slices_S4x4096x3072_S4x4096x768_0_0_2304

def heads (y : FVec Ideal S4x4096x768 .f32) : FVec Ideal S4x4096x6x128 .f32 := shapeCast S4x4096x6x128 y shapeCasts_S4x4096x768_S4x4096x6x128

/-- The gates. -/
def gates (lo : FVec Ideal S6x128 .f32) (y : FVec Ideal S4x4096x6x128 .f32) : FVec Ideal S4x4096x6x128 .f32 :=
  addf (broadcastInDim S4x4096x6x128 ![0, 1, 2, 3] bcast_S1x1x6x128_S4x4096x6x128_0_1_2_3 (broadcastInDim S1x1x6x128 ![2, 3] bcast_S6x128_S1x1x6x128_2_3 lo))
    (mulf (broadcastInDim S4x4096x6x128 ![0, 1, 2, 3] bcast_S1x1x6x128_S4x4096x6x128_0_1_2_3 (broadcastInDim S1x1x6x128 ![2, 3] bcast_S6x128_S1x1x6x128_2_3
        (subf (broadcastInDim S6x128 ![] bcast_S_S6x128 (constant S_ .f32 0x3F800000#32)) lo)))
      (Host.divf (broadcastInDim S4x4096x6x128 ![] bcast_S_S4x4096x6x128 (constant S_ .f32 0x3F800000#32))
        (addf (broadcastInDim S4x4096x6x128 ![] bcast_S_S4x4096x6x128 (constant S_ .f32 0x3F800000#32)) (Host.exp (Host.negf y)))))

/-- The queries, after their activation. -/
def queries (y : FVec Ideal S4x4096x768 .f32) : FVec Ideal S4x4096x768 .f32 :=
  mulf y (Host.divf (broadcastInDim S4x4096x768 ![] bcast_S_S4x4096x768 (constant S_ .f32 0x3F800000#32))
    (addf (broadcastInDim S4x4096x768 ![] bcast_S_S4x4096x768 (constant S_ .f32 0x3F800000#32)) (Host.exp (Host.negf y))))

/-- Rows in chunks of 32, the chunks first. -/
def chunks (y : FVec Ideal S4x4096x6x128 .f32) : FVec Ideal S128x4x6x32x128 .f32 :=
  transpose S128x4x6x32x128 [1, 0, 3, 2, 4] (shapeCast S4x128x32x6x128 y shapeCasts_S4x4096x6x128_S4x128x32x6x128) transposes_S4x128x32x6x128_S128x4x6x32x128_1_0_3_2_4

variable (m : (ℓ : Loc nD τ sig) → Buf (Elt Ideal) ℓ) (c : Dev nD)

def A0 : FVec Ideal S4x4096x1024 .f32 := m ((c : Thread nD τ).loc main_arg0)
def A1 : FVec Ideal S2x1024 .f32 := m ((c : Thread nD τ).loc main_arg1)
def A2 : FVec Ideal S1x1024x3328 .f32 := m ((c : Thread nD τ).loc main_arg2)
def A3 : FVec Ideal S2x768 .f32 := m ((c : Thread nD τ).loc main_arg3)
def A4 : FVec Ideal S1x128 .f32 := m ((c : Thread nD τ).loc main_arg4)

abbrev zv : FVec Ideal S4x4096x3328 .f32 := zvec (A0 m c) (A1 m c) (A2 m c)
abbrev gv : FVec Ideal S4x4096x6x128 .f32 := gates (bounds (sums (A3 m c))) (heads (part1 (zv m c)))

set_option maxRecDepth 8192 in
theorem entry_z : entryContents preI m c (Proc.devRef .tc main_v28) = zv m c := by
  simp only [entryContents, afterL_cons, afterL_nil]
  after_reads_simp
  rfl

set_option maxRecDepth 8192 in
theorem entry_on : entryContents preI m c (Proc.devRef .tc main_v33) = shapeCast S128 (A4 m c) shapeCasts_S1x128_S128 := by
  simp only [entryContents, afterL_cons, afterL_nil]
  after_reads_simp
  rfl

set_option maxRecDepth 8192 in
theorem entry_out : entryContents preI m c (Proc.devRef .tc main_v37) = part3 (zv m c) := by
  simp only [entryContents, afterL_cons, afterL_nil]
  after_reads_simp
  rfl

set_option maxRecDepth 8192 in
theorem entry_q : entryContents preI m c (Proc.devRef .tc main_v71_0) = chunks (heads (queries (part0 (zv m c)))) := by
  simp only [entryContents, afterL_cons, afterL_nil]
  after_reads_simp
  rfl

set_option maxRecDepth 8192 in
theorem entry_k : entryContents preI m c (Proc.devRef .tc main_v71_1)
    = chunks (subf (broadcastInDim S4x4096x6x128 ![] bcast_S_S4x4096x6x128 (constant S_ .f32 0x3F800000#32)) (gv m c)) := by
  simp only [entryContents, afterL_cons, afterL_nil]
  after_reads_simp
  rfl

set_option maxRecDepth 8192 in
theorem entry_v : entryContents preI m c (Proc.devRef .tc main_v71_2) = chunks (heads (part2 (zv m c))) := by
  simp only [entryContents, afterL_cons, afterL_nil]
  after_reads_simp
  rfl

set_option maxRecDepth 8192 in
theorem entry_g : entryContents preI m c (Proc.devRef .tc main_v71_3) = chunks (Host.log (gv m c)) := by
  simp only [entryContents, afterL_cons, afterL_nil]
  after_reads_simp
  rfl

/-- The rows a row of a chunk may look at: those up to it. -/
def lower : IVec S32x32 1 :=
  select (cmpi .sge (addi (iotaInDim S32x32 32 0) (broadcastInDim S32x32 ![] bcast_S_S32x32 (constantI S_ 32 0#32))) (iotaInDim S32x32 32 1))
    (broadcastInDim S32x32 ![] bcast_S_S32x32 (constantI S_ 1 1#1)) (broadcastInDim S32x32 ![] bcast_S_S32x32 (constantI S_ 1 0#1))

set_option maxRecDepth 8192 in
theorem entry_mask : entryContents preI m c (Proc.devRef .tc main_v71_4) = lower := by
  simp only [entryContents, afterL_cons, afterL_nil]
  after_reads_simp
  rfl

set_option maxRecDepth 8192 in
theorem entry_state : entryContents preI m c (Proc.devRef .tc main_v71_6) = broadcastInDim S4x6x128x128 ![] bcast_S_S4x6x128x128 (constant (F := Ideal) S_ .f32 0x00000000#32) := by
  simp only [entryContents, afterL_cons, afterL_nil]
  after_reads_simp
  rfl

end Cert.Hgrn.Ref

end
-- ==== Proof.Hgrn.RefParts.lean ====
module

public import proofs.«01_k».proof.Proof.Hgrn.RefEntry
public import proofs.«01_k».proof.Proof.Hgrn.Canon

@[expose] public section

noncomputable section

namespace Cert.Hgrn.Ref

open Idealize.ShloMosaic Idealize.ShloMosaic.TcCoe Idealize.SL.Sem Cert.ReferenceIdeal Cert.ReferenceIdeal.Gen Cert.ReferenceIdeal.Value
open Idealize.ShloMosaic.StableHlo

/-! # The arrays before the loop, entry by entry -/

theorem zvec_apply (x : FVec Ideal S4x4096x1024 .f32) (nm : FVec Ideal S2x1024 .f32) (w : FVec Ideal S1x1024x3328 .f32) (b : Fin 4) (r : Fin 4096) (j : Fin 3328) :
    zvec x nm w (ix3 b r j) = zval x nm w b r j := by
  pointwise [zvec, dot_S4x4096x1024_S1024x3328_S4x4096x3328_2_0_01_1_n_n]
  rfl

theorem sums_apply (lg : FVec Ideal S2x768 .f32) (j : Fin 768) : sums lg (ix2 0 j) = share (fun i => lg (ix2 i j)) := by
  refine (window_first _ _ reduceWindows_S2x768_S2x768_w2s1p1_0_w1s1p0_0 h_S_ (Ideal.ofBits_zero .f32) j).trans ?_
  pointwise
  rfl

theorem bounds_apply (s : FVec Ideal S2x768 .f32) (h : Fin 6) (d : Fin 128) :
    bounds s (ix2 h d) = s (ix2 0 ⟨128 * h.val + d.val, by have := h.isLt; have := d.isLt; omega⟩) := by
  pointwise [bounds]
  exact congrArg s (ext2 rfl (congrArg (· + d.val) (Nat.mul_comm _ _)))

theorem part0_apply (z : FVec Ideal S4x4096x3328 .f32) (b : Fin 4) (r : Fin 4096) (j : Fin 768) :
    part0 z (ix3 b r j) = z (ix3 b r ⟨j.val, by have := j.isLt; omega⟩) := by
  pointwise [part0]

theorem part1_apply (z : FVec Ideal S4x4096x3328 .f32) (b : Fin 4) (r : Fin 4096) (j : Fin 768) :
    part1 z (ix3 b r j) = z (ix3 b r ⟨768 + j.val, by have := j.isLt; omega⟩) := by
  pointwise [part1]

theorem part2_apply (z : FVec Ideal S4x4096x3328 .f32) (b : Fin 4) (r : Fin 4096) (j : Fin 768) :
    part2 z (ix3 b r j) = z (ix3 b r ⟨1536 + j.val, by have := j.isLt; omega⟩) := by
  pointwise [part2]

theorem part3_apply (z : FVec Ideal S4x4096x3328 .f32) (b : Fin 4) (r : Fin 4096) (j : Fin 768) :
    part3 z (ix3 b r j) = z (ix3 b r ⟨2304 + j.val, by have := j.isLt; omega⟩) := by
  pointwise [part3]

theorem heads_apply (y : FVec Ideal S4x4096x768 .f32) (b : Fin 4) (r : Fin 4096) (h : Fin 6) (d : Fin 128) :
    heads y (ix4 b r h d) = y (ix3 b r ⟨128 * h.val + d.val, by have := h.isLt; have := d.isLt; omega⟩) := by
  pointwise [heads]
  exact congrArg y (ext3 rfl rfl (congrArg (· + d.val) (Nat.mul_comm _ _)))

theorem chunks_apply (y : FVec Ideal S4x4096x6x128 .f32) (n : Fin 128) (b : Fin 4) (h : Fin 6) (i : Fin 32) (d : Fin 128) :
    chunks y (ix5 n b h i d) = y (ix4 b ⟨32 * n.val + i.val, by have := n.isLt; have := i.isLt; omega⟩ h d) := by
  pointwise [chunks]
  exact congrArg y (ext4 rfl (congrArg (· + i.val) (Nat.mul_comm _ _)) rfl rfl)

theorem queries_apply (y : FVec Ideal S4x4096x768 .f32) (b : Fin 4) (r : Fin 4096) (j : Fin 768) :
    queries y (ix3 b r j) = y (ix3 b r j) * Ideal.logistic (y (ix3 b r j)) := by
  pointwise [queries]
  rfl

theorem gates_apply (lo : FVec Ideal S6x128 .f32) (y : FVec Ideal S4x4096x6x128 .f32) (b : Fin 4) (r : Fin 4096) (h : Fin 6) (d : Fin 128) :
    gates lo y (ix4 b r h d) = lo (ix2 h d) + (1 - lo (ix2 h d)) * Ideal.logistic (y (ix4 b r h d)) := by
  pointwise [gates]
  rfl

end Cert.Hgrn.Ref

end
-- ==== Proof.Hgrn.RefTrip.lean ====
module

public import Idealize.ShloMosaic.Lib.DynamicIndex
public import proofs.«01_k».proof.Proof.Hgrn.RefParts

@[expose] public section

noncomputable section

namespace Cert.Hgrn.Ref

open Idealize.ShloMosaic Idealize.ShloMosaic.TcCoe Idealize.SL.Sem Cert.ReferenceIdeal Cert.ReferenceIdeal.Gen Cert.ReferenceIdeal.Value
open Idealize.ShloMosaic.StableHlo

/-! # One trip of the reference's loop, entry by entry -/

/-- Where a trip reads and writes the arrays of chunks. -/
def begins (ctr : IVec S_ 32) : Fin 5 → Int := fun k =>
  (((![ctr, constantI S_ 32 0#32, constantI S_ 32 0#32, constantI S_ 32 0#32, constantI S_ 32 0#32] : Fin 5 → IVec S_ 32)) k (Shape.Idx.first h_S_)).toInt

theorem begins_eq {n : ℕ} (hn : n < 128) : begins (fun _ => Scf.iv 0#32 1#32 n) = ![(n : Int), 0, 0, 0, 0] := by
  have : ∀ n : Fin 128, (Scf.iv 0#32 1#32 n.val).toInt = (n.val : Int) := by decide
  funext k
  match k with
  | ⟨0, _⟩ => exact this ⟨n, hn⟩
  | ⟨1, _⟩ => rfl
  | ⟨2, _⟩ => rfl
  | ⟨3, _⟩ => rfl
  | ⟨4, _⟩ => rfl

/-- The chunk a trip works on. -/
def taken (x : FVec Ideal S128x4x6x32x128 .f32) (start : Fin 5 → Int) : FVec Ideal S4x6x32x128 .f32 :=
  shapeCast S4x6x32x128 (Host.dynamicSlice S1x4x6x32x128 x start sliceFits_S128x4x6x32x128_S1x4x6x32x128) shapeCasts_S1x4x6x32x128_S4x6x32x128

theorem taken_apply (x : FVec Ideal S128x4x6x32x128 .f32) (n : Fin 128) (b : Fin 4) (h : Fin 6) (i : Fin 32) (d : Fin 128) :
    taken x ![(n.val : Int), 0, 0, 0, 0] (ix4 b h i d) = x (ix5 n b h i d) := by
  have hn := n.isLt
  have off : Shape.Slices S128x4x6x32x128 ![n.val, 0, 0, 0, 0] S1x4x6x32x128 := ⟨rfl, fun a => by
    match a with
    | ⟨0, _⟩ => show n.val + 1 ≤ 128; omega
    | ⟨1, _⟩ => show 0 + 4 ≤ 4; omega
    | ⟨2, _⟩ => show 0 + 6 ≤ 6; omega
    | ⟨3, _⟩ => show 0 + 32 ≤ 32; omega
    | ⟨4, _⟩ => show 0 + 128 ≤ 128; omega⟩
  unfold taken
  rw [Host.dynamicSlice_eq_extractStridedSlice S1x4x6x32x128 x _ ![n.val, 0, 0, 0, 0] _ off (fun a => by
    match a with
    | ⟨0, _⟩ => rfl
    | ⟨1, _⟩ => rfl
    | ⟨2, _⟩ => rfl
    | ⟨3, _⟩ => rfl
    | ⟨4, _⟩ => rfl)]
  pointwise

/-- What a trip writes into the outputs. -/
theorem written_apply (x : FVec Ideal S128x4x6x32x128 .f32) (u : FVec Ideal S1x4x6x32x128 .f32) (n : Fin 128) (k : Fin 128) (b : Fin 4) (h : Fin 6) (i : Fin 32) (d : Fin 128) :
    Host.dynamicUpdateSlice x u ![(n.val : Int), 0, 0, 0, 0] updateFits_S128x4x6x32x128_S1x4x6x32x128 (ix5 k b h i d)
      = if k = n then u (ix5 0 b h i d) else x (ix5 k b h i d) := by
  have hn := n.isLt
  have hb := b.isLt
  have hh := h.isLt
  have hi := i.isLt
  have hd := d.isLt
  have e0 : (min (max (n.val : Int) 0) ((128 - 1 : Nat) : Int)).toNat = n.val := by omega
  refine (Host.dynamicUpdateSlice_apply x u _ _ _).trans ?_
  by_cases e : k = n
  · rw [if_pos e]
    have e1 := congrArg Fin.val e
    refine (dif_pos fun a => ?_).trans ?_
    · match a with
      | ⟨0, _⟩ => exact (show (min (max (n.val : Int) 0) ((128 - 1 : Nat) : Int)).toNat ≤ k.val ∧ k.val < (min (max (n.val : Int) 0) ((128 - 1 : Nat) : Int)).toNat + 1 from by omega)
      | ⟨1, _⟩ => exact (show 0 ≤ b.val ∧ b.val < 0 + 4 from by omega)
      | ⟨2, _⟩ => exact (show 0 ≤ h.val ∧ h.val < 0 + 6 from by omega)
      | ⟨3, _⟩ => exact (show 0 ≤ i.val ∧ i.val < 0 + 32 from by omega)
      | ⟨4, _⟩ => exact (show 0 ≤ d.val ∧ d.val < 0 + 128 from by omega)
    · refine congrArg u (funext fun a => Fin.ext ?_)
      match a with
      | ⟨0, _⟩ => exact (show k.val - (min (max (n.val : Int) 0) ((128 - 1 : Nat) : Int)).toNat = 0 from by omega)
      | ⟨1, _⟩ => exact (show b.val - 0 = b.val from by omega)
      | ⟨2, _⟩ => exact (show h.val - 0 = h.val from by omega)
      | ⟨3, _⟩ => exact (show i.val - 0 = i.val from by omega)
      | ⟨4, _⟩ => exact (show d.val - 0 = d.val from by omega)
  · rw [if_neg e]
    refine dif_neg fun hin => e (Fin.ext ?_)
    have h0 : (min (max (n.val : Int) 0) ((128 - 1 : Nat) : Int)).toNat ≤ k.val ∧ k.val < (min (max (n.val : Int) 0) ((128 - 1 : Nat) : Int)).toNat + 1 := hin 0
    omega

/-! ## A trip's arrays -/

/-- The running sums of a chunk's log gates. -/
def runs (g : FVec Ideal S4x6x32x128 .f32) : FVec Ideal S4x6x32x128 .f32 :=
  Host.reduceWindowAdd ![1, 1, 32, 1] ![1, 1, 1, 1] ![0, 0, 31, 0] ![0, 0, 0, 0] g (broadcastInDim S_ ![] bcast_S_S_ (constant S_ .f32 0x00000000#32))
    reduceWindows_S4x6x32x128_S4x6x32x128_w1s1p0_0_w1s1p0_0_w32s1p31_0_w1s1p0_0 h_S_

/-- Their last row. -/
def ends (r : FVec Ideal S4x6x32x128 .f32) : FVec Ideal S4x6x1x128 .f32 := extractStridedSlice S4x6x1x128 ![0, 0, 31, 0] r slices_S4x6x32x128_S4x6x1x128_0_0_31_0

/-- The state after a chunk. -/
def nextState (k v r : FVec Ideal S4x6x32x128 .f32) (s : FVec Ideal S4x6x128x128 .f32) : FVec Ideal S4x6x128x128 .f32 :=
  addf (mulf (broadcastInDim S4x6x128x128 ![0, 1, 2, 3] bcast_S4x6x128x1_S4x6x128x128_0_1_2_3 (broadcastInDim S4x6x128x1 ![0, 1, 2] bcast_S4x6x128_S4x6x128x1_0_1_2
        (Host.exp (shapeCast S4x6x128 (ends r) shapeCasts_S4x6x1x128_S4x6x128)))) s)
    (Host.dotGeneral dot_S4x6x32x128_S4x6x32x128_S4x6x128x128_2_2_3_3_01_01 none
      (mulf k (Host.exp (subf (broadcastInDim S4x6x32x128 ![0, 1, 2, 3] bcast_S4x6x1x128_S4x6x32x128_0_1_2_3 (ends r)) r))) v)

/-- A chunk's outputs. -/
def outs (q k v r : FVec Ideal S4x6x32x128 .f32) (mask : IVec S32x32 1) (s : FVec Ideal S4x6x128x128 .f32) : FVec Ideal S4x6x32x128 .f32 :=
  addf (Host.dotGeneral dot_S4x6x32x128_S4x6x128x128_S4x6x32x128_3_2_2_3_01_01 none (mulf q (Host.exp r)) s)
    (Host.dotGeneral dot_S4x6x32x32_S4x6x32x128_S4x6x32x128_3_2_2_3_01_01 none
      (select (broadcastInDim S4x6x32x32 ![2, 3] bcast_S32x32_S4x6x32x32_2_3 mask)
        (Host.dotGeneral dot_S4x6x32x128_S4x6x32x128_S4x6x32x32_3_3_2_2_01_01 none (mulf q (Host.exp r)) (mulf k (Host.exp (Host.negf r))))
        (broadcastInDim S4x6x32x32 ![] bcast_S_S4x6x32x32 (id (constant S_ .f32 0x00000000#32)))) v)

theorem runs_apply (g : FVec Ideal S4x6x32x128 .f32) (b : Fin 4) (h : Fin 6) (i : Fin 32) (d : Fin 128) :
    runs g (ix4 b h i d) = ∑ j : Fin 32, if j ≤ i then g (ix4 b h j d) else 0 :=
  window_rows g _ _ h_S_ (Ideal.ofBits_zero .f32) b h i d

theorem nextState_apply (k v r : FVec Ideal S4x6x32x128 .f32) (s : FVec Ideal S4x6x128x128 .f32) (b : Fin 4) (h : Fin 6) (d e : Fin 128) :
    nextState k v r s (ix4 b h d e) = Ideal.exp (r (ix4 b h 31 d)) * s (ix4 b h d e)
      + ∑ j : Fin 32, k (ix4 b h j d) * Ideal.exp (r (ix4 b h 31 d) - r (ix4 b h j d)) * v (ix4 b h j e) := by
  pointwise [nextState, ends, dot_S4x6x32x128_S4x6x32x128_S4x6x128x128_2_2_3_3_01_01]

theorem outs_apply (q k v r : FVec Ideal S4x6x32x128 .f32) (mask : IVec S32x32 1) (s : FVec Ideal S4x6x128x128 .f32) (b : Fin 4) (h : Fin 6) (i : Fin 32) (e : Fin 128) :
    outs q k v r mask s (ix4 b h i e) = (∑ d : Fin 128, q (ix4 b h i d) * Ideal.exp (r (ix4 b h i d)) * s (ix4 b h d e))
      + ∑ j : Fin 32, (if mask (ix2 i j) = 1 then ∑ d : Fin 128, q (ix4 b h i d) * Ideal.exp (r (ix4 b h i d)) * (k (ix4 b h j d) * Ideal.exp (-r (ix4 b h j d))) else 0) * v (ix4 b h j e) := by
  pointwise [outs, dot_S4x6x32x128_S4x6x128x128_S4x6x32x128_3_2_2_3_01_01, dot_S4x6x32x32_S4x6x32x128_S4x6x32x128_3_2_2_3_01_01, dot_S4x6x32x128_S4x6x32x128_S4x6x32x32_3_3_2_2_01_01]
  have e0 : (id (constant S_ .f32 0x00000000#32) : FVec Ideal S_ .f32) ix0 = (0 : EReal) := Ideal.ofBits_zero .f32
  rw [e0]
  rfl

section

variable (V0 : Valuation τ sig (Elt Ideal))

set_option maxRecDepth 8192 in
theorem step_state : step_main_v71_6 V0
    = nextState (taken (V0 (Proc.devRef .tc main_v71_1)) (begins (V0 (Proc.devRef .tc main_v71_5)))) (taken (V0 (Proc.devRef .tc main_v71_2)) (begins (V0 (Proc.devRef .tc main_v71_5))))
        (runs (taken (V0 (Proc.devRef .tc main_v71_3)) (begins (V0 (Proc.devRef .tc main_v71_5))))) (V0 (Proc.devRef .tc main_v71_6)) := rfl

set_option maxRecDepth 8192 in
theorem step_outs : step_main_v71_7 V0
    = Host.dynamicUpdateSlice (s := S128x4x6x32x128) (V0 (Proc.devRef .tc main_v71_7)) (broadcastInDim S1x4x6x32x128 ![1, 2, 3, 4] bcast_S4x6x32x128_S1x4x6x32x128_1_2_3_4
        (outs (taken (V0 (Proc.devRef .tc main_v71_0)) (begins (V0 (Proc.devRef .tc main_v71_5)))) (taken (V0 (Proc.devRef .tc main_v71_1)) (begins (V0 (Proc.devRef .tc main_v71_5)))) (taken (V0 (Proc.devRef .tc main_v71_2)) (begins (V0 (Proc.devRef .tc main_v71_5))))
          (runs (taken (V0 (Proc.devRef .tc main_v71_3)) (begins (V0 (Proc.devRef .tc main_v71_5))))) (V0 (Proc.devRef .tc main_v71_4)) (V0 (Proc.devRef .tc main_v71_6))))
        (begins (V0 (Proc.devRef .tc main_v71_5))) updateFits_S128x4x6x32x128_S1x4x6x32x128 := by
  unfold step_main_v71_7 res_main_while0b_v99 res_main_while0b_v93 res_main_while0b_v94 res_main_while0b_v96 outs runs taken begins
  rfl

end

end Cert.Hgrn.Ref

end
-- ==== Proof.Hgrn.RefLoop.lean ====
module

public import proofs.«01_k».proof.Proof.Hgrn.RefRun
public import proofs.«01_k».proof.Proof.Hgrn.RefTrip
public import proofs.«01_k».proof.Proof.Hgrn.Masks
public import proofs.«01_k».proof.Proof.Hgrn.Spec

@[expose] public section

noncomputable section

namespace Cert.Hgrn.Ref

open Idealize.ShloMosaic Idealize.ShloMosaic.TcCoe Idealize.SL.Sem Cert.ReferenceIdeal Cert.ReferenceIdeal.Gen Cert.ReferenceIdeal.Value
open Idealize.ShloMosaic.StableHlo

/-! # The reference's loop: the state and the outputs after any number of chunks -/

variable (m : (ℓ : Loc nD τ sig) → Buf (Elt Ideal) ℓ) (c : Dev nD)

/-- The projection, the lower bounds and the output's norm, as the recurrence takes them. -/
abbrev Z (b r j : ℕ) : EReal := zall (A0 m c) (A1 m c) (A2 m c) b r j

abbrev LB (j : ℕ) : EReal := lows (A3 m c) j

abbrev ON (d : ℕ) : EReal := norms (A4 m c) d

theorem zv_apply (b : Fin 4) (r : Fin 4096) (j : Fin 3328) : zv m c (ix3 b r j) = Z m c b r j :=
  (zvec_apply _ _ _ b r j).trans (zall_eq _ _ _ b r j).symm

theorem gv_apply (b : Fin 4) (r : Fin 4096) (h : Fin 6) (d : Fin 128) : gv m c (ix4 b r h d) = gate (LB m c) (Z m c b) h r d := by
  have hh := h.isLt
  have hd := d.isLt
  refine (gates_apply _ _ b r h d).trans ?_
  rw [bounds_apply, sums_apply, heads_apply, part1_apply, zv_apply, ← lows_eq]
  unfold gate
  rw [show 128 * (6 + h.val) + d.val = 768 + (128 * h.val + d.val) by omega]

theorem lower_apply (i j : Fin 32) : lower (ix2 i j) = if j.val ≤ i.val then 1#1 else 0#1 := by
  have hi := i.isLt
  have hj := j.isLt
  pointwise [lower]
  have e1 : IntOp.addi (BitVec.ofNat 32 i.val) 0#32 = BitVec.ofNat 32 i.val := BitVec.add_zero _
  rw [e1, ge_word _ _ (by omega) (by omega)]
  split <;> rfl

section

variable (n : Fin 128) (b : Fin 4) (h : Fin 6) (i : Fin 32) (d : Fin 128)

/-- The queries a trip takes. -/
theorem trip_q : taken (entryContents preI m c (Proc.devRef .tc main_v71_0)) ![(n.val : Int), 0, 0, 0, 0] (ix4 b h i d)
    = Z m c b (32 * n + i) (128 * h + d) * Ideal.logistic (Z m c b (32 * n + i) (128 * h + d)) := by
  rw [entry_q, taken_apply, chunks_apply, heads_apply, queries_apply, part0_apply, zv_apply]

theorem trip_k : taken (entryContents preI m c (Proc.devRef .tc main_v71_1)) ![(n.val : Int), 0, 0, 0, 0] (ix4 b h i d)
    = 1 - gate (LB m c) (Z m c b) h (32 * n + i) d := by
  rw [entry_k, taken_apply, chunks_apply]
  have hn := n.isLt
  have hi := i.isLt
  refine Eq.trans ?_ (congrArg (1 - ·) (gv_apply m c b ⟨32 * n.val + i.val, by omega⟩ h d))
  pointwise

theorem trip_v : taken (entryContents preI m c (Proc.devRef .tc main_v71_2)) ![(n.val : Int), 0, 0, 0, 0] (ix4 b h i d)
    = vv (Z m c b) h n i d := by
  rw [entry_v, taken_apply, chunks_apply, heads_apply, part2_apply, zv_apply]
  unfold vv
  rw [show 128 * (12 + h.val) + d.val = 1536 + (128 * h.val + d.val) by omega]

theorem trip_g : taken (entryContents preI m c (Proc.devRef .tc main_v71_3)) ![(n.val : Int), 0, 0, 0, 0] (ix4 b h i d)
    = lgate (LB m c) (Z m c b) h (32 * n + i) d := by
  rw [entry_g, taken_apply, chunks_apply]
  have hn := n.isLt
  have hi := i.isLt
  exact congrArg Ideal.log (gv_apply m c b ⟨32 * n.val + i.val, by omega⟩ h d)

theorem trip_runs : runs (taken (entryContents preI m c (Proc.devRef .tc main_v71_3)) ![(n.val : Int), 0, 0, 0, 0]) (ix4 b h i d)
    = csum (LB m c) (Z m c b) h n i d := by
  rw [runs_apply]
  refine Finset.sum_congr rfl fun j _ => ?_
  rw [trip_g]
  rfl

theorem trip_ends : runs (taken (entryContents preI m c (Proc.devRef .tc main_v71_3)) ![(n.val : Int), 0, 0, 0, 0]) (ix4 b h 31 d)
    = ctot (LB m c) (Z m c b) h n d := by
  rw [trip_runs]
  refine Finset.sum_congr rfl fun j _ => if_pos ?_
  have := j.isLt
  show j.val ≤ 31
  omega

end

/-- The state at the start of chunk `n`, and the rows written by then. -/
theorem loop_holds : ∀ n, n ≤ 128 →
    (∀ (b : Fin 4) (h : Fin 6) (d e : Fin 128), (atK m n c (Proc.devRef .tc main_v71_6) : FVec Ideal S4x6x128x128 .f32) (ix4 b h d e) = St (LB m c) (Z m c b) h n d e)
    ∧ (∀ (k : Fin 128), k.val < n → ∀ (b : Fin 4) (h : Fin 6) (i : Fin 32) (e : Fin 128),
        (atK m n c (Proc.devRef .tc main_v71_7) : FVec Ideal S128x4x6x32x128 .f32) (ix5 k b h i e) = oo (LB m c) (Z m c b) h k i e)
  | 0, _ => by
    refine ⟨fun b h d e => ?_, fun k hk => absurd hk (Nat.not_lt_zero _)⟩
    rw [show atK m 0 c = entryContents preI m c from rfl, entry_state]
    exact Ideal.ofBits_zero .f32
  | n + 1, hn => by
    obtain ⟨ih6, ih7⟩ := loop_holds n (Nat.le_of_succ_le hn)
    have hs6 : atK m (n + 1) c (Proc.devRef .tc main_v71_6) = step_main_v71_6 (atK m n c) := by
      rw [atK_agree m c (n + 1) main_v71_6 (by decide), Function.iterate_succ_apply', STEP_main_v71_6]
      exact (step_main_v71_6_congr (atK_agree m c n)).symm
    have hs7 : atK m (n + 1) c (Proc.devRef .tc main_v71_7) = step_main_v71_7 (atK m n c) := by
      rw [atK_agree m c (n + 1) main_v71_7 (by decide), Function.iterate_succ_apply', STEP_main_v71_7]
      exact (step_main_v71_7_congr (atK_agree m c n)).symm
    have e0 := atK_keep m c main_v71_0 (by decide) n
    have e1 := atK_keep m c main_v71_1 (by decide) n
    have e2 := atK_keep m c main_v71_2 (by decide) n
    have e3 := atK_keep m c main_v71_3 (by decide) n
    have e4 := atK_keep m c main_v71_4 (by decide) n
    have hb : begins (atK m n c (Proc.devRef .tc main_v71_5)) = ![(n : Int), 0, 0, 0, 0] := by
      rw [atK_ctr]
      exact begins_eq hn
    refine ⟨fun b h d e => ?_, fun k hk b h i e => ?_⟩
    · rw [hs6, step_state, hb, e1, e2, e3]
      refine (nextState_apply _ _ _ _ b h d e).trans ?_
      rw [ih6, trip_ends m c ⟨n, hn⟩]
      refine congrArg (Ideal.exp (ctot (LB m c) (Z m c b) h n d) * St (LB m c) (Z m c b) h n d e + ·) (Finset.sum_congr rfl fun j _ => ?_)
      rw [trip_k m c ⟨n, hn⟩, trip_runs m c ⟨n, hn⟩, trip_v m c ⟨n, hn⟩]
      rfl
    · rw [hs7, step_outs, hb, e0, e1, e2, e3, e4]
      refine (written_apply _ _ ⟨n, hn⟩ k b h i e).trans ?_
      by_cases hkn : k = ⟨n, hn⟩
      · rw [if_pos hkn]
        have hkv : k.val = n := congrArg Fin.val hkn
        pointwise
        refine (outs_apply _ _ _ _ _ _ b h i e).trans ?_
        rw [hkv]
        refine congrArg₂ (· + ·) (Finset.sum_congr rfl fun d _ => ?_) (Finset.sum_congr rfl fun j _ => ?_)
        · rw [trip_q m c ⟨n, hn⟩, trip_runs m c ⟨n, hn⟩, ih6]
          rfl
        · rw [entry_mask, lower_apply, trip_v m c ⟨n, hn⟩]
          refine congrArg (· * vv (Z m c b) h n j e) ?_
          by_cases hji : j.val ≤ i.val
          · rw [if_pos hji, if_pos (show (1#1 : BitVec 1) = 1 from rfl), if_pos hji]
            refine Finset.sum_congr rfl fun d _ => ?_
            rw [trip_q m c ⟨n, hn⟩, trip_runs m c ⟨n, hn⟩, trip_runs m c ⟨n, hn⟩, trip_k m c ⟨n, hn⟩]
            rfl
          · rw [if_neg hji, if_neg (by decide), if_neg hji]
      · rw [if_neg hkn]
        have hkl : k.val < n := by
          have : k.val ≠ n := fun e => hkn (Fin.ext e)
          omega
        exact ih7 k hkl b h i e

end Cert.Hgrn.Ref

end
-- ==== Proof.Hgrn.RefPost.lean ====
module

public import proofs.«01_k».proof.Proof.Hgrn.RefLoop

@[expose] public section

noncomputable section

namespace Cert.Hgrn.Ref

open Idealize.ShloMosaic Idealize.ShloMosaic.TcCoe Idealize.SL.Sem Cert.ReferenceIdeal Cert.ReferenceIdeal.Gen Cert.ReferenceIdeal.Value
open Idealize.ShloMosaic.StableHlo

/-! # The reference's results -/

/-- The chunks laid out as rows again. -/
def rows (o : FVec Ideal S128x4x6x32x128 .f32) : FVec Ideal S4x4096x6x128 .f32 :=
  shapeCast S4x4096x6x128 (transpose S4x128x32x6x128 [1, 0, 3, 2, 4] o transposes_S128x4x6x32x128_S4x128x32x6x128_1_0_3_2_4) shapeCasts_S4x128x32x6x128_S4x4096x6x128

/-- The normalised, gated output. -/
def gated (o : FVec Ideal S4x4096x6x128 .f32) (no : FVec Ideal S128 .f32) (y : FVec Ideal S4x4096x6x128 .f32) : FVec Ideal S4x4096x6x128 .f32 :=
  mulf (mulf (mulf o (broadcastInDim S4x4096x6x128 ![0, 1, 2, 3] bcast_S4x4096x6x1_S4x4096x6x128_0_1_2_3
        (Host.rsqrt (addf (Host.divf (broadcastInDim S4x4096x6x1 ![0, 1, 2] bcast_S4x4096x6_S4x4096x6x1_0_1_2
              (Host.reduceAdd (mulf o o) (constant S_ .f32 0x00000000#32) reducesTo_S4x4096x6x128_S4x4096x6_d3 h_S_))
            (broadcastInDim S4x4096x6x1 ![] bcast_S_S4x4096x6x1 (constant S_ .f32 0x43000000#32)))
          (broadcastInDim S4x4096x6x1 ![] bcast_S_S4x4096x6x1 (constant S_ .f32 0x358637BD#32))))))
      (broadcastInDim S4x4096x6x128 ![0, 1, 2, 3] bcast_S1x1x1x128_S4x4096x6x128_0_1_2_3 (broadcastInDim S1x1x1x128 ![3] bcast_S128_S1x1x1x128_3 no)))
    (mulf y (Host.divf (broadcastInDim S4x4096x6x128 ![] bcast_S_S4x4096x6x128 (constant S_ .f32 0x3F800000#32))
      (addf (broadcastInDim S4x4096x6x128 ![] bcast_S_S4x4096x6x128 (constant S_ .f32 0x3F800000#32)) (Host.exp (Host.negf y)))))

theorem rows_apply (o : FVec Ideal S128x4x6x32x128 .f32) (b : Fin 4) (r : Fin 4096) (h : Fin 6) (d : Fin 128) :
    rows o (ix4 b r h d) = o (ix5 ⟨r.val / 32, by have := r.isLt; omega⟩ b h ⟨r.val % 32, by omega⟩ d) := by
  pointwise [rows]

theorem gated_apply (o : FVec Ideal S4x4096x6x128 .f32) (no : FVec Ideal S128 .f32) (y : FVec Ideal S4x4096x6x128 .f32)
    (b : Fin 4) (r : Fin 4096) (h : Fin 6) (d : Fin 128) :
    gated o no y (ix4 b r h d) = scale 1124073472#32 (∑ x : Fin 128, o (ix4 b r h x) * o (ix4 b r h x)) (o (ix4 b r h d)) * no (ix1 d)
      * (y (ix4 b r h d) * Ideal.logistic (y (ix4 b r h d))) := by
  pointwise [gated]
  rfl

section

variable (V : Valuation τ sig (Elt Ideal))

set_option maxRecDepth 8192 in
theorem post_out : afterL postI V (Proc.devRef .tc main_v90)
    = shapeCast S4x4096x768 (gated (rows (V (Proc.devRef .tc main_v71_7))) (V (Proc.devRef .tc main_v33)) (heads (V (Proc.devRef .tc main_v37)))) shapeCasts_S4x4096x6x128_S4x4096x768 := by
  simp only [afterL_cons, afterL_nil]
  after_reads_simp
  rfl

set_option maxRecDepth 8192 in
theorem post_rest : afterL postI V (Proc.devRef .tc main_v91)
    = extractStridedSlice S4x4096x256 ![0, 0, 3072] (V (Proc.devRef .tc main_v28) : FVec Ideal S4x4096x3328 .f32) slices_S4x4096x3328_S4x4096x256_0_0_3072 := by
  simp only [afterL_cons, afterL_nil]
  after_reads_simp

end

variable (m : (ℓ : Loc nD τ sig) → Buf (Elt Ideal) ℓ) (c : Dev nD)

/-- What the reference ends with, on core `c`. -/
abbrev fin : Valuation τ sig (Elt Ideal) := finalContents condOps preI bodyI postI 128 m c

theorem fin_eq : fin m c = afterL postI (after condOps (atK m 128 c)) := rfl

/-- The loop's last look at its condition keeps a buffer. -/
theorem cond_keep (V : Valuation τ sig (Elt Ideal)) (r : Ref sig .tc) (h : r ∉ condOps_W) : after condOps V (Proc.devRef .tc r) = V (Proc.devRef .tc r) :=
  after_of_writes_sub _ _ condOps_writes h

theorem out_apply (b : Fin 4) (r : Fin 4096) (j : Fin 768) :
    (fin m c (Proc.devRef .tc main_v90) : FVec Ideal S4x4096x768 .f32) (ix3 b r j) = yy (LB m c) (Z m c b) (ON m c) (j.val / 128) r (j.val % 128) := by
  have hr := r.isLt
  have hj := j.isLt
  rw [fin_eq, post_out, cond_keep _ main_v71_7 (by decide), cond_keep _ main_v33 (by decide), cond_keep _ main_v37 (by decide),
    atK_keep m c main_v33 (by decide) 128, atK_keep m c main_v37 (by decide) 128, entry_on, entry_out]
  pointwise
  have ho : ∀ d : Fin 128, rows (atK m 128 c (Proc.devRef .tc main_v71_7)) (ix4 b r ⟨j.val / 128, by omega⟩ d)
      = oo (LB m c) (Z m c b) (j.val / 128) (r.val / 32) (r.val % 32) d := fun d =>
    (rows_apply _ b r ⟨j.val / 128, by omega⟩ d).trans ((loop_holds m c 128 (le_refl _)).2 _ (by show r.val / 32 < 128; omega) b _ _ d)
  refine (gated_apply _ _ _ b r ⟨j.val / 128, by omega⟩ ⟨j.val % 128, by omega⟩).trans ?_
  rw [heads_apply, part3_apply, zv_apply]
  simp only [ho]
  have e : 2304 + (128 * (j.val / 128) + j.val % 128) = 128 * (18 + j.val / 128) + j.val % 128 := by omega
  rw [e]
  unfold yy
  refine congrArg₂ (· * ·) (congrArg₂ (· * ·) rfl ?_) rfl
  refine Eq.trans ?_ (norms_eq (A4 m c) ⟨j.val % 128, by omega⟩).symm
  pointwise

theorem rest_apply (b : Fin 4) (r : Fin 4096) (j : Fin 256) :
    (fin m c (Proc.devRef .tc main_v91) : FVec Ideal S4x4096x256 .f32) (ix3 b r j) = Z m c b r (3072 + j) := by
  have hj := j.isLt
  rw [fin_eq, post_rest, cond_keep _ main_v28 (by decide), atK_keep m c main_v28 (by decide) 128, entry_z]
  refine Eq.trans ?_ (zv_apply m c b r ⟨3072 + j.val, by omega⟩)
  pointwise

theorem state_apply (b : Fin 4) (h : Fin 6) (d e : Fin 128) :
    (fin m c (Proc.devRef .tc main_v71_6) : FVec Ideal S4x6x128x128 .f32) (ix4 b h d e) = St (LB m c) (Z m c b) h 128 d e := by
  rw [fin_eq, post_keep _ main_v71_6 (by decide), cond_keep _ main_v71_6 (by decide)]
  exact (loop_holds m c 128 (le_refl _)).1 b h d e

end Cert.Hgrn.Ref

end
-- ==== Proof.Hgrn.Algebraic.lean ====
/- Both programs compute the recurrence of `Spec.lean` of their arguments, so equal arguments give equal results. -/
module

public import proofs.«01_k».proof.Defs
public import proofs.«01_k».proof.Proof.Hgrn.Inputs
public import proofs.«01_k».proof.Proof.Hgrn.RefPost

@[expose] public section

noncomputable section

namespace Cert.Hgrn

open Idealize.ShloMosaic Idealize.ShloMosaic.TcCoe Idealize.SL.Sem

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two launches give their arguments the same contents. -/
structure Same : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m' c} (hs : Same m m' c)
include hs

theorem same_Z : Ref.Z m' c = Z m c := by
  funext b r j
  unfold Ref.Z Z Ref.A0 Ref.A1 Ref.A2
  rw [hs.a0, hs.a1, hs.a2]

theorem same_LB : Ref.LB m' c = LB m c := by
  funext j
  unfold Ref.LB LB Ref.A3
  rw [hs.a3]

theorem same_ON : Ref.ON m' c = ON m c := by
  funext j
  unfold Ref.ON ON Ref.A4
  rw [hs.a4]

theorem same_out : (Ref.fin m' c (Proc.devRef .tc Cert.ReferenceIdeal.main_v90) : FVec Ideal ⟨3, ![4, 4096, 768]⟩ .f32) = Cert.KernelIdeal.Value.G6 m c := by
  funext i
  have e : i = ix3 (i 0) (i 1) (i 2) := ext3 rfl rfl rfl
  rw [e]
  refine (Ref.out_apply m' c (i 0) (i 1) (i 2)).trans (Eq.trans ?_ (result6 m c (i 0) (i 1) (i 2)).symm)
  rw [same_Z hs, same_LB hs, same_ON hs]

theorem same_rest : (Ref.fin m' c (Proc.devRef .tc Cert.ReferenceIdeal.main_v91) : FVec Ideal ⟨3, ![4, 4096, 256]⟩ .f32) = Cert.KernelIdeal.Value.G7 m c := by
  funext i
  have e : i = ix3 (i 0) (i 1) (i 2) := ext3 rfl rfl rfl
  rw [e]
  refine (Ref.rest_apply m' c (i 0) (i 1) (i 2)).trans (Eq.trans ?_ (result7 m c (i 0) (i 1) (i 2)).symm)
  rw [same_Z hs]

theorem same_state : (Ref.fin m' c (Proc.devRef .tc Cert.ReferenceIdeal.main_v71_6) : FVec Ideal ⟨4, ![4, 6, 128, 128]⟩ .f32) = Cert.KernelIdeal.Value.G8 m c := by
  funext i
  have e : i = ix4 (i 0) (i 1) (i 2) (i 3) := ext4 rfl rfl rfl rfl
  rw [e]
  refine (Ref.state_apply m' c (i 0) (i 1) (i 2) (i 3)).trans (Eq.trans ?_ (result8 m c (i 0) (i 1) (i 2) (i 3)).symm)
  rw [same_Z hs, same_LB hs]

end

open Cert.ReferenceIdeal Cert.ReferenceIdeal.Value in
/-- The call and the reference compute the same extended reals. -/
theorem algebraic : Cert.algebraic_KernelIdeal_ReferenceIdeal (hKernelIdeal := Cert.KernelIdeal.Gen.facts) (hReferenceIdeal := Cert.ReferenceIdeal.Gen.facts) :=
  fun m g m' g' _ h => by
    have hs : ∀ c, Same m m' c := fun c => ⟨(h c).1, (h c).2.1, (h c).2.2.1, (h c).2.2.2.1, (h c).2.2.2.2⟩
    refine ⟨fun c => Cert.KernelIdeal.Value.G6 m c, fun c => Cert.KernelIdeal.Value.G7 m c, fun c => Cert.KernelIdeal.Value.G8 m c,
      Cert.KernelIdeal.Value.run m g, ?_⟩
    refine (θ_run _ _ _).mono (fun r hr c => ?_) (run_fold m' g')
    exact ⟨(hr c main_v90 rfl).trans (same_out (hs c)), (hr c main_v91 rfl).trans (same_rest (hs c)), (hr c main_v71_6 rfl).trans (same_state (hs c)),
      (hr c main_arg0 rfl).trans (Ref.keep m' c main_arg0 (by decide)), (hr c main_arg1 rfl).trans (Ref.keep m' c main_arg1 (by decide)),
      (hr c main_arg2 rfl).trans (Ref.keep m' c main_arg2 (by decide)), (hr c main_arg3 rfl).trans (Ref.keep m' c main_arg3 (by decide)),
      (hr c main_arg4 rfl).trans (Ref.keep m' c main_arg4 (by decide))⟩

end Cert.Hgrn

end
-- ==== Proof.Ffn.Kit.lean ====
/- What the pipeline of the feed-forward call finds in its arrays and hands to the body at each point. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The second coordinate of a point -/

/-- Point `t` is block `t % 16` of its sequence. -/
theorem coord1 (t : Fin cfg0.N) : (grid0.coords t 1).val = t.val % 16 := by
  have e1 : (grid0.coords t 1).val = t.val / 1 % 16 := Pipeline.Grid.coords_val t 1 (by decide) rfl
  rw [e1, Nat.div_one]

/-- The kernel's test for the first block of a sequence, as the word it computes. -/
abbrev firstW (i : grid0.Coords) : BitVec 1 := Scalar.cmpi .eq (BitVec.ofNat 32 (i 1).val) 0#32

/-- It is one at the first block of each sequence and nought elsewhere. -/
theorem firstW_pos (t : Fin cfg0.N) (h : t.val % 16 = 0) : firstW (grid0.coords t) = 1#1 := by
  unfold firstW; rw [coord1, h]; rfl
theorem firstW_neg (t : Fin cfg0.N) (h : ¬t.val % 16 = 0) : firstW (grid0.coords t) = 0#1 := by
  have hw : ∀ n : Fin 16, n.val ≠ 0 → Scalar.cmpi .eq (BitVec.ofNat 32 n.val) 0#32 = 0#1 := by decide
  unfold firstW; rw [coord1]
  exact hw ⟨t.val % 16, Nat.mod_lt _ (by decide)⟩ h

/-! ## The kernel body on any staging memrefs: a subtype the run finds -/

abbrev VO0_9 : View sig .tc .vmem S256x1024 .f32 := (Memref.whole cc0_stg9_0 : Memref sig .tc .vmem S256x1024 .f32).view
abbrev VO0_10 : View sig .tc .vmem S1x8x2816 .f32 := (Memref.whole cc0_stg10_0 : Memref sig .tc .vmem S1x8x2816 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2816 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x2816 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2816 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2816x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2816 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x2816 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x2816 .f32 := win0_10.stage (cfg0.slots t 10)
abbrev hs0_10 (t : Fin cfg0.N) : (ms0_10 t).IsWhole := hstage0_10 ((cfg0.slots t 10).cast nbuf0_10)
abbrev scM0_0 : Memref sig .tc .vmem S8x2816 .f32 := Memref.whole cc0_scratch0
abbrev VS0_0 : View sig .tc .vmem S8x2816 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Ffn

end
-- ==== Proof.Ffn.Run.lean ====
/- One run of the kernel body of the feed-forward call, from any carried rows. -/
module

public import proofs.«01_k».proof.Proof.Ffn.Kit

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in its two outputs and in the rows it carries, as pieces, with the proof that it runs and leaves
    them: from its nine inputs and from whatever rows the point before left. -/
def kernelRun (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1x2816 .f32) (harg9 : arg9.IsWhole) (arg10 : Memref sig .tc .vmem S1x2x2816 .f32) (harg10 : arg10.IsWhole) (arg11 : Memref sig .tc .vmem S256x1024 .f32) (harg11 : arg11.IsWhole) (arg12 : Memref sig .tc .vmem S1x8x2816 .f32) (harg12 : arg12.IsWhole) (arg13 : Memref sig .tc .vmem S8x2816 .f32) (harg13 : arg13.IsWhole)
    (x0 : Vec F S256x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (x7 : Vec F S1x1x2816 .f32) (x8 : Vec F S1x2x2816 .f32) (xs0 : Vec F S8x2816 .f32) :
    Σ' (L9 : List (View.Piece (Elt F) S256x1024 .f32)), Σ' (L10 : List (View.Piece (Elt F) S1x8x2816 .f32)), { LS0 : List (View.Piece (Elt F) S8x2816 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0_conv_ffn_long i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_conv_ffn_long_eq_skeleton]; unfold cc0_conv_ffn_long_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS0

end Cert.Ffn

end
-- ==== Proof.Ffn.Block.lean ====
/- One column chunk of the feed-forward kernel as vector functions of what the chunk loads, and the stores a grid point
   makes, written as recursions over its eleven chunks. Nothing here depends on the values. -/
module

public import proofs.«01_k».proof.Proof.Ffn.Run

@[expose] public section

noncomputable section

namespace Cert.Ffn

open Idealize.ShloMosaic Cert.Kernel2Ideal Cert.Kernel2Ideal.Gen

variable {F : FTy → Type} [FloatOps F]

/-! ## The parts of the operands a chunk loads -/

/-- In-bounds evidence at rank three, axis by axis. -/
theorem inb3 {d off size : Fin 3 → ℕ} (h0 : off 0 + size 0 ≤ d 0) (h1 : off 1 + size 1 ≤ d 1) (h2 : off 2 + size 2 ≤ d 2) :
    ∀ a, off a + size a ≤ (⟨3, d⟩ : Shape).size a :=
  Fin.forall_fin_succ.mpr ⟨h0, Fin.forall_fin_succ.mpr ⟨h1, Fin.forall_fin_one.mpr h2⟩⟩

/-- 256 columns of a projection. -/
def rectW (k : ℕ) (hk : k < 11) : Rect S1024x2816 :=
  Rect.unit ![0, 256 * k] S1024x256.size (Rect.inb₂ (by show 0 + 1024 ≤ 1024; omega) (by show 256 * k + 256 ≤ 2816; omega))

/-- 256 rows of the projection back. -/
def rectD (k : ℕ) (hk : k < 11) : Rect S2816x1024 :=
  Rect.unit ![256 * k, 0] S256x1024.size (Rect.inb₂ (by show 256 * k + 256 ≤ 2816; omega) (by show 0 + 1024 ≤ 1024; omega))

/-- 256 columns of one row of the convolution. -/
def rectC (r : ℕ) (hr : r < 3) (k : ℕ) (hk : k < 11) : Rect S3x2816 :=
  Rect.unit ![r, 256 * k] S1x256.size (Rect.inb₂ (by show r + 1 ≤ 3; omega) (by show 256 * k + 256 ≤ 2816; omega))

/-- 256 columns of its bias. -/
def rectB (k : ℕ) (hk : k < 11) : Rect S1x2816 :=
  Rect.unit ![0, 256 * k] S1x256.size (Rect.inb₂ (by show 0 + 1 ≤ 1; omega) (by show 256 * k + 256 ≤ 2816; omega))

/-- 256 columns of the row before the sequence. -/
def rectP (k : ℕ) (hk : k < 11) : Rect S1x1x2816 :=
  Rect.unit ![0, 0, 256 * k] S1x1x256.size (inb3 (by show 0 + 1 ≤ 1; omega) (by show 0 + 1 ≤ 1; omega) (by show 256 * k + 256 ≤ 2816; omega))

/-- 256 columns of one of the two rows before the sequence. -/
def rectQ (r : ℕ) (hr : r < 2) (k : ℕ) (hk : k < 11) : Rect S1x2x2816 :=
  Rect.unit ![0, r, 256 * k] S1x1x256.size (inb3 (by show 0 + 1 ≤ 1; omega) (by show r + 1 ≤ 2; omega) (by show 256 * k + 256 ≤ 2816; omega))

/-- 256 columns of the carried rows. -/
def rectR (k : ℕ) (hk : k < 11) : Rect S8x2816 :=
  Rect.unit ![0, 256 * k] S8x256.size (Rect.inb₂ (by show 0 + 8 ≤ 8; omega) (by show 256 * k + 256 ≤ 2816; omega))

/-- 256 columns of the last rows handed out. -/
def rectU (k : ℕ) (hk : k < 11) : Rect S1x8x2816 :=
  Rect.unit ![0, 0, 256 * k] S1x8x256.size (inb3 (by show 0 + 1 ≤ 1; omega) (by show 0 + 8 ≤ 8; omega) (by show 256 * k + 256 ≤ 2816; omega))

section

variable (b : BitVec 1) (X : Vec F S256x1024 .f32) (N : Vec F S1x1024 .f32) (WG WU : Vec F S1024x2816 .bf16)
  (CW : Vec F S3x2816 .f32) (CB : Vec F S1x2816 .f32) (WD : Vec F S2816x1024 .bf16) (P : Vec F S1x1x2816 .f32) (Q : Vec F S1x2x2816 .f32)
  (C : Vec F S8x2816 .f32)

/-- The block's rows, normalised. -/
def normed : FVec F S256x1024 .bf16 :=
  k0_pay4 (View.ld X (Rect.unit ![0, 0] S256x1024.size inb_S256x1024_S256x1024_0_0)) (View.ld N (Rect.unit ![0, 0] S1x1024.size inb_S1x1024_S1x1024_0_0))

/-- Chunk `k` of the gate projection. -/
def gate (k : ℕ) (hk : k < 11) : FVec F S256x256 .f32 := k0_pay8 (normed X N) (View.ld WG (rectW k hk))

/-- Chunk `k` of the up projection. -/
def upProj (k : ℕ) (hk : k < 11) : FVec F S256x256 .f32 := k0_pay9 (normed X N) (View.ld WU (rectW k hk))

/-- Each row of the gate projection's predecessor: `b` says the block is the first of its sequence. -/
def back1 (k : ℕ) (hk : k < 11) : FVec F S256x256 .f32 :=
  k0_pay20 k0_pay5 b (gate X N WG k hk) (View.ld C (rectR k hk)) (View.ld P (rectP k hk))

/-- Each row's second predecessor. -/
def back2 (k : ℕ) (hk : k < 11) : FVec F S256x256 .f32 :=
  k0_pay21 k0_pay5 b (gate X N WG k hk) (View.ld C (rectR k hk)) (View.ld Q (rectQ 0 (by decide) k hk)) (View.ld Q (rectQ 1 (by decide) k hk))

/-- The rows after `n` chunks. -/
def acc : (n : ℕ) → n ≤ 11 → FVec F S256x1024 .f32
  | 0, _ => k0_pay3 (View.ld X (Rect.unit ![0, 0] S256x1024.size inb_S256x1024_S256x1024_0_0))
  | n + 1, h => k0_pay24 (gate X N WG n (by omega)) (upProj X N WU n (by omega)) (acc n (by omega))
      (back1 b X N WG P C n (by omega)) (back2 b X N WG Q C n (by omega))
      (k0_pay23 (View.ld CB (rectB n (by omega)))) (View.ld CW (rectC 0 (by decide) n (by omega))) (View.ld CW (rectC 1 (by decide) n (by omega)))
      (View.ld CW (rectC 2 (by decide) n (by omega))) (View.ld WD (rectD n (by omega)))

/-- The one store of the rows. -/
def rowStores : List (View.Piece (Elt F) S256x1024 .f32) :=
  [⟨Rect.unit ![0, 0] S256x1024.size inb_S256x1024_S256x1024_0_0, acc b X N WG WU CW CB WD P Q C 11 le_rfl⟩]

/-- The stores of the last eight rows of the gate projection (the last store first). -/
def lastStores : (n : ℕ) → n ≤ 11 → List (View.Piece (Elt F) S1x8x2816 .f32)
  | 0, _ => []
  | n + 1, h => ⟨rectU n (by omega), k0_pay25 (gate X N WG n (by omega))⟩ :: lastStores n (by omega)

/-- The stores of the same rows where the next point finds them (the last store first). -/
def carryStores : (n : ℕ) → n ≤ 11 → List (View.Piece (Elt F) S8x2816 .f32)
  | 0, _ => []
  | n + 1, h => ⟨rectR n (by omega), k0_pay22 (gate X N WG n (by omega))⟩ :: carryStores n (by omega)

/-- At the first block of a sequence the carried rows do not matter. -/
theorem acc_first (C' : Vec F S8x2816 .f32) : ∀ (n : ℕ) (h : n ≤ 11),
    acc 1#1 X N WG WU CW CB WD P Q C n h = acc 1#1 X N WG WU CW CB WD P Q C' n h
  | 0, _ => rfl
  | n + 1, h => by
    unfold acc
    rw [acc_first C' n (by omega)]
    rfl

/-- At the other blocks the rows before the sequence do not matter. -/
theorem acc_later (P' : Vec F S1x1x2816 .f32) (Q' : Vec F S1x2x2816 .f32) : ∀ (n : ℕ) (h : n ≤ 11),
    acc 0#1 X N WG WU CW CB WD P Q C n h = acc 0#1 X N WG WU CW CB WD P' Q' C n h
  | 0, _ => rfl
  | n + 1, h => by
    unfold acc
    rw [acc_later P' Q' n (by omega)]
    rfl

end

end Cert.Ffn

end
-- ==== Proof.Ffn.Stores.lean ====
/- The body of the feed-forward kernel makes exactly the stores of Block.lean. -/
module

public import proofs.«01_k».proof.Proof.Ffn.Block

@[expose] public section

set_option maxRecDepth 20000

noncomputable section

namespace Cert.Ffn

open Idealize.ShloMosaic Cert.Kernel2Ideal Cert.Kernel2Ideal.Gen

variable {F : FTy → Type} [FloatOps F]

variable (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1x2816 .f32) (harg9 : arg9.IsWhole) (arg10 : Memref sig .tc .vmem S1x2x2816 .f32) (harg10 : arg10.IsWhole) (arg11 : Memref sig .tc .vmem S256x1024 .f32) (harg11 : arg11.IsWhole) (arg12 : Memref sig .tc .vmem S1x8x2816 .f32) (harg12 : arg12.IsWhole) (arg13 : Memref sig .tc .vmem S8x2816 .f32) (harg13 : arg13.IsWhole)
    (x0 : Vec F S256x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (x7 : Vec F S1x1x2816 .f32) (x8 : Vec F S1x2x2816 .f32) (xs0 : Vec F S8x2816 .f32)

theorem run_rows_read : (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0).1 = rowStores (firstW i) (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg13.view.read (Elt F) (harg13.unread xs0)) := by rfl

theorem run_last_read : (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0).2.1 = lastStores (arg2.view.read (Elt F) (harg2.unread x0)) (arg3.view.read (Elt F) (harg3.unread x1)) (arg4.view.read (Elt F) (harg4.unread x2)) 11 le_rfl := by rfl

theorem run_carry_read : (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0).2.2.1 = carryStores (arg2.view.read (Elt F) (harg2.unread x0)) (arg3.view.read (Elt F) (harg3.unread x1)) (arg4.view.read (Elt F) (harg4.unread x2)) 11 le_rfl := by rfl

/-- The store of the rows, over the blocks the point finds. -/
theorem run_rows : (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0).1 = rowStores (firstW i) x0 x1 x2 x3 x4 x5 x6 x7 x8 xs0 := by
  refine (run_rows_read c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0).trans ?_
  simp only [Memref.IsWhole.read_unread]

/-- The stores of the last rows. -/
theorem run_last : (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0).2.1 = lastStores x0 x1 x2 11 le_rfl := by
  refine (run_last_read c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0).trans ?_
  simp only [Memref.IsWhole.read_unread]

/-- The stores of the carried rows. -/
theorem run_carry : (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0).2.2.1 = carryStores x0 x1 x2 11 le_rfl := by
  refine (run_carry_read c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs0).trans ?_
  simp only [Memref.IsWhole.read_unread]

end Cert.Ffn

end
-- ==== Proof.Ffn.Frame.lean ====
/- What each point of the feed-forward call leaves, the run of its pipeline, and its frame. -/
module

public import proofs.«01_k».proof.Proof.Ffn.Stores
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (b : BitVec 1) (X : Vec F S256x1024 .f32) (N : Vec F S1x1024 .f32) (WG WU : Vec F S1024x2816 .bf16)
  (CW : Vec F S3x2816 .f32) (CB : Vec F S1x2816 .f32) (WD : Vec F S2816x1024 .bf16) (P : Vec F S1x1x2816 .f32) (Q : Vec F S1x2x2816 .f32)
  (C : Vec F S8x2816 .f32)

/-! ## The stores cover what they write -/

theorem cover_rows (y : S256x1024.Idx) : ∃ pc ∈ rowStores b X N WG WU CW CB WD P Q C, y ∈ pc.1.set :=
  View.cover_of_tiledL (rowStores b X N WG WU CW CB WD P Q C) S256x1024.size (by sl_kernel_rfl) y

theorem cover_last (y : S1x8x2816.Idx) : ∃ pc ∈ lastStores X N WG 11 le_rfl, y ∈ pc.1.set :=
  View.cover_of_tiledL (lastStores X N WG 11 le_rfl) S1x8x256.size (by sl_kernel_rfl) y

theorem cover_carry (y : S8x2816.Idx) : ∃ pc ∈ carryStores X N WG 11 le_rfl, y ∈ pc.1.set :=
  View.cover_of_tiledL (carryStores X N WG 11 le_rfl) S8x256.size (by sl_kernel_rfl) y

end

/-! ## What a point leaves -/

/-- The rows of the gate projection point `t` carries on: the last eight of its block. -/
def carryAt (c : Dev nD) (t : Fin cfg0.N) : Vec F S8x2816 .f32 := View.canon (carryStores (iblk m c 0 t) (iblk m c 1 t) (iblk m c 2 t) 11 le_rfl)

/-- The same rows as it hands them out. -/
def lastAt (c : Dev nD) (t : Fin cfg0.N) : Vec F S1x8x2816 .f32 := View.canon (lastStores (iblk m c 0 t) (iblk m c 1 t) (iblk m c 2 t) 11 le_rfl)

/-- The carried rows before position `n`: anything before the first point. -/
def carried (c : Dev nD) : (n : ℕ) → n ≤ cfg0.N → Vec F S8x2816 .f32
  | 0, _ => View.canon []
  | n + 1, h => carryAt m c ⟨n, h⟩

/-- The rows of the result at point `t`, over carried rows `C`. -/
def rowsOver (c : Dev nD) (t : Fin cfg0.N) (C : Vec F S8x2816 .f32) : Vec F S256x1024 .f32 :=
  View.canon (rowStores (firstW (grid0.coords t)) (iblk m c 0 t) (iblk m c 1 t) (iblk m c 2 t) (iblk m c 3 t) (iblk m c 4 t) (iblk m c 5 t) (iblk m c 6 t) (iblk m c 7 t) (iblk m c 8 t) C)

/-- The rows of the result at point `t`. -/
def rowsAt (c : Dev nD) (t : Fin cfg0.N) : Vec F S256x1024 .f32 := rowsOver m c t (carried m c t.val (Nat.le_of_lt t.isLt))

/-- The first point of a sequence does not depend on what it finds carried. -/
theorem rowsOver_first (c : Dev nD) (t : Fin cfg0.N) (h : t.val % 16 = 0) (C C' : Vec F S8x2816 .f32) :
    rowsOver m c t C = rowsOver m c t C' := by
  unfold rowsOver
  rw [firstW_pos t h]
  unfold rowStores
  rw [acc_first _ _ _ _ _ _ _ _ _ C C']

/-- What the region's invariant says of the carried rows before position `n`. -/
def PhiS (c : Dev nD) : (n : ℕ) → n ≤ cfg0.N → sProp 𝕄
  | 0, _ => Pipeline.ΦA spec0 c
  | n + 1, hn => iprop(iprop(owns (c : Thread nD τ) scM0_0 fullShare (carryAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (carryAt m c t)) ∗ (∃ r, prngReg c r)) := rfl

theorem PhiS_pos (c : Dev nD) (n : ℕ) (h : n ≤ cfg0.N) (hz : n ≠ 0) :
    PhiS m c n h = iprop(iprop(owns (c : Thread nD τ) scM0_0 fullShare (carried m c n h)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => rowsAt m c t
    | ⟨10, _⟩ => lastAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = rowsAt m c t := by dsimp only [dats]
theorem after0_10 (c : Dev nD) (t : Fin cfg0.N) : (dats m 0 c).after 10 t = lastAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: the inputs' buffers hold their blocks, so the run applies; before the first point of all the carried
    rows are anything, and that point does not depend on them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  unfold carryAt lastAt
  by_cases hz : t.val = 0
  · rw [PhiS_castSucc m c t, PhiS_zero m c _ _ hz, PhiA0_eq]
    iintro ⟨⟨⟨%C, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    iintro ⟨H0, H1, H2, H3, H4, H5, H6, H7, H8, ⟨%e9, H9⟩, ⟨%e10, H10⟩, ⟨%es0, HS0⟩⟩
    isplitl [HS0 Hg]
    · isplitl [HS0]
      · unfold owns; iexists _; isplitr
        swap; · iexact HS0
        ipureintro; rw [run_carry]; exact View.read_writes_eq_canon _ _ _ (cover_carry _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; rw [run_rows]; exact (View.read_writes_eq_canon _ _ _ (cover_rows _ _ _ _ _ _ _ _ _ _ _)).trans (rowsOver_first m c t (by rw [hz]) _ _)
    unfold owns; iexists _; isplitr
    swap; · iexact H10
    ipureintro; rw [run_last]; exact View.read_writes_eq_canon _ _ _ (cover_last _ _ _)
  · rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    iintro ⟨H0, H1, H2, H3, H4, H5, H6, H7, H8, ⟨%e9, H9⟩, ⟨%e10, H10⟩, ⟨%es0, HS0⟩⟩
    isplitl [HS0 Hg]
    · isplitl [HS0]
      · unfold owns; iexists _; isplitr
        swap; · iexact HS0
        ipureintro; rw [run_carry]; exact View.read_writes_eq_canon _ _ _ (cover_carry _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; rw [run_rows]; exact View.read_writes_eq_canon _ _ _ (cover_rows _ _ _ _ _ _ _ _ _ _ _)
    unfold owns; iexists _; isplitr
    swap; · iexact H10
    ipureintro; rw [run_last]; exact View.read_writes_eq_canon _ _ _ (cover_last _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Ffn

end
-- ==== Proof.Ffn.Frames.lean ====
/- The frames of the feed-forward call and of its reference. The compiled program and its ideal reading have the same
   text, so one run over any float format serves both frames. -/
module

public import proofs.«01_k».proof.Defs
public import proofs.«01_k».proof.Proof.Gen.Kernel2
public import proofs.«01_k».proof.Proof.Gen.Reference2Ideal.Run
public import proofs.«01_k».proof.Proof.Ffn.Frame

@[expose] public section

noncomputable section

namespace Cert.Ffn

open Idealize.ShloMosaic Idealize.SL.Sem

/-- The two programs' one kernel function is the same function. -/
theorem bodies_eq : Cert.Kernel2.defs₀ (F := Bits) = Cert.Kernel2Ideal.defs₀ :=
  congrArg Defs.onTc (funext fun l => funext fun a => by
    match l, a with
    | 0, (t, s) => rfl
    | ⟨_ + 1, h⟩, _ => exact absurd h (Nat.not_lt.2 (Nat.le_add_left _ _)))

/-- So the two programs have the same functions. -/
theorem defs_eq : Cert.Kernel2.defs (F := Bits) = Cert.Kernel2Ideal.defs :=
  congrArg (Pipeline.defs Cert.Kernel2.pcfgs) bodies_eq

/-- The compiled call terminates, keeps its arguments and ends with its counters at zero. -/
theorem frame_kernel : Cert.quiescent_Kernel2 (hKernel2 := Cert.Kernel2.Gen.facts) := fun m ρ _ => by
  rw [defs_eq]
  exact Cert.Ffn.frame (F := Bits) m ρ

/-- The same of the ideal reading. -/
theorem frame_ideal : Cert.quiescent_Kernel2Ideal (hKernel2Ideal := Cert.Kernel2Ideal.Gen.facts) := fun m ρ _ =>
  Cert.Ffn.frame (F := Ideal) m ρ

/-- The same of the reference. -/
theorem frame_ref : Cert.quiescent_Reference2Ideal (hReference2Ideal := Cert.Reference2Ideal.Gen.facts) := fun m ρ _ =>
  (θ_run _ _ _).mono (fun r h => ⟨fun c => (h c).2.2, sem_eq_zero_of_no_sems (by decide) r.2⟩) (Cert.Reference2Ideal.Value.run (F := Ideal) m ρ)

end Cert.Ffn

end
-- ==== Proof.Ffn.Value.lean ====
/- The two arrays the feed-forward call leaves, block by block: the rows, each block written by its own point, and the
   last rows of each sequence, written by the last of the sequence's sixteen points. -/
module

public import proofs.«01_k».proof.Proof.Ffn.Frame
public import Idealize.ShloMosaic.Lib.Pipeline.Value

@[expose] public section

noncomputable section

namespace Cert.Ffn

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The rows -/

/-- The block of the rows that holds index `i`, which is the point that writes it. -/
abbrev run9Of (i : S16384x1024.Idx) : ℕ := 1 * ((i 0).val / 256 - 0) + 1 * ((i 1).val / 1024 - 0)
set_option backward.proofsInPublic true in
abbrev loc9Of (i : S16384x1024.Idx) : S256x1024.Idx := fun a => match a with
  | ⟨0, _⟩ => ⟨(i 0).val % 256, Nat.mod_lt _ (by decide)⟩
  | ⟨1, _⟩ => ⟨(i 1).val % 1024, Nat.mod_lt _ (by decide)⟩
abbrev pt9Of (i : S16384x1024.Idx) : ℕ := run9Of i

/-- The rows after the run: at each index what the point that writes its block leaves at its place in the block. -/
def G9 (c : Dev nD) : Buf (Elt F) ((c : Thread nD τ).loc main_v8_0) := fun i =>
  if h : pt9Of i < cfg0.N then
    rowsAt m c ⟨pt9Of i, h⟩ (loc9Of i)
  else V m c (Pipeline.arrRef spec0 9) i

/-- Point `t` writes block `t` of the rows. -/
theorem idx_facts9 : ∀ t : Fin cfg0.N, 0 ≤ win0_9.index t (0 : Fin 2) ∧ win0_9.index t (0 : Fin 2) ≤ 63
    ∧ 0 ≤ win0_9.index t (1 : Fin 2) ∧ win0_9.index t (1 : Fin 2) ≤ 0
    ∧ 1 * (win0_9.index t (0 : Fin 2) - 0) + 1 * (win0_9.index t (1 : Fin 2) - 0) = t.val :=
  (by decide +kernel : ∀ t : Fin grid0.N, _)

abbrev onto9Pt (q0 : Fin 64) (q1 : Fin 1) : Fin grid0.N :=
  ⟨1 * q0.val + 1 * q1.val, lt_of_lt_of_eq (by omega) N_0.symm⟩
/-- Every block of the rows is some point's. -/
theorem idx_onto9 : ∀ (q0 : Fin 64) (q1 : Fin 1), ∃ t : Fin cfg0.N, (cfg0.win 9).flush t = true ∧ win0_9.index t = ![q0.val + 0, q1.val + 0] :=
  fun q0 q1 => ⟨onto9Pt q0 q1, (by decide +kernel : ∀ (q0 : Fin 64) (q1 : Fin 1), win0_9.flush (onto9Pt q0 q1) = true ∧ win0_9.index (onto9Pt q0 q1) = ![q0.val + 0, q1.val + 0]) q0 q1⟩

/-- What a point writes back is its block of `G9`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9]
  obtain ⟨e0, e1, e2⟩ := idx_facts9 t
  funext y
  have hy0 : (y 0).val < 256 := (y 0).isLt
  have hy1 : (y 1).val < 1024 := (y 1).isLt
  have hb0 : (((cfg0.win 9).blk t).view.emb y 0).val = win0_9.index t (0 : Fin 2) * 256 + 1 * (y 0).val := rfl
  have hb1 : (((cfg0.win 9).blk t).view.emb y 1).val = win0_9.index t (1 : Fin 2) * 1024 + 1 * (y 1).val := rfl
  have hr : run9Of (((cfg0.win 9).blk t).view.emb y) = t.val := by
    show 1 * ((((cfg0.win 9).blk t).view.emb y 0).val / 256 - 0) + 1 * ((((cfg0.win 9).blk t).view.emb y 1).val / 1024 - 0) = _
    rw [hb0, hb1]
    rw [show (win0_9.index t (0 : Fin 2) * 256 + 1 * (y 0).val) / 256 = win0_9.index t (0 : Fin 2) from by omega]; rw [show (win0_9.index t (1 : Fin 2) * 1024 + 1 * (y 1).val) / 1024 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 256 = (y 0).val; rw [hb0]; omega
    | ⟨1, _⟩ => show (((cfg0.win 9).blk t).view.emb y 1).val % 1024 = (y 1).val; rw [hb1]; omega
  have hp : pt9Of (((cfg0.win 9).blk t).view.emb y) = t.val := by
    exact hr
  show rowsAt m c t ((cfg0.win 9).xinj (grid0.coords t) y) = G9 m c (((cfg0.win 9).blk t).view.emb y)
  unfold G9
  rw [dif_pos (by rw [hp]; exact t.isLt), hl]
  congr 2; exact Fin.ext hp.symm

/-- An index is in a point's block iff each coordinate is in the range of the block. -/
theorem mem_blk9 (t : Fin cfg0.N) (i : S16384x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v8_0).slice (win0_9.rect t)).set ↔ _
  rw [View.set_slice_whole, Rect.mem_set_unit]
  exact Iff.rfl

/-- The points' blocks fill the array. -/
theorem covered_iff9 (i : S16384x1024.Idx) :
    (∃ t : Fin cfg0.N, (cfg0.win 9).flush t = true ∧ i ∈ ((cfg0.win 9).blk t).view.set) ↔ 0 ≤ (i 0).val ∧ (i 0).val < 16384 ∧ 0 ≤ (i 1).val ∧ (i 1).val < 1024 := by
  constructor
  · rintro ⟨t, -, hi⟩
    rw [mem_blk9] at hi
    have b0 : win0_9.index t (0 : Fin 2) * 256 ≤ (i 0).val ∧ (i 0).val < win0_9.index t (0 : Fin 2) * 256 + 256 := hi 0
    have b1 : win0_9.index t (1 : Fin 2) * 1024 ≤ (i 1).val ∧ (i 1).val < win0_9.index t (1 : Fin 2) * 1024 + 1024 := hi 1
    obtain ⟨e0, e1, e2⟩ := idx_facts9 t
    omega
  · intro h
    have hi0 : (i 0).val < 16384 := (i 0).isLt
    have hi1 : (i 1).val < 1024 := (i 1).isLt
    obtain ⟨t, hft, ht⟩ := idx_onto9 ⟨(i 0).val / 256 - 0, by omega⟩ ⟨(i 1).val / 1024 - 0, by omega⟩
    have q0 : win0_9.index t (0 : Fin 2) = (i 0).val / 256 - 0 + 0 := congrFun ht 0
    have q1 : win0_9.index t (1 : Fin 2) = (i 1).val / 1024 - 0 + 0 := congrFun ht 1
    refine ⟨t, hft, ?_⟩
    rw [mem_blk9]
    intro a
    match a with
    | ⟨0, _⟩ => show win0_9.index t (0 : Fin 2) * 256 ≤ (i 0).val ∧ (i 0).val < win0_9.index t (0 : Fin 2) * 256 + 256; omega
    | ⟨1, _⟩ => show win0_9.index t (1 : Fin 2) * 1024 ≤ (i 1).val ∧ (i 1).val < win0_9.index t (1 : Fin 2) * 1024 + 1024; omega

/-- The rows after the run. -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 16384 := (i 0).isLt; have h1 : (i 1).val < 1024 := (i 1).isLt; omega))

/-! ## The last rows of each sequence -/

/-- The sequence whose last rows hold index `i`; the last of its sixteen points writes them. -/
abbrev run10Of (i : S4x8x2816.Idx) : ℕ := 1 * ((i 0).val / 1 - 0) + 1 * ((i 1).val / 8 - 0) + 1 * ((i 2).val / 2816 - 0)
set_option backward.proofsInPublic true in
abbrev loc10Of (i : S4x8x2816.Idx) : S1x8x2816.Idx := fun a => match a with
  | ⟨0, _⟩ => ⟨(i 0).val % 1, Nat.mod_lt _ (by decide)⟩
  | ⟨1, _⟩ => ⟨(i 1).val % 8, Nat.mod_lt _ (by decide)⟩
  | ⟨2, _⟩ => ⟨(i 2).val % 2816, Nat.mod_lt _ (by decide)⟩
abbrev pt10Of (i : S4x8x2816.Idx) : ℕ := 16 * run10Of i + 15

/-- The last rows after the run: at each index what the last point of its sequence leaves. -/
def G10 (c : Dev nD) : Buf (Elt F) ((c : Thread nD τ).loc main_v8_1) := fun i =>
  if h : pt10Of i < cfg0.N then
    lastAt m c ⟨pt10Of i, h⟩ (loc10Of i)
  else V m c (Pipeline.arrRef spec0 10) i

/-- The points of sequence `s` stage block `s` of the last rows. -/
theorem idx_facts10 : ∀ t : Fin cfg0.N, 0 ≤ win0_10.index t (0 : Fin 3) ∧ win0_10.index t (0 : Fin 3) ≤ 3
    ∧ 0 ≤ win0_10.index t (1 : Fin 3) ∧ win0_10.index t (1 : Fin 3) ≤ 0
    ∧ 0 ≤ win0_10.index t (2 : Fin 3) ∧ win0_10.index t (2 : Fin 3) ≤ 0
    ∧ 1 * (win0_10.index t (0 : Fin 3) - 0) + 1 * (win0_10.index t (1 : Fin 3) - 0) + 1 * (win0_10.index t (2 : Fin 3) - 0) = t.val / 16 :=
  (by decide +kernel : ∀ t : Fin grid0.N, _)

abbrev onto10Pt (q0 : Fin 4) (q1 : Fin 1) (q2 : Fin 1) : Fin grid0.N :=
  ⟨16 * (1 * q0.val + 1 * q1.val + 1 * q2.val) + 15, lt_of_lt_of_eq (by omega) N_0.symm⟩
/-- Every block of the last rows is written by the last point of a sequence. -/
theorem idx_onto10 : ∀ (q0 : Fin 4) (q1 : Fin 1) (q2 : Fin 1), ∃ t : Fin cfg0.N, (cfg0.win 10).flush t = true ∧ win0_10.index t = ![q0.val + 0, q1.val + 0, q2.val + 0] :=
  fun q0 q1 q2 => ⟨onto10Pt q0 q1 q2, (by decide +kernel : ∀ (q0 : Fin 4) (q1 : Fin 1) (q2 : Fin 1), win0_10.flush (onto10Pt q0 q1 q2) = true ∧ win0_10.index (onto10Pt q0 q1 q2) = ![q0.val + 0, q1.val + 0, q2.val + 0]) q0 q1 q2⟩

/-- What the last point of a sequence writes back is its block of `G10`. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10]
  have hm : t.val % 16 = 15 := (flush0_10 t).mp hf
  obtain ⟨e0, e1, e2, e3⟩ := idx_facts10 t
  funext y
  have hy0 : (y 0).val < 1 := (y 0).isLt
  have hy1 : (y 1).val < 8 := (y 1).isLt
  have hy2 : (y 2).val < 2816 := (y 2).isLt
  have hb0 : (((cfg0.win 10).blk t).view.emb y 0).val = win0_10.index t (0 : Fin 3) * 1 + 1 * (y 0).val := rfl
  have hb1 : (((cfg0.win 10).blk t).view.emb y 1).val = win0_10.index t (1 : Fin 3) * 8 + 1 * (y 1).val := rfl
  have hb2 : (((cfg0.win 10).blk t).view.emb y 2).val = win0_10.index t (2 : Fin 3) * 2816 + 1 * (y 2).val := rfl
  have hr : run10Of (((cfg0.win 10).blk t).view.emb y) = t.val / 16 := by
    show 1 * ((((cfg0.win 10).blk t).view.emb y 0).val / 1 - 0) + 1 * ((((cfg0.win 10).blk t).view.emb y 1).val / 8 - 0) + 1 * ((((cfg0.win 10).blk t).view.emb y 2).val / 2816 - 0) = _
    rw [hb0, hb1, hb2]
    rw [show (win0_10.index t (0 : Fin 3) * 1 + 1 * (y 0).val) / 1 = win0_10.index t (0 : Fin 3) from by omega]; rw [show (win0_10.index t (1 : Fin 3) * 8 + 1 * (y 1).val) / 8 = win0_10.index t (1 : Fin 3) from by omega]; rw [show (win0_10.index t (2 : Fin 3) * 2816 + 1 * (y 2).val) / 2816 = win0_10.index t (2 : Fin 3) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 1 = (y 0).val; rw [hb0]; omega
    | ⟨1, _⟩ => show (((cfg0.win 10).blk t).view.emb y 1).val % 8 = (y 1).val; rw [hb1]; omega
    | ⟨2, _⟩ => show (((cfg0.win 10).blk t).view.emb y 2).val % 2816 = (y 2).val; rw [hb2]; omega
  have hp : pt10Of (((cfg0.win 10).blk t).view.emb y) = t.val := by
    show 16 * run10Of (((cfg0.win 10).blk t).view.emb y) + 15 = _
    rw [hr]; have := Nat.div_add_mod t.val 16; omega
  show lastAt m c t ((cfg0.win 10).xinj (grid0.coords t) y) = G10 m c (((cfg0.win 10).blk t).view.emb y)
  unfold G10
  rw [dif_pos (by rw [hp]; exact t.isLt), hl]
  congr 2; exact Fin.ext hp.symm

/-- An index is in a point's block iff each coordinate is in the range of the block. -/
theorem mem_blk10 (t : Fin cfg0.N) (i : S4x8x2816.Idx) :
    i ∈ ((cfg0.win 10).blk t).view.set ↔ ∀ a : Fin 3, win0_10.index t a * S1x8x2816.size a ≤ (i a).val ∧ (i a).val < win0_10.index t a * S1x8x2816.size a + S1x8x2816.size a := by
  show i ∈ ((View.whole main_v8_1).slice (win0_10.rect t)).set ↔ _
  rw [View.set_slice_whole, Rect.mem_set_unit]
  exact Iff.rfl

/-- The written blocks fill the array. -/
theorem covered_iff10 (i : S4x8x2816.Idx) :
    (∃ t : Fin cfg0.N, (cfg0.win 10).flush t = true ∧ i ∈ ((cfg0.win 10).blk t).view.set) ↔ 0 ≤ (i 0).val ∧ (i 0).val < 4 ∧ 0 ≤ (i 1).val ∧ (i 1).val < 8 ∧ 0 ≤ (i 2).val ∧ (i 2).val < 2816 := by
  constructor
  · rintro ⟨t, -, hi⟩
    rw [mem_blk10] at hi
    have b0 : win0_10.index t (0 : Fin 3) * 1 ≤ (i 0).val ∧ (i 0).val < win0_10.index t (0 : Fin 3) * 1 + 1 := hi 0
    have b1 : win0_10.index t (1 : Fin 3) * 8 ≤ (i 1).val ∧ (i 1).val < win0_10.index t (1 : Fin 3) * 8 + 8 := hi 1
    have b2 : win0_10.index t (2 : Fin 3) * 2816 ≤ (i 2).val ∧ (i 2).val < win0_10.index t (2 : Fin 3) * 2816 + 2816 := hi 2
    obtain ⟨e0, e1, e2, e3⟩ := idx_facts10 t
    omega
  · intro h
    have hi0 : (i 0).val < 4 := (i 0).isLt
    have hi1 : (i 1).val < 8 := (i 1).isLt
    have hi2 : (i 2).val < 2816 := (i 2).isLt
    obtain ⟨t, hft, ht⟩ := idx_onto10 ⟨(i 0).val / 1 - 0, by omega⟩ ⟨(i 1).val / 8 - 0, by omega⟩ ⟨(i 2).val / 2816 - 0, by omega⟩
    have q0 : win0_10.index t (0 : Fin 3) = (i 0).val / 1 - 0 + 0 := congrFun ht 0
    have q1 : win0_10.index t (1 : Fin 3) = (i 1).val / 8 - 0 + 0 := congrFun ht 1
    have q2 : win0_10.index t (2 : Fin 3) = (i 2).val / 2816 - 0 + 0 := congrFun ht 2
    refine ⟨t, hft, ?_⟩
    rw [mem_blk10]
    intro a
    match a with
    | ⟨0, _⟩ => show win0_10.index t (0 : Fin 3) * 1 ≤ (i 0).val ∧ (i 0).val < win0_10.index t (0 : Fin 3) * 1 + 1; omega
    | ⟨1, _⟩ => show win0_10.index t (1 : Fin 3) * 8 ≤ (i 1).val ∧ (i 1).val < win0_10.index t (1 : Fin 3) * 8 + 8; omega
    | ⟨2, _⟩ => show win0_10.index t (2 : Fin 3) * 2816 ≤ (i 2).val ∧ (i 2).val < win0_10.index t (2 : Fin 3) * 2816 + 2816; omega

/-- The last rows after the run. -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 4 := (i 0).isLt; have h1 : (i 1).val < 8 := (i 1).isLt; have h2 : (i 2).val < 2816 := (i 2).isLt; omega))

/-! ## The run -/

/-- The run: both arrays named, the arguments unchanged. -/
theorem run : θ_run defs (onTc (τ := τ) (main (F := F))) ⟨m, fun _ => 0, ρ⟩ fun r => ∀ c : Dev nD,
      r.2.mem ((c : Thread nD τ).loc main_v8_0) = G9 m c
      ∧ r.2.mem ((c : Thread nD τ).loc main_v8_1) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 9).trans (final9 m c), ((h c).1 10).trans (final10 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.Ffn

end
-- ==== Proof.Ffn.Payload.lean ====
/- The kernel's vector functions at one index, over extended reals. -/
module

public import Idealize.ShloMosaic.Lib.Pointwise
public import proofs.«01_k».proof.Proof.Gen.Kernel2Ideal.Skeleton
public import proofs.«01_k».proof.Proof.Hgrn.Spec

@[expose] public section

noncomputable section

namespace Cert.Ffn

open Idealize.ShloMosaic Cert.Kernel2Ideal Cert.Kernel2Ideal.Gen

theorem pay3_apply (x : Vec Ideal S256x1024 .f32) (r : Fin 256) (k : Fin 1024) : k0_pay3 x (ix2 r k) = x (ix2 r k) := by
  pointwise [k0_pay3]

theorem pay4_apply (x : Vec Ideal S256x1024 .f32) (n : Vec Ideal S1x1024 .f32) (r : Fin 256) (k : Fin 1024) :
    k0_pay4 x n (ix2 r k) = Hgrn.scale 1149239296#32 (∑ j : Fin 1024, x (ix2 r j) * x (ix2 r j)) (x (ix2 r k)) * n (ix2 0 k) := by
  pointwise [k0_pay4, k0_pay3]
  rfl

theorem pay8_apply (h : FVec Ideal S256x1024 .bf16) (w : Vec Ideal S1024x256 .bf16) (r c : Fin 256) :
    k0_pay8 h w (ix2 r c) = ∑ k : Fin 1024, h (ix2 r k) * w (ix2 k c) := by
  pointwise [k0_pay8, dot_S256x1024_S1024x256_S256x256_1_0_0_1_n_n]

theorem pay9_apply (h : FVec Ideal S256x1024 .bf16) (w : Vec Ideal S1024x256 .bf16) (r c : Fin 256) :
    k0_pay9 h w (ix2 r c) = ∑ k : Fin 1024, h (ix2 r k) * w (ix2 k c) := by
  pointwise [k0_pay9, dot_S256x1024_S1024x256_S256x256_1_0_0_1_n_n]

theorem pay5_apply (r c : Fin 256) : k0_pay5 (ix2 r c) = BitVec.ofNat 32 r.val := by
  pointwise [k0_pay5]
  revert r
  decide

theorem pay22_apply (u : FVec Ideal S256x256 .f32) (r : Fin 8) (c : Fin 256) : k0_pay22 u (ix2 r c) = u (ix2 ⟨248 + r.val, by have := r.isLt; omega⟩ c) := by
  pointwise [k0_pay22]

theorem pay25_apply (u : FVec Ideal S256x256 .f32) (r : Fin 8) (c : Fin 256) : k0_pay25 u (ix3 0 r c) = u (ix2 ⟨248 + r.val, by have := r.isLt; omega⟩ c) := by
  pointwise [k0_pay25]

/-- The first row, and the second, told apart by the row number the kernel computes. -/
theorem row_is (n : Fin 2) : ∀ r : Fin 256, IntOp.cmpi CmpIPredicate.eq (BitVec.ofNat 32 r.val) (BitVec.ofNat 32 n.val) = if r.val = n.val then 1#1 else 0#1 := by
  revert n
  decide

theorem select_row {α : Type} (n : Fin 2) (r : Fin 256) (a b : α) :
    Scalar.select (IntOp.cmpi CmpIPredicate.eq (BitVec.ofNat 32 r.val) (BitVec.ofNat 32 n.val)) a b = if r.val = n.val then a else b := by
  rw [row_is]
  split
  · rfl
  · rfl

theorem pay20_apply (b : BitVec 1) (u : FVec Ideal S256x256 .f32) (C : Vec Ideal S8x256 .f32) (P : Vec Ideal S1x1x256 .f32) (r c : Fin 256) :
    k0_pay20 k0_pay5 b u C P (ix2 r c) =
      if r.val = 0 then Scalar.select b (P (ix3 0 0 c)) (C (ix2 7 c)) else u (ix2 ⟨(r.val + 256 - 1) % 256, Nat.mod_lt _ (by decide)⟩ c) := by
  pointwise [k0_pay20, pay5_apply]
  exact select_row 0 r _ _

theorem pay21_apply (b : BitVec 1) (u : FVec Ideal S256x256 .f32) (C : Vec Ideal S8x256 .f32) (P Q : Vec Ideal S1x1x256 .f32) (r c : Fin 256) :
    k0_pay21 k0_pay5 b u C P Q (ix2 r c) =
      if r.val = 0 then Scalar.select b (P (ix3 0 0 c)) (C (ix2 6 c)) else
      if r.val = 1 then Scalar.select b (Q (ix3 0 0 c)) (C (ix2 7 c)) else u (ix2 ⟨(r.val + 256 - 2) % 256, Nat.mod_lt _ (by decide)⟩ c) := by
  pointwise [k0_pay21, pay5_apply]
  exact (select_row 0 r _ _).trans (congrArg (fun z => if r.val = 0 then _ else z) (select_row 1 r _ _))

/-- The convolution's sum before the activation. -/
def conv (cb w0 w1 w2 p2 p1 u : EReal) : EReal := cb + p2 * w0 + p1 * w1 + u * w2

/-- The gated entry. -/
def act (v up : EReal) : EReal := v * Ideal.logistic v * up

theorem pay24_apply (g u : FVec Ideal S256x256 .f32) (a : FVec Ideal S256x1024 .f32) (p1 p2 : FVec Ideal S256x256 .f32) (cb w0 w1 w2 : Vec Ideal S1x256 .f32) (wd : Vec Ideal S256x1024 .bf16)
    (r : Fin 256) (e : Fin 1024) : k0_pay24 g u a p1 p2 (k0_pay23 cb) w0 w1 w2 wd (ix2 r e) =
      a (ix2 r e) + ∑ x : Fin 256, act (conv (cb (ix2 0 x)) (w0 (ix2 0 x)) (w1 (ix2 0 x)) (w2 (ix2 0 x)) (p2 (ix2 r x)) (p1 (ix2 r x)) (g (ix2 r x))) (u (ix2 r x)) * wd (ix2 x e) := by
  pointwise [k0_pay24, k0_pay23, dot_S256x256_S256x1024_S256x1024_1_0_0_1_n_n]
  rfl

end Cert.Ffn

end
-- ==== Proof.Ffn.Spec.lean ====
/- The feed-forward part of the layer on extended reals, row by row of one sequence, the entries of every array numbered
   by natural numbers. -/
module

public import proofs.«01_k».proof.Proof.Ffn.Payload

@[expose] public section

noncomputable section

namespace Cert.Ffn

open Idealize.ShloMosaic

section

variable (x : ℕ → ℕ → EReal) (n : ℕ → EReal) (w wg wu : ℕ → ℕ → EReal) (cw : ℕ → ℕ → EReal) (cb : ℕ → EReal) (wd : ℕ → ℕ → EReal)

/-- Entry `k` of row `r`, normalised. -/
def hn (r k : ℕ) : EReal := Hgrn.scale 1149239296#32 (∑ j : Fin 1024, x r j * x r j) (x r k) * n k

/-- The normalised row against a column of a projection. -/
def pr (r j : ℕ) : EReal := ∑ k : Fin 1024, hn x n r k * w k j

/-- The projection `s` rows back, nought before the sequence. -/
def prev (s r j : ℕ) : EReal := if s ≤ r then pr x n w (r - s) j else 0

/-- The hidden entry: the gate's convolution, activated, times the up projection. -/
def hid (r j : ℕ) : EReal :=
  act (conv (cb j) (cw 0 j) (cw 1 j) (cw 2 j) (prev x n wg 2 r j) (prev x n wg 1 r j) (pr x n wg r j)) (pr x n wu r j)

/-- The row with the feed-forward part added. -/
def yy (r e : ℕ) : EReal := x r e + ∑ j : Fin 2816, hid x n wg wu cw cb r j * wd j e

end

end Cert.Ffn

end
-- ==== Proof.Ffn.PointValue.lean ====
/- What one grid point of the feed-forward kernel computes, over extended reals, against the layer's rows. -/
module

public import proofs.«01_k».proof.Proof.Ffn.Block
public import proofs.«01_k».proof.Proof.Ffn.Spec
public import proofs.«01_k».proof.Proof.Hgrn.Canon

@[expose] public section

noncomputable section

namespace Cert.Ffn

open Idealize.ShloMosaic Cert.Kernel2Ideal Cert.Kernel2Ideal.Gen

section

variable {b : BitVec 1} {X : Vec Ideal S256x1024 .f32} {N : Vec Ideal S1x1024 .f32} {WG WU : Vec Ideal S1024x2816 .bf16}
  {CW : Vec Ideal S3x2816 .f32} {CB : Vec Ideal S1x2816 .f32} {WD : Vec Ideal S2816x1024 .bf16} {P : Vec Ideal S1x1x2816 .f32} {Q : Vec Ideal S1x2x2816 .f32}
  {C : Vec Ideal S8x2816 .f32}
  {x : ℕ → ℕ → EReal} {n : ℕ → EReal} {wg wu : ℕ → ℕ → EReal} {cw : ℕ → ℕ → EReal} {cb : ℕ → EReal} {wd : ℕ → ℕ → EReal} {p : ℕ}
  (hX : ∀ (r : Fin 256) (k : Fin 1024), X (ix2 r k) = x (256 * p + r) k) (hN : ∀ k : Fin 1024, N (ix2 0 k) = n k)

section

include hX hN

theorem normed_eq (r : Fin 256) (k : Fin 1024) : normed X N (ix2 r k) = hn x n (256 * p + r) k := by
  unfold normed hn
  have h0 : View.ld X (Rect.unit ![0, 0] S256x1024.size inb_S256x1024_S256x1024_0_0) = X := View.ld_unit_lit _ _ (Fin.forall_fin_two.mpr ⟨rfl, rfl⟩)
  have h1 : View.ld N (Rect.unit ![0, 0] S1x1024.size inb_S1x1024_S1x1024_0_0) = N := View.ld_unit_lit _ _ (Fin.forall_fin_two.mpr ⟨rfl, rfl⟩)
  rw [h0, h1, pay4_apply]
  simp only [hX, hN]

theorem chunk_eq {W : Vec Ideal S1024x2816 .bf16} {w : ℕ → ℕ → EReal} (hW : ∀ (k : Fin 1024) (j : Fin 2816), W (ix2 k j) = w k j) (k : ℕ) (hk : k < 11) (r c : Fin 256) :
    (∑ i : Fin 1024, normed X N (ix2 r i) * View.ld W (rectW k hk) (ix2 i c)) = pr x n w (256 * p + r) (256 * k + c) := by
  have hc := c.isLt
  unfold pr
  refine Finset.sum_congr rfl fun i _ => ?_
  rw [normed_eq hX hN]
  refine congrArg₂ (· * ·) rfl ?_
  exact (View.ld_unit_apply_of W _ _ _ _ (ix2 i (⟨256 * k + c.val, by omega⟩ : Fin 2816)) (Fin.forall_fin_two.mpr ⟨(Nat.zero_add _).symm, rfl⟩)).trans (hW _ _)

variable (hWG : ∀ (k : Fin 1024) (j : Fin 2816), WG (ix2 k j) = wg k j)
include hWG

theorem gate_eq (k : ℕ) (hk : k < 11) (r c : Fin 256) : gate X N WG k hk (ix2 r c) = pr x n wg (256 * p + r) (256 * k + c) :=
  (pay8_apply _ _ _ _).trans (chunk_eq hX hN hWG k hk r c)

/-- What the rows before the block are: nought at the first block of the sequence, elsewhere the last eight rows of the
    block before, as it left them. -/
def Before (b : BitVec 1) (P : Vec Ideal S1x1x2816 .f32) (Q : Vec Ideal S1x2x2816 .f32) (C : Vec Ideal S8x2816 .f32) (u : ℕ → ℕ → EReal) (p : ℕ) : Prop :=
  (b = 1#1 ∧ p = 0 ∧ (∀ j : Fin 2816, P (ix3 0 0 j) = (0 : EReal)) ∧ ∀ (i : Fin 2) (j : Fin 2816), Q (ix3 0 i j) = (0 : EReal))
  ∨ (b = 0#1 ∧ 0 < p ∧ ∀ (i : Fin 8) (j : Fin 2816), C (ix2 i j) = u (256 * p - 8 + i) j)

variable (hB : Before b P Q C (pr x n wg) p)
include hB

theorem back1_eq (k : ℕ) (hk : k < 11) (r c : Fin 256) : back1 b X N WG P C k hk (ix2 r c) = prev x n wg 1 (256 * p + r) (256 * k + c) := by
  have hc := c.isLt
  have hr := r.isLt
  refine (pay20_apply _ _ _ _ _ _).trans ?_
  unfold prev
  split
  · next h0 =>
    rcases hB with ⟨hb, hp, hP, -⟩ | ⟨hb, hp, hC⟩
    · rw [hb, if_neg (by omega)]
      refine Eq.trans (b := View.ld P (rectP k hk) (ix3 0 0 c)) rfl ?_
      exact (View.ld_unit_apply_of P _ _ _ _ (ix3 0 0 (⟨256 * k + c.val, by omega⟩ : Fin 2816))
        (Fin.forall_fin_succ.mpr ⟨rfl, Fin.forall_fin_two.mpr ⟨rfl, rfl⟩⟩)).trans (hP _)
    · rw [hb, if_pos (by omega)]
      refine Eq.trans (b := View.ld C (rectR k hk) (ix2 7 c)) rfl ?_
      refine (View.ld_unit_apply_of C _ _ _ _ (ix2 7 (⟨256 * k + c.val, by omega⟩ : Fin 2816)) (Fin.forall_fin_two.mpr ⟨rfl, rfl⟩)).trans ((hC _ _).trans ?_)
      have e : 256 * p - 8 + (7 : Fin 8).val = 256 * p + r.val - 1 := by show 256 * p - 8 + 7 = _; omega
      rw [e]
  · next h0 =>
    rw [if_pos (by omega), gate_eq hX hN hWG]
    have e : 256 * p + (r.val + 256 - 1) % 256 = 256 * p + r.val - 1 := by omega
    exact congrArg (fun a => pr x n wg a _) e

theorem back2_eq (k : ℕ) (hk : k < 11) (r c : Fin 256) : back2 b X N WG Q C k hk (ix2 r c) = prev x n wg 2 (256 * p + r) (256 * k + c) := by
  have hc := c.isLt
  have hr := r.isLt
  refine (pay21_apply _ _ _ _ _ _ _).trans ?_
  unfold prev
  split
  · next h0 =>
    rcases hB with ⟨hb, hp, -, hQ⟩ | ⟨hb, hp, hC⟩
    · rw [hb, if_neg (by omega)]
      refine Eq.trans (b := View.ld Q (rectQ 0 (by decide) k hk) (ix3 0 0 c)) rfl ?_
      exact (View.ld_unit_apply_of Q _ _ _ _ (ix3 0 0 (⟨256 * k + c.val, by omega⟩ : Fin 2816))
        (Fin.forall_fin_succ.mpr ⟨rfl, Fin.forall_fin_two.mpr ⟨rfl, rfl⟩⟩)).trans (hQ _ _)
    · rw [hb, if_pos (by omega)]
      refine Eq.trans (b := View.ld C (rectR k hk) (ix2 6 c)) rfl ?_
      refine (View.ld_unit_apply_of C _ _ _ _ (ix2 6 (⟨256 * k + c.val, by omega⟩ : Fin 2816)) (Fin.forall_fin_two.mpr ⟨rfl, rfl⟩)).trans ((hC _ _).trans ?_)
      have e : 256 * p - 8 + (6 : Fin 8).val = 256 * p + r.val - 2 := by show 256 * p - 8 + 6 = _; omega
      rw [e]
  · next h0 =>
    split
    · next h1 =>
      rcases hB with ⟨hb, hp, -, hQ⟩ | ⟨hb, hp, hC⟩
      · rw [hb, if_neg (by omega)]
        refine Eq.trans (b := View.ld Q (rectQ 1 (by decide) k hk) (ix3 0 0 c)) rfl ?_
        exact (View.ld_unit_apply_of Q _ _ _ _ (ix3 0 1 (⟨256 * k + c.val, by omega⟩ : Fin 2816))
          (Fin.forall_fin_succ.mpr ⟨rfl, Fin.forall_fin_two.mpr ⟨rfl, rfl⟩⟩)).trans (hQ _ _)
      · rw [hb, if_pos (by omega)]
        refine Eq.trans (b := View.ld C (rectR k hk) (ix2 7 c)) rfl ?_
        refine (View.ld_unit_apply_of C _ _ _ _ (ix2 7 (⟨256 * k + c.val, by omega⟩ : Fin 2816)) (Fin.forall_fin_two.mpr ⟨rfl, rfl⟩)).trans ((hC _ _).trans ?_)
        have e : 256 * p - 8 + (7 : Fin 8).val = 256 * p + r.val - 2 := by show 256 * p - 8 + 7 = _; omega
        rw [e]
    · next h1 =>
      rw [if_pos (by omega), gate_eq hX hN hWG]
      have e : 256 * p + (r.val + 256 - 2) % 256 = 256 * p + r.val - 2 := by omega
      exact congrArg (fun a => pr x n wg a _) e

variable (hWU : ∀ (k : Fin 1024) (j : Fin 2816), WU (ix2 k j) = wu k j)
  (hCW : ∀ (i : Fin 3) (j : Fin 2816), CW (ix2 i j) = cw i j) (hCB : ∀ j : Fin 2816, CB (ix2 0 j) = cb j)
  (hWD : ∀ (j : Fin 2816) (e : Fin 1024), WD (ix2 j e) = wd j e)
include hWU hCW hCB hWD

theorem acc_eq : ∀ (k : ℕ) (hk : k ≤ 11) (r : Fin 256) (e : Fin 1024),
    acc b X N WG WU CW CB WD P Q C k hk (ix2 r e) =
      x (256 * p + r) e + ∑ j ∈ Finset.range (256 * k), hid x n wg wu cw cb (256 * p + r) j * wd j e
  | 0, _, r, e => by
    unfold acc
    rw [pay3_apply, Nat.mul_zero, Finset.range_zero, Finset.sum_empty, add_zero]
    have h0 : View.ld X (Rect.unit ![0, 0] S256x1024.size inb_S256x1024_S256x1024_0_0) = X := View.ld_unit_lit _ _ (Fin.forall_fin_two.mpr ⟨rfl, rfl⟩)
    rw [h0]
    exact hX r e
  | k + 1, hk, r, e => by
    have hs := acc_eq k (by omega) r e
    have hk' : k < 11 := hk
    refine (pay24_apply (gate X N WG k hk') (upProj X N WU k hk') (acc b X N WG WU CW CB WD P Q C k (by omega)) (back1 b X N WG P C k hk') (back2 b X N WG Q C k hk')
      (View.ld CB (rectB k hk')) (View.ld CW (rectC 0 (by decide) k hk')) (View.ld CW (rectC 1 (by decide) k hk')) (View.ld CW (rectC 2 (by decide) k hk'))
      (View.ld WD (rectD k hk')) r e).trans ?_
    rw [hs, Nat.mul_succ, Finset.sum_range_add, ← add_assoc]
    refine congrArg₂ (· + ·) rfl ?_
    rw [Finset.sum_range]
    refine Finset.sum_congr rfl fun i _ => ?_
    have hi := i.isLt
    have j2 : ∀ (o : ℕ) (ho : o < 3), View.ld CW (rectC o ho k (by omega)) (ix2 0 i) = cw o (256 * k + i) := fun o ho =>
      (View.ld_unit_apply_of CW _ _ _ _ (ix2 (⟨o, ho⟩ : Fin 3) (⟨256 * k + i.val, by omega⟩ : Fin 2816)) (Fin.forall_fin_two.mpr ⟨rfl, rfl⟩)).trans (hCW _ _)
    have hb : View.ld CB (rectB k (by omega)) (ix2 0 i) = cb (256 * k + i) :=
      (View.ld_unit_apply_of CB _ _ _ _ (ix2 0 (⟨256 * k + i.val, by omega⟩ : Fin 2816)) (Fin.forall_fin_two.mpr ⟨rfl, rfl⟩)).trans (hCB _)
    have hd : View.ld WD (rectD k (by omega)) (ix2 i e) = wd (256 * k + i) e :=
      (View.ld_unit_apply_of WD _ _ _ _ (ix2 (⟨256 * k + i.val, by omega⟩ : Fin 2816) e) (Fin.forall_fin_two.mpr ⟨rfl, (Nat.zero_add _).symm⟩)).trans (hWD _ _)
    have hu : upProj X N WU k (by omega) (ix2 r i) = pr x n wu (256 * p + r) (256 * k + i) := (pay9_apply _ _ _ _).trans (chunk_eq hX hN hWU k _ r i)
    rw [j2 0 (by decide), j2 1 (by decide), j2 2 (by decide), hb, hd, hu, back1_eq hX hN hWG hB, back2_eq hX hN hWG hB, gate_eq hX hN hWG]
    rfl

/-- The rows the point leaves. -/
theorem rows_eq (r : Fin 256) (e : Fin 1024) : View.canon (rowStores b X N WG WU CW CB WD P Q C) (ix2 r e) = yy x n wg wu cw cb wd (256 * p + r) e := by
  unfold rowStores
  refine Hgrn.canon_cons2 (o0 := 0) (o1 := 0) (n0 := 256) (n1 := 1024) rfl rfl ?_ ?_
  · intro (z : S256x1024.Idx) h0 h1
    have e0 : z 0 = r := Fin.ext (by have : r.val = 0 + (z 0).val := h0; omega)
    have e1 : z 1 = e := Fin.ext (by have : e.val = 0 + (z 1).val := h1; omega)
    rw [eq_ix2 z, e0, e1]
    refine (acc_eq hX hN hWG hB hWU hCW hCB hWD 11 le_rfl r e).trans ?_
    unfold yy
    rw [Finset.sum_range]
  · intro h
    have hr := r.isLt
    have he := e.isLt
    exact absurd ⟨Nat.zero_le _, by show r.val < 0 + 256; omega, Nat.zero_le _, by show e.val < 0 + 1024; omega⟩ h

end

section

include hX hN
variable (hWG : ∀ (k : Fin 1024) (j : Fin 2816), WG (ix2 k j) = wg k j)
include hWG

theorem carry_to : ∀ (k : ℕ) (hk : k ≤ 11) (i : Fin 8) (j : Fin 2816), j.val < 256 * k →
    View.canon (carryStores X N WG k hk) (ix2 i j) = pr x n wg (256 * p + 248 + i) j
  | 0, _, _, _, h => absurd h (Nat.not_lt_zero _)
  | k + 1, hk, i, j, h => by
    have hi := i.isLt
    have hj := j.isLt
    unfold carryStores
    refine Hgrn.canon_cons2 (o0 := 0) (o1 := 256 * k) (n0 := 8) (n1 := 256) rfl rfl ?_ ?_
    · intro (z : S8x256.Idx) h0 h1
      have h0' : i.val = 0 + (z 0).val := h0
      have h1' : j.val = 256 * k + (z 1).val := h1
      rw [eq_ix2 z]
      refine (pay22_apply _ _ _).trans ((gate_eq hX hN hWG k _ _ _).trans ?_)
      have e0 : 256 * p + (248 + (z 0).val) = 256 * p + 248 + i.val := by omega
      rw [h1', ← e0]
    · intro hm
      have hm' : ¬(0 ≤ i.val ∧ i.val < 0 + 8 ∧ 256 * k ≤ j.val ∧ j.val < 256 * k + 256) := hm
      exact carry_to k (by omega) i j (by omega)

/-- The rows left for the next point. -/
theorem carry_eq (i : Fin 8) (j : Fin 2816) : View.canon (carryStores X N WG 11 le_rfl) (ix2 i j) = pr x n wg (256 * p + 248 + i) j :=
  carry_to hX hN hWG 11 le_rfl i j j.isLt

theorem last_to : ∀ (k : ℕ) (hk : k ≤ 11) (i : Fin 8) (j : Fin 2816), j.val < 256 * k →
    View.canon (lastStores X N WG k hk) (ix3 0 i j) = pr x n wg (256 * p + 248 + i) j
  | 0, _, _, _, h => absurd h (Nat.not_lt_zero _)
  | k + 1, hk, i, j, h => by
    have hi := i.isLt
    have hj := j.isLt
    unfold lastStores
    refine Hgrn.canon_cons3 (o0 := 0) (o1 := 0) (o2 := 256 * k) (n0 := 1) (n1 := 8) (n2 := 256) rfl rfl ?_ ?_
    · intro (z : S1x8x256.Idx) h0 h1 h2
      have h1' : i.val = 0 + (z 1).val := h1
      have h2' : j.val = 256 * k + (z 2).val := h2
      have hz0 : z 0 = (0 : Fin 1) := Fin.ext (Nat.lt_one_iff.mp (z 0).isLt)
      rw [eq_ix3 z, hz0]
      refine (pay25_apply _ _ _).trans ((gate_eq hX hN hWG k _ _ _).trans ?_)
      have e0 : 256 * p + (248 + (z 1).val) = 256 * p + 248 + i.val := by omega
      rw [h2', ← e0]
    · intro hm
      have hm' : ¬(0 ≤ 0 ∧ 0 < 0 + 1 ∧ 0 ≤ i.val ∧ i.val < 0 + 8 ∧ 256 * k ≤ j.val ∧ j.val < 256 * k + 256) := hm
      exact last_to k (by omega) i j (by omega)

/-- The last rows handed out. -/
theorem last_eq (i : Fin 8) (j : Fin 2816) : View.canon (lastStores X N WG 11 le_rfl) (ix3 0 i j) = pr x n wg (256 * p + 248 + i) j :=
  last_to hX hN hWG 11 le_rfl i j j.isLt

end

end

end Cert.Ffn

end
-- ==== Proof.Ffn.Args.lean ====
/- The entries of arrays, numbered by natural numbers. -/
module

public import Idealize.ShloMosaic.Lib.Pointwise

@[expose] public section

noncomputable section

namespace Cert.Ffn

open Idealize.ShloMosaic

def nat1 {a : ℕ} (A : FVec Ideal ⟨1, ![a]⟩ .f32) (i : ℕ) : EReal := if h : i < a then A (ix1 ⟨i, h⟩) else 0

def nat2 {a b : ℕ} (A : FVec Ideal ⟨2, ![a, b]⟩ .f32) (i j : ℕ) : EReal := if h : i < a ∧ j < b then A (ix2 ⟨i, h.1⟩ ⟨j, h.2⟩) else 0

def nat3 {a b d : ℕ} (A : FVec Ideal ⟨3, ![a, b, d]⟩ .f32) (i j k : ℕ) : EReal :=
  if h : i < a ∧ j < b ∧ k < d then A (ix3 ⟨i, h.1⟩ ⟨j, h.2.1⟩ ⟨k, h.2.2⟩) else 0

theorem nat1_eq {a : ℕ} (A : FVec Ideal ⟨1, ![a]⟩ .f32) (i : Fin a) : nat1 A i = A (ix1 i) := dif_pos i.isLt

theorem nat2_eq {a b : ℕ} (A : FVec Ideal ⟨2, ![a, b]⟩ .f32) (i : Fin a) (j : Fin b) : nat2 A i j = A (ix2 i j) := dif_pos ⟨i.isLt, j.isLt⟩

theorem nat3_eq {a b d : ℕ} (A : FVec Ideal ⟨3, ![a, b, d]⟩ .f32) (i : Fin a) (j : Fin b) (k : Fin d) : nat3 A i j k = A (ix3 i j k) :=
  dif_pos ⟨i.isLt, j.isLt, k.isLt⟩

end Cert.Ffn

end
-- ==== Proof.Ffn.Inputs.lean ====
/- What the feed-forward call's blocks hold, of its arguments, and what its two results then hold. -/
module

public import Idealize.ShloMosaic.Lib.Pointwise
public import Idealize.ShloMosaic.Lib.StableHlo.RunRead
public import proofs.«01_k».proof.Proof.Ffn.Value
public import proofs.«01_k».proof.Proof.Ffn.PointValue
public import proofs.«01_k».proof.Proof.Ffn.Args

@[expose] public section

noncomputable section

namespace Cert.Ffn

open Idealize.ShloMosaic Idealize.ShloMosaic.TcCoe Idealize.SL.Sem Cert.Kernel2Ideal Cert.Kernel2Ideal.Gen
open Idealize.ShloMosaic.StableHlo

variable (m : (ℓ : Loc nD τ sig) → Buf (Elt Ideal) ℓ) (c : Dev nD)

/-! ## What the host hands the call -/

theorem in_x (b : Fin 4) (r : Fin 4096) (k : Fin 1024) :
    (V m c main_v5 : Vec Ideal S16384x1024 .f32) (ix2 ⟨4096 * b.val + r.val, by have := b.isLt; have := r.isLt; omega⟩ k)
      = (m ((c : Thread nD τ).loc main_arg0) : Vec Ideal S4x4096x1024 .f32) (ix3 b r k) := by
  have hb := b.isLt
  have hr := r.isLt
  simp only [V]
  after_reads_simp
  pointwise

theorem in_n (k : Fin 1024) : (V m c main_v6 : Vec Ideal S1x1024 .f32) (ix2 0 k) = (m ((c : Thread nD τ).loc main_arg1) : Vec Ideal S1024 .f32) (ix1 k) := by
  simp only [V]
  after_reads_simp
  pointwise

theorem in_wg (k : Fin 1024) (j : Fin 2816) : (V m c main_v0 : Vec Ideal S1024x2816 .bf16) (ix2 k j) = (m ((c : Thread nD τ).loc main_arg2) : Vec Ideal S1024x2816 .f32) (ix2 k j) := by
  simp only [V]
  after_reads_simp
  pointwise

theorem in_wu (k : Fin 1024) (j : Fin 2816) : (V m c main_v1 : Vec Ideal S1024x2816 .bf16) (ix2 k j) = (m ((c : Thread nD τ).loc main_arg3) : Vec Ideal S1024x2816 .f32) (ix2 k j) := by
  simp only [V]
  after_reads_simp
  pointwise

theorem in_wd (j : Fin 2816) (e : Fin 1024) : (V m c main_v2 : Vec Ideal S2816x1024 .bf16) (ix2 j e) = (m ((c : Thread nD τ).loc main_arg6) : Vec Ideal S2816x1024 .f32) (ix2 j e) := by
  simp only [V]
  after_reads_simp
  pointwise

theorem in_cb (j : Fin 2816) : (V m c main_v7 : Vec Ideal S1x2816 .f32) (ix2 0 j) = (m ((c : Thread nD τ).loc main_arg5) : Vec Ideal S2816 .f32) (ix1 j) := by
  simp only [V]
  after_reads_simp
  pointwise

theorem in_p (b : Fin 4) (j : Fin 2816) : (V m c main_v4 : Vec Ideal S4x1x2816 .f32) (ix3 b 0 j) = (0 : EReal) := by
  simp only [V]
  after_reads_simp
  pointwise

theorem in_q (b : Fin 4) (i : Fin 2) (j : Fin 2816) : (V m c main_v3 : Vec Ideal S4x2x2816 .f32) (ix3 b i j) = (0 : EReal) := by
  simp only [V]
  after_reads_simp
  pointwise

/-! ## Where the blocks of a point lie -/

theorem place0 : ∀ t : Fin cfg0.N, win0_0.index t (0 : Fin 2) = t.val ∧ win0_0.index t (1 : Fin 2) = 0 :=
  (by decide +kernel : ∀ t : Fin grid0.N, _)

theorem place1 : ∀ t : Fin cfg0.N, win0_1.index t (0 : Fin 2) = 0 ∧ win0_1.index t (1 : Fin 2) = 0 :=
  (by decide +kernel : ∀ t : Fin grid0.N, _)

theorem place2 : ∀ t : Fin cfg0.N, win0_2.index t (0 : Fin 2) = 0 ∧ win0_2.index t (1 : Fin 2) = 0 :=
  (by decide +kernel : ∀ t : Fin grid0.N, _)

theorem place3 : ∀ t : Fin cfg0.N, win0_3.index t (0 : Fin 2) = 0 ∧ win0_3.index t (1 : Fin 2) = 0 :=
  (by decide +kernel : ∀ t : Fin grid0.N, _)

theorem place4 : ∀ t : Fin cfg0.N, win0_4.index t (0 : Fin 2) = 0 ∧ win0_4.index t (1 : Fin 2) = 0 :=
  (by decide +kernel : ∀ t : Fin grid0.N, _)

theorem place5 : ∀ t : Fin cfg0.N, win0_5.index t (0 : Fin 2) = 0 ∧ win0_5.index t (1 : Fin 2) = 0 :=
  (by decide +kernel : ∀ t : Fin grid0.N, _)

theorem place6 : ∀ t : Fin cfg0.N, win0_6.index t (0 : Fin 2) = 0 ∧ win0_6.index t (1 : Fin 2) = 0 :=
  (by decide +kernel : ∀ t : Fin grid0.N, _)

theorem place7 : ∀ t : Fin cfg0.N, win0_7.index t (0 : Fin 3) = t.val / 16 ∧ win0_7.index t (1 : Fin 3) = 0 ∧ win0_7.index t (2 : Fin 3) = 0 :=
  (by decide +kernel : ∀ t : Fin grid0.N, _)

theorem place8 : ∀ t : Fin cfg0.N, win0_8.index t (0 : Fin 3) = t.val / 16 ∧ win0_8.index t (1 : Fin 3) = 0 ∧ win0_8.index t (2 : Fin 3) = 0 :=
  (by decide +kernel : ∀ t : Fin grid0.N, _)

variable (t : Fin cfg0.N)

theorem lt_points : t.val < 64 := lt_of_lt_of_eq t.isLt N_0

theorem block0 (r : Fin 256) (k : Fin 1024) : (iblk m c 0 t : Vec Ideal S256x1024 .f32) (ix2 r k)
    = (m ((c : Thread nD τ).loc main_arg0) : Vec Ideal S4x4096x1024 .f32) (ix3 ⟨t.val / 16, by have := lt_points t; omega⟩ ⟨256 * (t.val % 16) + r.val, by have := r.isLt; omega⟩ k) := by
  obtain ⟨e0, e1⟩ := place0 t
  have hr := r.isLt
  refine Eq.trans (congrArg (V m c main_v5 : Vec Ideal S16384x1024 .f32) (Hgrn.ext2 ?_ ?_)) (in_x m c _ _ k)
  · show win0_0.index t (0 : Fin 2) * 256 + 1 * r.val = 4096 * (t.val / 16) + (256 * (t.val % 16) + r.val)
    omega
  · show win0_0.index t (1 : Fin 2) * 1024 + 1 * k.val = k.val
    omega

theorem block1 (k : Fin 1024) : (iblk m c 1 t : Vec Ideal S1x1024 .f32) (ix2 0 k) = (m ((c : Thread nD τ).loc main_arg1) : Vec Ideal S1024 .f32) (ix1 k) := by
  obtain ⟨e0, e1⟩ := place1 t
  refine Eq.trans (congrArg (V m c main_v6 : Vec Ideal S1x1024 .f32) (Hgrn.ext2 ?_ ?_)) (in_n m c k)
  · show win0_1.index t (0 : Fin 2) * 1 + 1 * 0 = 0
    omega
  · show win0_1.index t (1 : Fin 2) * 1024 + 1 * k.val = k.val
    omega

theorem block2 (k : Fin 1024) (j : Fin 2816) : (iblk m c 2 t : Vec Ideal S1024x2816 .bf16) (ix2 k j) = (m ((c : Thread nD τ).loc main_arg2) : Vec Ideal S1024x2816 .f32) (ix2 k j) := by
  obtain ⟨e0, e1⟩ := place2 t
  refine Eq.trans (congrArg (V m c main_v0 : Vec Ideal S1024x2816 .bf16) (Hgrn.ext2 ?_ ?_)) (in_wg m c k j)
  · show win0_2.index t (0 : Fin 2) * 1024 + 1 * k.val = k.val
    omega
  · show win0_2.index t (1 : Fin 2) * 2816 + 1 * j.val = j.val
    omega

theorem block3 (k : Fin 1024) (j : Fin 2816) : (iblk m c 3 t : Vec Ideal S1024x2816 .bf16) (ix2 k j) = (m ((c : Thread nD τ).loc main_arg3) : Vec Ideal S1024x2816 .f32) (ix2 k j) := by
  obtain ⟨e0, e1⟩ := place3 t
  refine Eq.trans (congrArg (V m c main_v1 : Vec Ideal S1024x2816 .bf16) (Hgrn.ext2 ?_ ?_)) (in_wu m c k j)
  · show win0_3.index t (0 : Fin 2) * 1024 + 1 * k.val = k.val
    omega
  · show win0_3.index t (1 : Fin 2) * 2816 + 1 * j.val = j.val
    omega

theorem block4 (i : Fin 3) (j : Fin 2816) : (iblk m c 4 t : Vec Ideal S3x2816 .f32) (ix2 i j) = (m ((c : Thread nD τ).loc main_arg4) : Vec Ideal S3x2816 .f32) (ix2 i j) := by
  obtain ⟨e0, e1⟩ := place4 t
  refine Eq.trans (congrArg (V m c main_arg4 : Vec Ideal S3x2816 .f32) (Hgrn.ext2 ?_ ?_)) (congrFun (V_main_arg4 m c) _)
  · show win0_4.index t (0 : Fin 2) * 3 + 1 * i.val = i.val
    omega
  · show win0_4.index t (1 : Fin 2) * 2816 + 1 * j.val = j.val
    omega

theorem block5 (j : Fin 2816) : (iblk m c 5 t : Vec Ideal S1x2816 .f32) (ix2 0 j) = (m ((c : Thread nD τ).loc main_arg5) : Vec Ideal S2816 .f32) (ix1 j) := by
  obtain ⟨e0, e1⟩ := place5 t
  refine Eq.trans (congrArg (V m c main_v7 : Vec Ideal S1x2816 .f32) (Hgrn.ext2 ?_ ?_)) (in_cb m c j)
  · show win0_5.index t (0 : Fin 2) * 1 + 1 * 0 = 0
    omega
  · show win0_5.index t (1 : Fin 2) * 2816 + 1 * j.val = j.val
    omega

theorem block6 (j : Fin 2816) (e : Fin 1024) : (iblk m c 6 t : Vec Ideal S2816x1024 .bf16) (ix2 j e) = (m ((c : Thread nD τ).loc main_arg6) : Vec Ideal S2816x1024 .f32) (ix2 j e) := by
  obtain ⟨e0, e1⟩ := place6 t
  refine Eq.trans (congrArg (V m c main_v2 : Vec Ideal S2816x1024 .bf16) (Hgrn.ext2 ?_ ?_)) (in_wd m c j e)
  · show win0_6.index t (0 : Fin 2) * 2816 + 1 * j.val = j.val
    omega
  · show win0_6.index t (1 : Fin 2) * 1024 + 1 * e.val = e.val
    omega

theorem block7 (j : Fin 2816) : (iblk m c 7 t : Vec Ideal S1x1x2816 .f32) (ix3 0 0 j) = (0 : EReal) := by
  obtain ⟨e0, e1, e2⟩ := place7 t
  have ht := lt_points t
  refine Eq.trans (congrArg (V m c main_v4 : Vec Ideal S4x1x2816 .f32) (Hgrn.ext3 ?_ ?_ ?_)) (in_p m c ⟨t.val / 16, by omega⟩ j)
  · show win0_7.index t (0 : Fin 3) * 1 + 1 * 0 = t.val / 16
    omega
  · show win0_7.index t (1 : Fin 3) * 1 + 1 * 0 = 0
    omega
  · show win0_7.index t (2 : Fin 3) * 2816 + 1 * j.val = j.val
    omega

theorem block8 (i : Fin 2) (j : Fin 2816) : (iblk m c 8 t : Vec Ideal S1x2x2816 .f32) (ix3 0 i j) = (0 : EReal) := by
  obtain ⟨e0, e1, e2⟩ := place8 t
  have ht := lt_points t
  refine Eq.trans (congrArg (V m c main_v3 : Vec Ideal S4x2x2816 .f32) (Hgrn.ext3 ?_ ?_ ?_)) (in_q m c ⟨t.val / 16, by omega⟩ i j)
  · show win0_8.index t (0 : Fin 3) * 1 + 1 * 0 = t.val / 16
    omega
  · show win0_8.index t (1 : Fin 3) * 2 + 1 * i.val = i.val
    omega
  · show win0_8.index t (2 : Fin 3) * 2816 + 1 * j.val = j.val
    omega

/-! ## The arguments, numbered -/

def AX (b r k : ℕ) : EReal := nat3 (a := 4) (b := 4096) (d := 1024) (m ((c : Thread nD τ).loc main_arg0)) b r k
def AN (k : ℕ) : EReal := nat1 (a := 1024) (m ((c : Thread nD τ).loc main_arg1)) k
def AG (k j : ℕ) : EReal := nat2 (a := 1024) (b := 2816) (m ((c : Thread nD τ).loc main_arg2)) k j
def AU (k j : ℕ) : EReal := nat2 (a := 1024) (b := 2816) (m ((c : Thread nD τ).loc main_arg3)) k j
def AC (i j : ℕ) : EReal := nat2 (a := 3) (b := 2816) (m ((c : Thread nD τ).loc main_arg4)) i j
def AB (j : ℕ) : EReal := nat1 (a := 2816) (m ((c : Thread nD τ).loc main_arg5)) j
def AD (j e : ℕ) : EReal := nat2 (a := 2816) (b := 1024) (m ((c : Thread nD τ).loc main_arg6)) j e

theorem hX (r : Fin 256) (k : Fin 1024) : (iblk m c 0 t : Vec Ideal S256x1024 .f32) (ix2 r k) = AX m c (t.val / 16) (256 * (t.val % 16) + r) k := by
  have hr := r.isLt
  have ht := lt_points t
  exact (block0 m c t r k).trans (nat3_eq _ ⟨t.val / 16, by omega⟩ ⟨256 * (t.val % 16) + r.val, by omega⟩ k).symm
theorem hN (k : Fin 1024) : (iblk m c 1 t : Vec Ideal S1x1024 .f32) (ix2 0 k) = AN m c k := (block1 m c t k).trans (nat1_eq _ k).symm
theorem hWG (k : Fin 1024) (j : Fin 2816) : (iblk m c 2 t : Vec Ideal S1024x2816 .bf16) (ix2 k j) = AG m c k j := (block2 m c t k j).trans (nat2_eq _ k j).symm
theorem hWU (k : Fin 1024) (j : Fin 2816) : (iblk m c 3 t : Vec Ideal S1024x2816 .bf16) (ix2 k j) = AU m c k j := (block3 m c t k j).trans (nat2_eq _ k j).symm
theorem hCW (i : Fin 3) (j : Fin 2816) : (iblk m c 4 t : Vec Ideal S3x2816 .f32) (ix2 i j) = AC m c i j := (block4 m c t i j).trans (nat2_eq _ i j).symm
theorem hCB (j : Fin 2816) : (iblk m c 5 t : Vec Ideal S1x2816 .f32) (ix2 0 j) = AB m c j := (block5 m c t j).trans (nat1_eq _ j).symm
theorem hWD (j : Fin 2816) (e : Fin 1024) : (iblk m c 6 t : Vec Ideal S2816x1024 .bf16) (ix2 j e) = AD m c j e := (block6 m c t j e).trans (nat2_eq _ j e).symm

/-! ## What a point finds of the rows before it -/

theorem carryAt_eq (i : Fin 8) (j : Fin 2816) :
    carryAt m c t (ix2 i j) = pr (AX m c (t.val / 16)) (AN m c) (AG m c) (256 * (t.val % 16) + 248 + i) j := by
  unfold carryAt
  exact carry_eq (hX m c t) (hN m c t) (hWG m c t) i j

theorem before (t : Fin cfg0.N) : Before (firstW (grid0.coords t)) (iblk m c 7 t) (iblk m c 8 t) (carried m c t.val (Nat.le_of_lt t.isLt))
    (pr (AX m c (t.val / 16)) (AN m c) (AG m c)) (t.val % 16) := by
  by_cases h0 : t.val % 16 = 0
  · exact Or.inl ⟨firstW_pos t h0, h0, block7 m c t, block8 m c t⟩
  · refine Or.inr ⟨firstW_neg t h0, Nat.pos_of_ne_zero h0, fun i j => ?_⟩
    obtain ⟨n, hn⟩ := t
    cases n with
    | zero => exact absurd rfl h0
    | succ n =>
      refine (carryAt_eq m c ⟨n, Nat.lt_of_succ_lt hn⟩ i j).trans ?_
      have h0' : (n + 1) % 16 ≠ 0 := h0
      have e1 : n / 16 = (n + 1) / 16 := by omega
      have e2 : 256 * (n % 16) + 248 + i.val = 256 * ((n + 1) % 16) - 8 + i.val := by omega
      show pr (AX m c (n / 16)) (AN m c) (AG m c) (256 * (n % 16) + 248 + i.val) j = pr (AX m c ((n + 1) / 16)) (AN m c) (AG m c) (256 * ((n + 1) % 16) - 8 + i.val) j
      rw [e1, e2]

theorem rowsAt_eq (r : Fin 256) (e : Fin 1024) : rowsAt m c t (ix2 r e)
    = yy (AX m c (t.val / 16)) (AN m c) (AG m c) (AU m c) (AC m c) (AB m c) (AD m c) (256 * (t.val % 16) + r) e := by
  unfold rowsAt rowsOver
  exact rows_eq (hX m c t) (hN m c t) (hWG m c t) (before m c t) (hWU m c t) (hCW m c t) (hCB m c t) (hWD m c t) r e

theorem lastAt_eq (i : Fin 8) (j : Fin 2816) :
    lastAt m c t (ix3 0 i j) = pr (AX m c (t.val / 16)) (AN m c) (AG m c) (256 * (t.val % 16) + 248 + i) j := by
  unfold lastAt
  exact last_eq (hX m c t) (hN m c t) (hWG m c t) i j

/-! ## What the two results hold -/

theorem result9 (R : Fin 16384) (e : Fin 1024) : (G9 m c : Vec Ideal S16384x1024 .f32) (ix2 R e)
    = yy (AX m c (R.val / 4096)) (AN m c) (AG m c) (AU m c) (AC m c) (AB m c) (AD m c) (R.val % 4096) e := by
  have hR := R.isLt
  have he := e.isLt
  have hN : cfg0.N = 64 := N_0
  have hp : pt9Of (ix2 R e) = R.val / 256 := by
    show 1 * (R.val / 256 - 0) + 1 * (e.val / 1024 - 0) = _
    omega
  have hl : loc9Of (ix2 R e) = ix2 ⟨R.val % 256, by omega⟩ e :=
    Hgrn.ext2 (show R.val % 256 = R.val % 256 from rfl) (show e.val % 1024 = e.val by omega)
  unfold G9
  rw [dif_pos (by rw [hp, hN]; omega), hl]
  refine (rowsAt_eq m c _ _ _).trans ?_
  dsimp only
  rw [hp]
  have e1 : R.val / 256 / 16 = R.val / 4096 := by omega
  have e2 : 256 * (R.val / 256 % 16) + R.val % 256 = R.val % 4096 := by omega
  rw [e1, e2]

theorem result10 (b : Fin 4) (i : Fin 8) (j : Fin 2816) : (G10 m c : Vec Ideal S4x8x2816 .f32) (ix3 b i j)
    = pr (AX m c b) (AN m c) (AG m c) (4088 + i) j := by
  have hb := b.isLt
  have hi := i.isLt
  have hj := j.isLt
  have hN : cfg0.N = 64 := N_0
  have hp : pt10Of (ix3 b i j) = 16 * b.val + 15 := by
    show 16 * (1 * (b.val / 1 - 0) + 1 * (i.val / 8 - 0) + 1 * (j.val / 2816 - 0)) + 15 = _
    omega
  have hl : loc10Of (ix3 b i j) = ix3 0 i j :=
    Hgrn.ext3 (show b.val % 1 = 0 by omega) (show i.val % 8 = i.val by omega) (show j.val % 2816 = j.val by omega)
  unfold G10
  rw [dif_pos (by rw [hp, hN]; omega), hl]
  refine (lastAt_eq m c _ _ _).trans ?_
  dsimp only
  rw [hp]
  have e1 : (16 * b.val + 15) / 16 = b.val := by omega
  have e2 : 256 * ((16 * b.val + 15) % 16) + 248 + i.val = 4088 + i.val := by omega
  rw [e1, e2]

end Cert.Ffn

end
-- ==== Proof.Ffn.RefValue.lean ====
/- The reference of the feed-forward part, entry by entry, over extended reals. -/
module

public import Idealize.ShloMosaic.Lib.Pointwise
public import proofs.«01_k».proof.Proof.Gen.Reference2Ideal.Run
public import proofs.«01_k».proof.Proof.Ffn.Spec
public import proofs.«01_k».proof.Proof.Ffn.Args
public import proofs.«01_k».proof.Proof.Hgrn.Canon

@[expose] public section

noncomputable section

namespace Cert.Ffn.Ref

open Idealize.ShloMosaic Idealize.ShloMosaic.TcCoe Idealize.SL.Sem Cert.Reference2Ideal Cert.Reference2Ideal.Gen Cert.Reference2Ideal.Value

/-! ## The parts of the reference -/

/-- The rows, normalised. -/
def nrm (x : FVec Ideal S4x4096x1024 .f32) (n : FVec Ideal S1024 .f32) : FVec Ideal S4x4096x1024 .f32 :=
  mulf (mulf x (broadcastInDim S4x4096x1024 ![0, 1, 2] bcast_S4x4096x1_S4x4096x1024_0_1_2
      (Host.rsqrt (addf (Host.divf (broadcastInDim S4x4096x1 ![0, 1] bcast_S4x4096_S4x4096x1_0_1
            (Host.reduceAdd (mulf x x) (constant S_ .f32 0x00000000#32) reducesTo_S4x4096x1024_S4x4096_d2 h_S_))
          (broadcastInDim S4x4096x1 ![] bcast_S_S4x4096x1 (constant S_ .f32 0x44800000#32)))
        (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 n))

/-- A projection of them. -/
def proj (h : FVec Ideal S4x4096x1024 .f32) (w : FVec Ideal S1024x2816 .f32) : FVec Ideal S4x4096x2816 .f32 :=
  Host.dotGeneral dot_S4x4096x1024_S1024x2816_S4x4096x2816_2_0_01_1_n_n none h w

/-- The gate projection with two rows of nought before it. -/
def ext (u : FVec Ideal S4x4096x2816 .f32) : FVec Ideal S4x4098x2816 .f32 :=
  concatenate S4x4098x2816 1 [⟨S4x2x2816, broadcastInDim S4x2x2816 ![] bcast_S_S4x2x2816 (constant S_ .f32 0x00000000#32)⟩, ⟨S4x4096x2816, u⟩]
    concatenates_S4x2x2816_S4x4096x2816_S4x4098x2816_d1

/-- One row of the convolution, for every row of the sequences. -/
def row (w : FVec Ideal S2816 .f32) : FVec Ideal S4x4096x2816 .f32 :=
  broadcastInDim S4x4096x2816 ![0, 1, 2] bcast_S1x1x2816_S4x4096x2816_0_1_2 (broadcastInDim S1x1x2816 ![2] bcast_S2816_S1x1x2816_2 w)

/-- The convolution. -/
def convolved (e : FVec Ideal S4x4098x2816 .f32) (cw : FVec Ideal S3x2816 .f32) (cb : FVec Ideal S2816 .f32) : FVec Ideal S4x4096x2816 .f32 :=
  addf (row cb) (addf (addf (addf (broadcastInDim S4x4096x2816 ![] bcast_S_S4x4096x2816 (constant S_ .f32 0x00000000#32))
      (mulf (extractStridedSlice S4x4096x2816 ![0, 0, 0] e slices_S4x4098x2816_S4x4096x2816_0_0_0)
        (row (shapeCast S2816 (extractStridedSlice S1x2816 ![0, 0] cw slices_S3x2816_S1x2816_0_0) shapeCasts_S1x2816_S2816))))
      (mulf (extractStridedSlice S4x4096x2816 ![0, 1, 0] e slices_S4x4098x2816_S4x4096x2816_0_1_0)
        (row (shapeCast S2816 (extractStridedSlice S1x2816 ![1, 0] cw slices_S3x2816_S1x2816_1_0) shapeCasts_S1x2816_S2816))))
      (mulf (extractStridedSlice S4x4096x2816 ![0, 2, 0] e slices_S4x4098x2816_S4x4096x2816_0_2_0)
        (row (shapeCast S2816 (extractStridedSlice S1x2816 ![2, 0] cw slices_S3x2816_S1x2816_2_0) shapeCasts_S1x2816_S2816))))

/-- The hidden rows. -/
def hidden (v up : FVec Ideal S4x4096x2816 .f32) : FVec Ideal S4x4096x2816 .f32 :=
  mulf (mulf v (Host.divf (broadcastInDim S4x4096x2816 ![] bcast_S_S4x4096x2816 (constant S_ .f32 0x3F800000#32))
    (addf (broadcastInDim S4x4096x2816 ![] bcast_S_S4x4096x2816 (constant S_ .f32 0x3F800000#32)) (Host.exp (Host.negf v))))) up

/-- The sum with the rows. -/
def total (x : FVec Ideal S4x4096x1024 .f32) (a : FVec Ideal S4x4096x2816 .f32) (wd : FVec Ideal S2816x1024 .f32) : FVec Ideal S16384x1024 .f32 :=
  shapeCast S16384x1024 (addf x (Host.dotGeneral dot_S4x4096x2816_S2816x1024_S4x4096x1024_2_0_01_1_n_n none a wd)) shapeCasts_S4x4096x1024_S16384x1024

/-- The last rows. -/
def tail (e : FVec Ideal S4x4098x2816 .f32) : FVec Ideal S4x8x2816 .f32 :=
  extractStridedSlice S4x8x2816 ![0, 4090, 0] e slices_S4x4098x2816_S4x8x2816_0_4090_0

/-! ## Their entries -/

theorem nrm_apply (x : FVec Ideal S4x4096x1024 .f32) (n : FVec Ideal S1024 .f32) (b : Fin 4) (r : Fin 4096) (k : Fin 1024) :
    nrm x n (ix3 b r k) = hn (nat3 (a := 4) (b := 4096) (d := 1024) x b) (nat1 (a := 1024) n) r k := by
  unfold hn
  simp only [nat3_eq, nat1_eq]
  pointwise [nrm]
  rfl

theorem proj_apply (x : FVec Ideal S4x4096x1024 .f32) (n : FVec Ideal S1024 .f32) (w : FVec Ideal S1024x2816 .f32) (b : Fin 4) (r : Fin 4096) (j : Fin 2816) :
    proj (nrm x n) w (ix3 b r j) = pr (nat3 (a := 4) (b := 4096) (d := 1024) x b) (nat1 (a := 1024) n) (nat2 (a := 1024) (b := 2816) w) r j := by
  unfold pr
  simp only [← nrm_apply, nat2_eq]
  pointwise [proj, dot_S4x4096x1024_S1024x2816_S4x4096x2816_2_0_01_1_n_n]

theorem ext_apply (u : FVec Ideal S4x4096x2816 .f32) (b : Fin 4) (r : Fin 4098) (j : Fin 2816) :
    ext u (ix3 b r j) = if h : 2 ≤ r.val then u (ix3 b ⟨r.val - 2, by have := r.isLt; omega⟩ j) else 0 := by
  pointwise [ext]
  by_cases h : 2 ≤ r.val
  · rw [dif_neg (Nat.not_lt.2 h), dif_pos h]
  · rw [dif_pos (Nat.not_le.1 h), dif_neg h]

theorem convolved_apply (e : FVec Ideal S4x4098x2816 .f32) (cw : FVec Ideal S3x2816 .f32) (cb : FVec Ideal S2816 .f32) (b : Fin 4) (r : Fin 4096) (j : Fin 2816) :
    convolved e cw cb (ix3 b r j) = conv (cb (ix1 j)) (cw (ix2 0 j)) (cw (ix2 1 j)) (cw (ix2 2 j)) (e (ix3 b ⟨r.val, by have := r.isLt; omega⟩ j))
      (e (ix3 b ⟨1 + r.val, by have := r.isLt; omega⟩ j)) (e (ix3 b ⟨2 + r.val, by have := r.isLt; omega⟩ j)) := by
  pointwise [convolved, row]
  unfold conv
  rw [← add_assoc, ← add_assoc]

theorem hidden_apply (v up : FVec Ideal S4x4096x2816 .f32) (b : Fin 4) (r : Fin 4096) (j : Fin 2816) :
    hidden v up (ix3 b r j) = act (v (ix3 b r j)) (up (ix3 b r j)) := by
  pointwise [hidden]
  rfl

theorem total_apply (x : FVec Ideal S4x4096x1024 .f32) (a : FVec Ideal S4x4096x2816 .f32) (wd : FVec Ideal S2816x1024 .f32) (R : Fin 16384) (e : Fin 1024) :
    total x a wd (ix2 R e) = x (ix3 ⟨R.val / 4096, by have := R.isLt; omega⟩ ⟨R.val % 4096, Nat.mod_lt _ (by decide)⟩ e)
      + ∑ j : Fin 2816, a (ix3 ⟨R.val / 4096, by have := R.isLt; omega⟩ ⟨R.val % 4096, Nat.mod_lt _ (by decide)⟩ j) * wd (ix2 j e) := by
  pointwise [total, dot_S4x4096x2816_S2816x1024_S4x4096x1024_2_0_01_1_n_n]

theorem tail_apply (e : FVec Ideal S4x4098x2816 .f32) (b : Fin 4) (i : Fin 8) (j : Fin 2816) :
    tail e (ix3 b i j) = e (ix3 b ⟨4090 + i.val, by have := i.isLt; omega⟩ j) := by
  pointwise [tail]

variable (m : (ℓ : Loc nD τ sig) → Buf (Elt Ideal) ℓ) (c : Dev nD)

abbrev A0 : FVec Ideal S4x4096x1024 .f32 := m ((c.tc : Thread nD τ).loc main_arg0)
abbrev A1 : FVec Ideal S1024 .f32 := m ((c.tc : Thread nD τ).loc main_arg1)
abbrev A2 : FVec Ideal S1024x2816 .f32 := m ((c.tc : Thread nD τ).loc main_arg2)
abbrev A3 : FVec Ideal S1024x2816 .f32 := m ((c.tc : Thread nD τ).loc main_arg3)
abbrev A4 : FVec Ideal S3x2816 .f32 := m ((c.tc : Thread nD τ).loc main_arg4)
abbrev A5 : FVec Ideal S2816 .f32 := m ((c.tc : Thread nD τ).loc main_arg5)
abbrev A6 : FVec Ideal S2816x1024 .f32 := m ((c.tc : Thread nD τ).loc main_arg6)

set_option maxRecDepth 8192 in
theorem res_eq : res_main_v47 m c = total (A0 m c) (hidden (convolved (ext (proj (nrm (A0 m c) (A1 m c)) (A2 m c))) (A4 m c) (A5 m c)) (proj (nrm (A0 m c) (A1 m c)) (A3 m c))) (A6 m c) := rfl

/-- The convolution of the projected rows, entry by entry. -/
theorem conv_apply (b : Fin 4) (r : Fin 4096) (j : Fin 2816) :
    convolved (ext (proj (nrm (A0 m c) (A1 m c)) (A2 m c))) (A4 m c) (A5 m c) (ix3 b r j)
      = conv (nat1 (a := 2816) (A5 m c) j) (nat2 (a := 3) (b := 2816) (A4 m c) 0 j) (nat2 (a := 3) (b := 2816) (A4 m c) 1 j) (nat2 (a := 3) (b := 2816) (A4 m c) 2 j)
        (prev (nat3 (a := 4) (b := 4096) (d := 1024) (A0 m c) b) (nat1 (a := 1024) (A1 m c)) (nat2 (a := 1024) (b := 2816) (A2 m c)) 2 r j)
        (prev (nat3 (a := 4) (b := 4096) (d := 1024) (A0 m c) b) (nat1 (a := 1024) (A1 m c)) (nat2 (a := 1024) (b := 2816) (A2 m c)) 1 r j)
        (pr (nat3 (a := 4) (b := 4096) (d := 1024) (A0 m c) b) (nat1 (a := 1024) (A1 m c)) (nat2 (a := 1024) (b := 2816) (A2 m c)) r j) := by
  have hr := r.isLt
  rw [convolved_apply, ext_apply, ext_apply, ext_apply]
  simp only [proj_apply]
  rw [show nat1 (a := 2816) (A5 m c) j = _ from nat1_eq _ j, show nat2 (a := 3) (b := 2816) (A4 m c) 0 j = _ from nat2_eq _ (0 : Fin 3) j,
    show nat2 (a := 3) (b := 2816) (A4 m c) 1 j = _ from nat2_eq _ (1 : Fin 3) j, show nat2 (a := 3) (b := 2816) (A4 m c) 2 j = _ from nat2_eq _ (2 : Fin 3) j]
  unfold prev
  have e1 : (2 ≤ 1 + r.val) ↔ (1 ≤ r.val) := by omega
  have e2 : 1 + r.val - 2 = r.val - 1 := by omega
  have e3 : 2 + r.val - 2 = r.val := by omega
  simp only [e1, e2, e3, dif_pos (show 2 ≤ 2 + r.val by omega), dite_eq_ite]

/-- The first result, entry by entry. -/
theorem res_apply (R : Fin 16384) (e : Fin 1024) : (res_main_v47 m c : FVec Ideal S16384x1024 .f32) (ix2 R e)
    = yy (nat3 (a := 4) (b := 4096) (d := 1024) (A0 m c) (R.val / 4096)) (nat1 (a := 1024) (A1 m c)) (nat2 (a := 1024) (b := 2816) (A2 m c)) (nat2 (a := 1024) (b := 2816) (A3 m c))
      (nat2 (a := 3) (b := 2816) (A4 m c)) (nat1 (a := 2816) (A5 m c)) (nat2 (a := 2816) (b := 1024) (A6 m c)) (R.val % 4096) e := by
  rw [res_eq, total_apply]
  unfold yy hid
  refine congrArg₂ (· + ·) (nat3_eq _ ⟨R.val / 4096, _⟩ ⟨R.val % 4096, _⟩ e).symm (Finset.sum_congr rfl fun j _ => ?_)
  rw [hidden_apply, conv_apply, proj_apply]
  exact congrArg₂ (· * ·) rfl (nat2_eq _ j e).symm

/-- The last rows, entry by entry. -/
theorem tail_res_apply (b : Fin 4) (i : Fin 8) (j : Fin 2816) : tail (ext (proj (nrm (A0 m c) (A1 m c)) (A2 m c))) (ix3 b i j)
    = pr (nat3 (a := 4) (b := 4096) (d := 1024) (A0 m c) b) (nat1 (a := 1024) (A1 m c)) (nat2 (a := 1024) (b := 2816) (A2 m c)) (4088 + i.val) j := by
  have hi := i.isLt
  rw [tail_apply, ext_apply, dif_pos (show 2 ≤ 4090 + i.val by omega), proj_apply]
  exact congrArg (fun r => pr _ _ _ r _) (show 4090 + i.val - 2 = 4088 + i.val by omega)

end Cert.Ffn.Ref

end
-- ==== Proof.Ffn.Algebraic.lean ====
/- Both programs compute the feed-forward part of `Spec.lean` of their arguments, so equal arguments give equal results. -/
module

public import proofs.«01_k».proof.Defs
public import proofs.«01_k».proof.Proof.Ffn.Inputs
public import proofs.«01_k».proof.Proof.Ffn.RefValue

@[expose] public section

noncomputable section

namespace Cert.Ffn

open Idealize.ShloMosaic Idealize.ShloMosaic.TcCoe Idealize.SL.Sem

section

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The two launches give their arguments the same contents. -/
structure Same : Prop where
  a0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  a1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  a2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  a3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  a4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  a5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
  a6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)

variable {m m' c} (hs : Same m m' c)
include hs

theorem same_X : nat3 (a := 4) (b := 4096) (d := 1024) (Ref.A0 m' c) = AX m c := by
  funext b r k
  unfold AX Ref.A0
  rw [hs.a0]

theorem same_N : nat1 (a := 1024) (Ref.A1 m' c) = AN m c := by
  funext k
  unfold AN Ref.A1
  rw [hs.a1]

theorem same_G : nat2 (a := 1024) (b := 2816) (Ref.A2 m' c) = AG m c := by
  funext k j
  unfold AG Ref.A2
  rw [hs.a2]

theorem same_U : nat2 (a := 1024) (b := 2816) (Ref.A3 m' c) = AU m c := by
  funext k j
  unfold AU Ref.A3
  rw [hs.a3]

theorem same_C : nat2 (a := 3) (b := 2816) (Ref.A4 m' c) = AC m c := by
  funext i j
  unfold AC Ref.A4
  rw [hs.a4]

theorem same_B : nat1 (a := 2816) (Ref.A5 m' c) = AB m c := by
  funext j
  unfold AB Ref.A5
  rw [hs.a5]

theorem same_D : nat2 (a := 2816) (b := 1024) (Ref.A6 m' c) = AD m c := by
  funext j e
  unfold AD Ref.A6
  rw [hs.a6]

theorem same_rows : (Cert.Reference2Ideal.Value.res_main_v47 m' c : FVec Ideal ⟨2, ![16384, 1024]⟩ .f32) = G9 m c := by
  funext i
  have e : i = ix2 (i 0) (i 1) := Hgrn.ext2 rfl rfl
  rw [e]
  refine (Ref.res_apply m' c (i 0) (i 1)).trans (Eq.trans ?_ (result9 m c (i 0) (i 1)).symm)
  rw [same_X hs, same_N hs, same_G hs, same_U hs, same_C hs, same_B hs, same_D hs]

theorem same_last : (Ref.tail (Ref.ext (Ref.proj (Ref.nrm (Ref.A0 m' c) (Ref.A1 m' c)) (Ref.A2 m' c))) : FVec Ideal ⟨3, ![4, 8, 2816]⟩ .f32) = G10 m c := by
  funext i
  have e : i = ix3 (i 0) (i 1) (i 2) := Hgrn.ext3 rfl rfl rfl
  rw [e]
  refine (Ref.tail_res_apply m' c (i 0) (i 1) (i 2)).trans (Eq.trans ?_ (result10 m c (i 0) (i 1) (i 2)).symm)
  rw [same_X hs, same_N hs, same_G hs]

end

open Cert.Reference2Ideal Cert.Reference2Ideal.Value in
/-- The call and the reference compute the same extended reals. -/
theorem algebraic : Cert.algebraic_Kernel2Ideal_Reference2Ideal (hKernel2Ideal := Cert.Kernel2Ideal.Gen.facts) (hReference2Ideal := Cert.Reference2Ideal.Gen.facts) :=
  fun m g m' g' _ h => by
    have hs : ∀ c, Same m m' c := fun c => ⟨(h c).1, (h c).2.1, (h c).2.2.1, (h c).2.2.2.1, (h c).2.2.2.2.1, (h c).2.2.2.2.2.1, (h c).2.2.2.2.2.2⟩
    refine ⟨fun c => G9 m c, fun c => G10 m c, Cert.Ffn.run m g, ?_⟩
    refine (θ_run _ _ _).mono (fun r hr c => ?_) (Cert.Reference2Ideal.Value.run (F := Ideal) m' g')
    exact ⟨(hr c).1.trans (same_rows (hs c)), (hr c).2.1.trans (same_last (hs c)), (hr c).2.2⟩

end Cert.Ffn

end
-- ==== Proof.Mem.Pre.lean ====
/- What the precondition says: every entry of the memory and of the weights is a real number. -/
module

public import Idealize.ShloMosaic.Lib.Pointwise
public import Idealize.ShloMosaic.Lib.ReduceAll
public import proofs.«01_k».proof.Pre_real_memory

@[expose] public section

noncomputable section

namespace Cert.Mem

open Idealize.ShloMosaic Cert.Pre_real_memory

/-- The shapes the precondition's operations take fit. -/
theorem facts : Cert.Pre_real_memory.Facts := ⟨by decide, by decide, by decide, by decide, by decide⟩

theorem lt_top_of_olt (x : EReal) (h : Ideal.cmp .olt (max x (-x)) (Ideal.ofBits .f32 0x7F800000#32) = 1#1) : ∃ a : ℝ, x = a := by
  have htop : Ideal.ofBits .f32 0x7F800000#32 = ⊤ := by simp [Ideal.ofBits, Ideal.ieee]
  rw [htop] at h
  have h' : max x (-x) < ⊤ := by
    by_contra hn
    simp [Ideal.cmp, hn] at h
  induction x with
  | bot => simp at h'
  | top => simp at h'
  | coe a => exact ⟨a, rfl⟩

instance : Subsingleton S_.Idx := ⟨fun _ _ => funext fun a => a.elim0⟩

theorem real_of_pre [Cert.Pre_real_memory.Facts] (x : FVec Ideal S4x256x1024 .f32) (w : FVec Ideal S1024x512 .f32) (g : FVec Ideal S64 .f32)
    (h : Cert.Pre_real_memory.fn (F := Ideal) x w g = fun _ => 1#1) : (∀ i, ∃ a : ℝ, x i = a) ∧ ∀ i, ∃ a : ℝ, w i = a := by
  obtain ⟨h1, h2⟩ := IntOp.andi_eq_one.1 (congrFun h (fun a => a.elim0))
  exact ⟨fun i => lt_top_of_olt _ (Host.reduce_andi_all _ _ _ _ _ h1 i), fun i => lt_top_of_olt _ (Host.reduce_andi_all _ _ _ _ _ h2 i)⟩

end Cert.Mem

end
-- ==== Proof.Mem.Frames.lean ====
/- The frames of the memory call and of its reference. The compiled program and its ideal reading have the same text, so
   one run over any float format serves both frames. -/
module

public import proofs.«01_k».proof.Defs
public import proofs.«01_k».proof.Proof.Gen.Kernel3
public import proofs.«01_k».proof.Proof.Gen.Kernel3Ideal.Frame
public import proofs.«01_k».proof.Proof.Gen.Reference3Ideal.Run
public import proofs.«01_k».proof.Proof.Mem.Pre

@[expose] public section

noncomputable section

namespace Cert.Mem

open Idealize.ShloMosaic Idealize.SL.Sem

/-- The two programs' one kernel function is the same function. -/
theorem bodies_eq : Cert.Kernel3.defs₀ (F := Bits) = Cert.Kernel3Ideal.defs₀ :=
  congrArg Defs.onTc (funext fun l => funext fun a => by
    match l, a with
    | 0, (t, s) => rfl
    | ⟨_ + 1, h⟩, _ => exact absurd h (Nat.not_lt.2 (Nat.le_add_left _ _)))

/-- So the two programs have the same functions. -/
theorem defs_eq : Cert.Kernel3.defs (F := Bits) = Cert.Kernel3Ideal.defs :=
  congrArg (Pipeline.defs Cert.Kernel3.pcfgs) bodies_eq

/-- The compiled call terminates, keeps its arguments and ends with its counters at zero. -/
theorem frame_kernel : Cert.quiescent_Kernel3 (hKernel3 := Cert.Kernel3.Gen.facts) := fun m ρ _ => by
  rw [defs_eq]
  exact Cert.Kernel3Ideal.Gen.frame (F := Bits) m ρ

/-- The same of the ideal reading. -/
theorem frame_ideal : Cert.quiescent_Kernel3Ideal (hKernel3Ideal := Cert.Kernel3Ideal.Gen.facts) := fun m ρ _ =>
  Cert.Kernel3Ideal.Gen.frame (F := Ideal) m ρ

/-- The same of the reference. -/
theorem frame_ref : Cert.quiescent_Reference3Ideal (hReference3Ideal := Cert.Reference3Ideal.Gen.facts) := fun m ρ _ =>
  (θ_run _ _ _).mono (fun r h => ⟨fun c => (h c).2.2, sem_eq_zero_of_no_sems (by decide) r.2⟩) (Cert.Reference3Ideal.Value.run (F := Ideal) m ρ)

/-- Both hold of every argument, so of those the precondition admits. -/
theorem frame_ideal_pre : Cert.quiescent_Kernel3Ideal_pre_real_memory (hKernel3Ideal := Cert.Kernel3Ideal.Gen.facts) (hPre_real_memory := facts) :=
  fun m ρ _ => frame_ideal m ρ trivial

theorem frame_ref_pre : Cert.quiescent_Reference3Ideal_pre_real_memory (hReference3Ideal := Cert.Reference3Ideal.Gen.facts) (hPre_real_memory := facts) :=
  fun m ρ _ => frame_ref m ρ trivial

end Cert.Mem

end
-- ==== Proof.Mem.Spec.lean ====
/- The keys and values of the memory, over extended reals. -/
module

public import Idealize.ShloMosaic.Lib.Pointwise
public import proofs.«01_k».proof.Proof.Hgrn.Spec

@[expose] public section

noncomputable section

namespace Cert.Mem

open Idealize.ShloMosaic

variable (x : FVec Ideal ⟨3, ![4, 256, 1024]⟩ .f32) (w : FVec Ideal ⟨2, ![1024, 512]⟩ .f32) (g : FVec Ideal ⟨1, ![64]⟩ .f32)

/-- A projected entry of a memory row: keys are the first half, values the second. -/
def kv (b : Fin 4) (r : Fin 256) (j : Fin 512) : EReal := ∑ k : Fin 1024, x (ix3 b r k) * w (ix2 k j)

/-- Entry `e` of a row of keys: its head's 64 entries are normalised by the mean of their squares and multiplied by the gains. -/
def key (b : Fin 4) (r e : Fin 256) : EReal :=
  Hgrn.scale 0x42800000#32
      (∑ d : Fin 64, kv x w b r ⟨64 * (e.val / 64) + d.val, by have := e.isLt; have := d.isLt; omega⟩
        * kv x w b r ⟨64 * (e.val / 64) + d.val, by have := e.isLt; have := d.isLt; omega⟩)
      (kv x w b r ⟨e.val, by have := e.isLt; omega⟩)
    * g (ix1 ⟨e.val % 64, Nat.mod_lt _ (by decide)⟩)

/-- Entry `e` of a row of values. -/
def value (b : Fin 4) (r e : Fin 256) : EReal := kv x w b r ⟨256 + e.val, by have := e.isLt; omega⟩

/-- A sum of products of reals is real. -/
theorem sum_real {n : ℕ} (f h : Fin n → EReal) (hf : ∀ k, ∃ a : ℝ, f k = a) (hh : ∀ k, ∃ a : ℝ, h k = a) : ∃ a : ℝ, ∑ k, f k * h k = a := by
  choose u hu using hf
  choose v hv using hh
  simp only [hu, hv, ← EReal.coe_mul]
  exact ⟨∑ k, u k * v k, by
    induction (Finset.univ : Finset (Fin n)) using Finset.induction_on with
    | empty => simp
    | insert a s ha ih => rw [Finset.sum_insert ha, Finset.sum_insert ha, ih, EReal.coe_add]⟩

theorem kv_real (hx : ∀ i, ∃ a : ℝ, x i = a) (hw : ∀ i, ∃ a : ℝ, w i = a) (b : Fin 4) (r : Fin 256) (j : Fin 512) : ∃ a : ℝ, kv x w b r j = a :=
  sum_real _ _ (fun _ => hx _) (fun _ => hw _)

/-- A sum over 256 columns that keeps one head's is the sum over the head's 64. -/
theorem sum_head (f : Fin 256 → EReal) (q : Fin 4) :
    (∑ x : Fin 256, if x.val / 64 = q.val then f x else 0) = ∑ d : Fin 64, f ⟨64 * q.val + d.val, by have := q.isLt; have := d.isLt; omega⟩ := by
  refine (Equiv.sum_comp (finProdFinEquiv (m := 4) (n := 64)) (fun x : Fin 256 => if x.val / 64 = q.val then f x else 0)).symm.trans ?_
  rw [Fintype.sum_prod_type]
  refine (Finset.sum_eq_single q (fun p _ hp => Finset.sum_eq_zero fun d _ => if_neg ?_) (fun h => absurd (Finset.mem_univ q) h)).trans
    (Finset.sum_congr rfl fun d _ => (if_pos ?_).trans (congrArg f (Fin.ext ?_)))
  · intro h
    refine hp (Fin.ext ?_)
    have hd := d.isLt
    have : (finProdFinEquiv (m := 4) (n := 64) (p, d)).val = d.val + 64 * p.val := rfl
    omega
  · have hd := d.isLt
    have : (finProdFinEquiv (m := 4) (n := 64) (q, d)).val = d.val + 64 * q.val := rfl
    omega
  · show d.val + 64 * q.val = 64 * q.val + d.val
    omega

/-- Dividing by 64 is multiplying by its reciprocal. -/
theorem div_64 (s : EReal) : Ideal.div s (Ideal.ofBits .f32 0x42800000#32) = s * Ideal.ofBits .f32 0x3C800000#32 := by
  have h1 : Ideal.ofBits .f32 0x42800000#32 = ((64 : ℝ) : EReal) := by
    simp [Ideal.ofBits, Ideal.ieee, -EReal.coe_mul]; norm_num
  have h2 : Ideal.ofBits .f32 0x3C800000#32 = ((1 / 64 : ℝ) : EReal) := by
    simp [Ideal.ofBits, Ideal.ieee, -EReal.coe_mul]; norm_num
  rw [h1, h2, Ideal.div_coe (by norm_num)]

end Cert.Mem

end
-- ==== Proof.Mem.Payload.lean ====
/- What one grid point of the memory kernel computes, entry by entry, over extended reals. -/
module

public import Idealize.ShloMosaic.Lib.Pointwise
public import proofs.«01_k».proof.Proof.Gen.Kernel3Ideal.Frame
public import proofs.«01_k».proof.Proof.Hgrn.Canon
public import proofs.«01_k».proof.Proof.Mem.Spec

@[expose] public section

noncomputable section

namespace Cert.Mem

open Idealize.ShloMosaic Cert.Kernel3Ideal Cert.Kernel3Ideal.Gen

/-- A projected entry. -/
theorem pay3_apply (X : Vec Ideal S256x1024 .f32) (W : Vec Ideal S1024x512 .bf16) (r : Fin 256) (j : Fin 512) :
    k0_pay3 X W (ix2 r j) = ∑ k : Fin 1024, X (ix2 r k) * W (ix2 k j) := by
  pointwise [k0_pay3, dot_S256x1024_S1024x512_S256x512_1_0_0_1_n_n]

theorem pay4_apply (X : Vec Ideal S256x1024 .f32) (W : Vec Ideal S1024x512 .bf16) (r e : Fin 256) :
    k0_pay4 X W (ix2 r e) = ∑ k : Fin 1024, X (ix2 r k) * W (ix2 k ⟨e.val, by have := e.isLt; omega⟩) := by
  pointwise [k0_pay4, pay3_apply]

theorem pay2_apply (X : Vec Ideal S256x1024 .f32) (W : Vec Ideal S1024x512 .bf16) (r e : Fin 256) :
    k0_pay2 (k0_pay3 X W) (ix2 r e) = ∑ k : Fin 1024, X (ix2 r k) * W (ix2 k ⟨256 + e.val, by have := e.isLt; omega⟩) := by
  pointwise [k0_pay2, pay3_apply]

theorem pay5_apply (r c : Fin 256) : k0_pay5 (ix2 r c) = BitVec.ofNat 32 (r.val / 64) := by
  pointwise [k0_pay5]
  revert r
  decide

theorem pay6_apply (r c : Fin 256) : k0_pay6 (ix2 r c) = BitVec.ofNat 32 (c.val / 64) := by
  pointwise [k0_pay6]
  revert c
  decide

theorem pay7_apply (r c : Fin 256) : k0_pay7 (ix2 r c) = BitVec.ofNat 32 (if c.val = 0 then 0 else 1) := by
  pointwise [k0_pay7]
  revert c
  decide

/-- The head of column `e`, as the kernel counts it. -/
theorem head_eq (e : Fin 256) :
    Scalar.select
      (IntOp.andi
        (IntOp.cmpi CmpIPredicate.ne (BitVec.ofNat 32 (if e.val = 0 then 0 else 1))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 e.val) 64#32) 0#32))
      (IntOp.subi (BitVec.ofNat 32 (e.val / 64)) 1#32) (BitVec.ofNat 32 (e.val / 64)) = BitVec.ofNat 32 (e.val / 64) := by
  revert e
  decide

theorem same_head (p q : Fin 4) (a b : EReal) :
    Scalar.select (IntOp.cmpi CmpIPredicate.eq (BitVec.ofNat 32 p.val) (BitVec.ofNat 32 q.val)) a b = if p.val = q.val then a else b := by
  have h : ∀ p q : Fin 4, IntOp.cmpi CmpIPredicate.eq (BitVec.ofNat 32 p.val) (BitVec.ofNat 32 q.val) = if p.val = q.val then 1#1 else 0#1 := by decide
  rw [h]
  split <;> rfl

theorem pay1_apply (K : FVec Ideal S256x256 .f32) (g : Vec Ideal S1x256 .f32) (r e : Fin 256) :
    k0_pay1 K k0_pay5 (iota .tc S256x256 32 [1] iota_S256x256_d1_w32) 64#32 k0_pay6 k0_pay7 (Scalar.cmpi .sgt 64#32 0#32) g (ix2 r e)
      = K (ix2 r e) * Ideal.rsqrt (((∑ x : Fin 256, if x.val / 64 = e.val / 64 then K (ix2 r x) * K (ix2 r x) else 0)
          + ∑ x : Fin 256, if x.val / 64 = e.val / 64 then K (ix2 r x) * K (ix2 r x) - K (ix2 r x) * K (ix2 r x) else 0)
          * Ideal.ofBits .f32 0x3C800000#32 + Ideal.ofBits .f32 0x358637BD#32) * g (ix2 0 e) := by
  have hh : ∀ (x : Fin 256) (a b : EReal), Scalar.select (IntOp.cmpi CmpIPredicate.eq (BitVec.ofNat 32 (x.val / 64)) (BitVec.ofNat 32 (e.val / 64))) a b
      = if x.val / 64 = e.val / 64 then a else b := fun x a b =>
    same_head ⟨x.val / 64, by have := x.isLt; omega⟩ ⟨e.val / 64, by have := e.isLt; omega⟩ a b
  pointwise [k0_pay1, dot_S256x256_S256x256_S256x256_1_0_0_1_n_n, pay5_apply, pay6_apply, pay7_apply]
  simp only [head_eq, hh]

/-- On a row of reals the low halves are nought, and the head's sum is the sum of the squares. -/
theorem pay1_real (K : FVec Ideal S256x256 .f32) (g : Vec Ideal S1x256 .f32) (r e : Fin 256) (hK : ∀ j : Fin 256, ∃ a : ℝ, K (ix2 r j) = a) :
    k0_pay1 K k0_pay5 (iota .tc S256x256 32 [1] iota_S256x256_d1_w32) 64#32 k0_pay6 k0_pay7 (Scalar.cmpi .sgt 64#32 0#32) g (ix2 r e)
      = Hgrn.scale 0x42800000#32 (∑ d : Fin 64, K (ix2 r ⟨64 * (e.val / 64) + d.val, by have := e.isLt; have := d.isLt; omega⟩)
          * K (ix2 r ⟨64 * (e.val / 64) + d.val, by have := e.isLt; have := d.isLt; omega⟩)) (K (ix2 r e)) * g (ix2 0 e) := by
  have hz : ∀ j : Fin 256, K (ix2 r j) * K (ix2 r j) - K (ix2 r j) * K (ix2 r j) = 0 := fun j => by
    obtain ⟨a, ha⟩ := hK j
    rw [ha, ← EReal.coe_mul, ← EReal.coe_sub, sub_self, EReal.coe_zero]
  rw [pay1_apply]
  simp only [hz, ite_self, Finset.sum_const_zero, add_zero]
  rw [sum_head (fun x => K (ix2 r x) * K (ix2 r x)) ⟨e.val / 64, by have := e.isLt; omega⟩, ← div_64]
  rfl

end Cert.Mem

end
-- ==== Proof.Mem.Inputs.lean ====
/- What the memory call's blocks hold, of its arguments, and what its two results then hold. -/
module

public import Idealize.ShloMosaic.Lib.Pointwise
public import Idealize.ShloMosaic.Lib.StableHlo.RunRead
public import proofs.«01_k».proof.Proof.Gen.Kernel3Ideal.Value
public import proofs.«01_k».proof.Proof.Gen.Kernel3Ideal.Points
public import proofs.«01_k».proof.Proof.Mem.Payload

@[expose] public section

noncomputable section

namespace Cert.Mem

open Idealize.ShloMosaic Idealize.ShloMosaic.TcCoe Idealize.SL.Sem Cert.Kernel3Ideal Cert.Kernel3Ideal.Gen
open Idealize.ShloMosaic.StableHlo

variable (m : (ℓ : Loc nD τ sig) → Buf (Elt Ideal) ℓ) (c : Dev nD)

/-- The arguments: the memory, the weights, the gains. -/
abbrev AX : FVec Ideal S4x256x1024 .f32 := m ((c : Thread nD τ).loc main_arg0)
abbrev AW : FVec Ideal S1024x512 .f32 := m ((c : Thread nD τ).loc main_arg1)
abbrev AG : FVec Ideal S64 .f32 := m ((c : Thread nD τ).loc main_arg2)

/-! ## What the host hands the call -/

theorem in_x (b : Fin 4) (r : Fin 256) (k : Fin 1024) :
    (V m c main_v0 : Vec Ideal S1024x1024 .f32) (ix2 ⟨256 * b.val + r.val, by have := b.isLt; have := r.isLt; omega⟩ k) = AX m c (ix3 b r k) := by
  have hb := b.isLt
  have hr := r.isLt
  simp only [V]
  after_reads_simp
  pointwise

theorem in_w (k : Fin 1024) (j : Fin 512) : (V m c main_v1 : Vec Ideal S1024x512 .bf16) (ix2 k j) = AW m c (ix2 k j) := by
  simp only [V]
  after_reads_simp
  pointwise

theorem in_g (e : Fin 256) : (V m c main_v5 : Vec Ideal S1x256 .f32) (ix2 0 e) = AG m c (ix1 ⟨e.val % 64, Nat.mod_lt _ (by decide)⟩) := by
  have he := e.isLt
  simp only [V]
  after_reads_simp
  pointwise

/-! ## Where the blocks of a point lie -/

/-- The point of memory `b`. -/
abbrev pt (b : Fin 4) : Fin cfg0.N := ⟨b.val, lt_of_lt_of_eq b.isLt N_0.symm⟩

theorem place0 : ∀ t : Fin cfg0.N, win0_0.index t (0 : Fin 2) = t.val ∧ win0_0.index t (1 : Fin 2) = 0 :=
  (by decide +kernel : ∀ t : Fin grid0.N, _)

theorem place1 : ∀ t : Fin cfg0.N, win0_1.index t (0 : Fin 2) = 0 ∧ win0_1.index t (1 : Fin 2) = 0 :=
  (by decide +kernel : ∀ t : Fin grid0.N, _)

theorem place2 : ∀ t : Fin cfg0.N, win0_2.index t (0 : Fin 2) = 0 ∧ win0_2.index t (1 : Fin 2) = 0 :=
  (by decide +kernel : ∀ t : Fin grid0.N, _)

theorem place3 : ∀ t : Fin cfg0.N, win0_3.index t (0 : Fin 2) = t.val ∧ win0_3.index t (1 : Fin 2) = 0 :=
  (by decide +kernel : ∀ t : Fin grid0.N, _)

theorem place4 : ∀ t : Fin cfg0.N, win0_4.index t (0 : Fin 2) = t.val ∧ win0_4.index t (1 : Fin 2) = 0 :=
  (by decide +kernel : ∀ t : Fin grid0.N, _)

variable (b : Fin 4)

theorem block0 (r : Fin 256) (k : Fin 1024) : (iblk m c 0 (pt b) : Vec Ideal S256x1024 .f32) (ix2 r k) = AX m c (ix3 b r k) := by
  obtain ⟨e0, e1⟩ := place0 (pt b)
  have e0' : win0_0.index (pt b) (0 : Fin 2) = b.val := e0
  refine Eq.trans (congrArg (V m c main_v0 : Vec Ideal S1024x1024 .f32) (Hgrn.ext2 ?_ ?_)) (in_x m c b r k)
  · show win0_0.index (pt b) (0 : Fin 2) * 256 + 1 * r.val = 256 * b.val + r.val
    omega
  · show win0_0.index (pt b) (1 : Fin 2) * 1024 + 1 * k.val = k.val
    omega

theorem block1 (k : Fin 1024) (j : Fin 512) : (iblk m c 1 (pt b) : Vec Ideal S1024x512 .bf16) (ix2 k j) = AW m c (ix2 k j) := by
  obtain ⟨e0, e1⟩ := place1 (pt b)
  refine Eq.trans (congrArg (V m c main_v1 : Vec Ideal S1024x512 .bf16) (Hgrn.ext2 ?_ ?_)) (in_w m c k j)
  · show win0_1.index (pt b) (0 : Fin 2) * 1024 + 1 * k.val = k.val
    omega
  · show win0_1.index (pt b) (1 : Fin 2) * 512 + 1 * j.val = j.val
    omega

theorem block2 (e : Fin 256) : (iblk m c 2 (pt b) : Vec Ideal S1x256 .f32) (ix2 0 e) = AG m c (ix1 ⟨e.val % 64, Nat.mod_lt _ (by decide)⟩) := by
  obtain ⟨e0, e1⟩ := place2 (pt b)
  refine Eq.trans (congrArg (V m c main_v5 : Vec Ideal S1x256 .f32) (Hgrn.ext2 ?_ ?_)) (in_g m c e)
  · show win0_2.index (pt b) (0 : Fin 2) * 1 + 1 * 0 = 0
    omega
  · show win0_2.index (pt b) (1 : Fin 2) * 256 + 1 * e.val = e.val
    omega

/-! ## What a point leaves in its blocks -/

theorem ld0 (X : Vec Ideal S256x1024 .f32) : View.ld X r0_0 = X := View.ld_unit_lit _ _ (Fin.forall_fin_two.mpr ⟨rfl, rfl⟩)
theorem ld1 (X : Vec Ideal S1024x512 .bf16) : View.ld X r0_1 = X := View.ld_unit_lit _ _ (Fin.forall_fin_two.mpr ⟨rfl, rfl⟩)
theorem ld2 (X : Vec Ideal S1x256 .f32) : View.ld X r0_2 = X := View.ld_unit_lit _ _ (Fin.forall_fin_two.mpr ⟨rfl, rfl⟩)

/-- One store over the whole block leaves what it stores. -/
theorem canon_whole (w : Vec Ideal S256x256 .f32) (r e : Fin 256) :
    View.canon ([⟨r0_3, w⟩] : List (View.Piece (Elt Ideal) S256x256 .f32)) (ix2 r e) = w (ix2 r e) := by
  refine Hgrn.canon_cons2 (o0 := 0) (o1 := 0) (n0 := 256) (n1 := 256) rfl rfl (fun x h0 h1 => congrArg w (Hgrn.ext2 ?_ ?_)) (fun h => absurd ?_ h)
  · have h0' : r.val = 0 + (x 0).val := h0
    show (x 0).val = r.val
    omega
  · have h1' : e.val = 0 + (x 1).val := h1
    show (x 1).val = e.val
    omega
  · have hr := r.isLt
    have he := e.isLt
    show 0 ≤ r.val ∧ r.val < 0 + 256 ∧ 0 ≤ e.val ∧ e.val < 0 + 256
    omega

section

variable {X : Vec Ideal S256x1024 .f32} {W : Vec Ideal S1024x512 .bf16} {G : Vec Ideal S1x256 .f32}
  {x : FVec Ideal S4x256x1024 .f32} {w : FVec Ideal S1024x512 .f32} {g : FVec Ideal S64 .f32} {b : Fin 4}
  (hX : ∀ (r : Fin 256) (k : Fin 1024), X (ix2 r k) = x (ix3 b r k)) (hW : ∀ (k : Fin 1024) (j : Fin 512), W (ix2 k j) = w (ix2 k j))
  (hG : ∀ e : Fin 256, G (ix2 0 e) = g (ix1 ⟨e.val % 64, Nat.mod_lt _ (by decide)⟩))
include hX hW

theorem half_eq (r e : Fin 256) : k0_pay4 X W (ix2 r e) = kv x w b r ⟨e.val, by have := e.isLt; omega⟩ := by
  rw [pay4_apply]
  simp only [hX, hW]
  rfl

theorem out4_eq (r e : Fin 256) : out0_4 X W G (ix2 r e) = value x w b r e := by
  unfold out0_4
  rw [canon_whole, ld0, ld1, pay2_apply]
  simp only [hX, hW]
  rfl

include hG

theorem out3_eq (hx : ∀ i, ∃ a : ℝ, x i = a) (hw : ∀ i, ∃ a : ℝ, w i = a) (r e : Fin 256) : out0_3 X W G (ix2 r e) = key x w g b r e := by
  unfold out0_3
  rw [canon_whole, ld0, ld1, ld2, pay1_real _ _ _ _ fun j => by rw [half_eq hX hW]; exact kv_real _ _ hx hw _ _ _]
  simp only [half_eq hX hW, hG]
  rfl

end

theorem leaves3 (hx : ∀ i, ∃ a : ℝ, AX m c i = a) (hw : ∀ i, ∃ a : ℝ, AW m c i = a) (r e : Fin 256) :
    out0_3 (iblk m c 0 (pt b)) (iblk m c 1 (pt b)) (iblk m c 2 (pt b)) (ix2 r e) = key (AX m c) (AW m c) (AG m c) b r e :=
  out3_eq (block0 m c b) (block1 m c b) (block2 m c b) hx hw r e

theorem leaves4 (r e : Fin 256) :
    out0_4 (iblk m c 0 (pt b)) (iblk m c 1 (pt b)) (iblk m c 2 (pt b)) (ix2 r e) = value (AX m c) (AW m c) b r e :=
  out4_eq (block0 m c b) (block1 m c b) r e

/-! ## The two results -/

theorem result3 (hx : ∀ i, ∃ a : ℝ, AX m c i = a) (hw : ∀ i, ∃ a : ℝ, AW m c i = a) (r e : Fin 256) :
    ((dats m 0 c).arrAt 3 cfg0.N : Vec Ideal S1024x256 .f32) (ix2 ⟨256 * b.val + r.val, by have := b.isLt; have := r.isLt; omega⟩ e)
      = key (AX m c) (AW m c) (AG m c) b r e := by
  obtain ⟨e0, e1⟩ := place3 (pt b)
  have e0' : win0_3.index (pt b) (0 : Fin 2) = b.val := e0
  refine Eq.trans (congrArg ((dats m 0 c).arrAt 3 cfg0.N : Vec Ideal S1024x256 .f32) (Hgrn.ext2 ?_ ?_))
    ((congrFun ((Cert.Kernel3Ideal.Value.blocks3 m c (pt b) (flush0_3 (pt b))).trans (Cert.Kernel3Ideal.Value.flushed3 m c (pt b))) (ix2 r e)).trans
      (leaves3 m c b hx hw r e))
  · show 256 * b.val + r.val = win0_3.index (pt b) (0 : Fin 2) * 256 + 1 * r.val
    omega
  · show e.val = win0_3.index (pt b) (1 : Fin 2) * 256 + 1 * e.val
    omega

theorem result4 (r e : Fin 256) :
    ((dats m 0 c).arrAt 4 cfg0.N : Vec Ideal S1024x256 .f32) (ix2 ⟨256 * b.val + r.val, by have := b.isLt; have := r.isLt; omega⟩ e)
      = value (AX m c) (AW m c) b r e := by
  obtain ⟨e0, e1⟩ := place4 (pt b)
  have e0' : win0_4.index (pt b) (0 : Fin 2) = b.val := e0
  refine Eq.trans (congrArg ((dats m 0 c).arrAt 4 cfg0.N : Vec Ideal S1024x256 .f32) (Hgrn.ext2 ?_ ?_))
    ((congrFun ((Cert.Kernel3Ideal.Value.blocks4 m c (pt b) (flush0_4 (pt b))).trans (Cert.Kernel3Ideal.Value.flushed4 m c (pt b))) (ix2 r e)).trans
      (leaves4 m c b r e))
  · show 256 * b.val + r.val = win0_4.index (pt b) (0 : Fin 2) * 256 + 1 * r.val
    omega
  · show e.val = win0_4.index (pt b) (1 : Fin 2) * 256 + 1 * e.val
    omega

end Cert.Mem

end
-- ==== Proof.Mem.RefValue.lean ====
/- The reference of the memory's keys and values, entry by entry, over extended reals. -/
module

public import Idealize.ShloMosaic.Lib.Pointwise
public import proofs.«01_k».proof.Proof.Gen.Reference3Ideal.Run
public import proofs.«01_k».proof.Proof.Mem.Spec
public import proofs.«01_k».proof.Proof.Hgrn.Canon

@[expose] public section

noncomputable section

namespace Cert.Mem.Ref

open Idealize.ShloMosaic Idealize.ShloMosaic.TcCoe Idealize.SL.Sem Cert.Reference3Ideal Cert.Reference3Ideal.Gen

/-- The projection. -/
def proj (x : FVec Ideal S4x256x1024 .f32) (w : FVec Ideal S1024x512 .f32) : FVec Ideal S4x256x512 .f32 :=
  Host.dotGeneral dot_S4x256x1024_S1024x512_S4x256x512_2_0_01_1_n_n none x w

/-- The keys before their norm, head by head. -/
def heads (p : FVec Ideal S4x256x512 .f32) : FVec Ideal S4x256x4x64 .f32 :=
  shapeCast S4x256x4x64 (extractStridedSlice S4x256x256 ![0, 0, 0] p slices_S4x256x512_S4x256x256_0_0_0) shapeCasts_S4x256x256_S4x256x4x64

/-- The keys. -/
def keys (k : FVec Ideal S4x256x4x64 .f32) (g : FVec Ideal S64 .f32) : FVec Ideal S1024x256 .f32 :=
  shapeCast S1024x256 (mulf (mulf k (broadcastInDim S4x256x4x64 ![0, 1, 2, 3] bcast_S4x256x4x1_S4x256x4x64_0_1_2_3
      (Host.rsqrt (addf (Host.divf (broadcastInDim S4x256x4x1 ![0, 1, 2] bcast_S4x256x4_S4x256x4x1_0_1_2
            (Host.reduceAdd (mulf k k) (constant S_ .f32 0x00000000#32) reducesTo_S4x256x4x64_S4x256x4_d3 h_S_))
          (broadcastInDim S4x256x4x1 ![] bcast_S_S4x256x4x1 (constant S_ .f32 0x42800000#32)))
        (broadcastInDim S4x256x4x1 ![] bcast_S_S4x256x4x1 (constant S_ .f32 0x358637BD#32))))))
    (broadcastInDim S4x256x4x64 ![0, 1, 2, 3] bcast_S1x1x1x64_S4x256x4x64_0_1_2_3 (broadcastInDim S1x1x1x64 ![3] bcast_S64_S1x1x1x64_3 g)))
    shapeCasts_S4x256x4x64_S1024x256

/-- The values. -/
def values (p : FVec Ideal S4x256x512 .f32) : FVec Ideal S1024x256 .f32 :=
  shapeCast S1024x256 (shapeCast S4x256x4x64 (extractStridedSlice S4x256x256 ![0, 0, 256] p slices_S4x256x512_S4x256x256_0_0_256) shapeCasts_S4x256x256_S4x256x4x64)
    shapeCasts_S4x256x4x64_S1024x256

variable (x : FVec Ideal S4x256x1024 .f32) (w : FVec Ideal S1024x512 .f32) (g : FVec Ideal S64 .f32)

theorem proj_apply (b : Fin 4) (r : Fin 256) (j : Fin 512) : proj x w (ix3 b r j) = kv x w b r j := by
  unfold kv
  pointwise [proj, dot_S4x256x1024_S1024x512_S4x256x512_2_0_01_1_n_n]

theorem heads_apply (b : Fin 4) (r : Fin 256) (q : Fin 4) (d : Fin 64) :
    heads (proj x w) (ix4 b r q d) = kv x w b r ⟨64 * q.val + d.val, by have := q.isLt; have := d.isLt; omega⟩ := by
  have hq := q.isLt
  have hd := d.isLt
  rw [← proj_apply]
  pointwise [heads]
  exact congrArg (proj x w) (Hgrn.ext3 rfl rfl (by show q.val * 64 + d.val = 64 * q.val + d.val; omega))

theorem keys_apply (b : Fin 4) (r : Fin 256) (q : Fin 4) (d : Fin 64) :
    keys (heads (proj x w)) g (ix2 (⟨256 * b.val + r.val, by have := b.isLt; have := r.isLt; omega⟩ : Fin 1024) (⟨64 * q.val + d.val, by have := q.isLt; have := d.isLt; omega⟩ : Fin 256))
      = key x w g b r ⟨64 * q.val + d.val, by have := q.isLt; have := d.isLt; omega⟩ := by
  have hb := b.isLt
  have hr := r.isLt
  have hq := q.isLt
  have hd := d.isLt
  unfold key
  pointwise [keys, heads_apply]
  have h1 : (64 * q.val + d.val) / 64 = q.val := by omega
  have h2 : (⟨(64 * q.val + d.val) % 64, Nat.mod_lt _ (by decide)⟩ : Fin 64) = d := Fin.ext (by show (64 * q.val + d.val) % 64 = d.val; omega)
  simp only [h1, h2]
  rfl

theorem values_apply (b : Fin 4) (r e : Fin 256) :
    values (proj x w) (ix2 (⟨256 * b.val + r.val, by have := b.isLt; have := r.isLt; omega⟩ : Fin 1024) e) = value x w b r e := by
  have hb := b.isLt
  have hr := r.isLt
  have he := e.isLt
  unfold value
  rw [← proj_apply]
  pointwise [values]

end Cert.Mem.Ref

end
-- ==== Proof.Mem.Algebraic.lean ====
/- Both programs compute the keys and values of `Spec.lean` of their arguments, so equal arguments give equal results. -/
module

public import proofs.«01_k».proof.Defs
public import proofs.«01_k».proof.Proof.Mem.Inputs
public import proofs.«01_k».proof.Proof.Mem.RefValue
public import proofs.«01_k».proof.Proof.Mem.Pre

@[expose] public section

noncomputable section

namespace Cert.Mem

open Idealize.ShloMosaic Idealize.ShloMosaic.TcCoe Idealize.SL.Sem

section

variable (m : (ℓ : Loc Cert.Kernel3Ideal.nD Cert.Kernel3Ideal.τ Cert.Kernel3Ideal.sig) → Buf (Elt Ideal) ℓ) (c : Dev Cert.Kernel3Ideal.nD)

/-- Every row of the results is a row of one of the four memories. -/
theorem index_eq (i : (⟨2, ![1024, 256]⟩ : Shape).Idx) : ∃ (b : Fin 4) (r e : Fin 256),
    i = ix2 (⟨256 * b.val + r.val, by have := b.isLt; have := r.isLt; omega⟩ : Fin 1024) e := by
  have h : (i 0).val < 1024 := (i 0).isLt
  exact ⟨⟨(i 0).val / 256, by omega⟩, ⟨(i 0).val % 256, by omega⟩, i 1,
    Hgrn.ext2 (by show (i 0).val = 256 * ((i 0).val / 256) + (i 0).val % 256; omega) rfl⟩

/-- The keys of the two programs, of the same arguments. -/
theorem same_keys (hx : ∀ i, ∃ a : ℝ, AX m c i = a) (hw : ∀ i, ∃ a : ℝ, AW m c i = a) :
    Ref.keys (Ref.heads (Ref.proj (AX m c) (AW m c))) (AG m c) = ((Cert.Kernel3Ideal.Gen.dats m 0 c).arrAt 3 Cert.Kernel3Ideal.cfg0.N : Vec Ideal ⟨2, ![1024, 256]⟩ .f32) := by
  funext i
  obtain ⟨b, r, e, rfl⟩ := index_eq i
  have he := e.isLt
  refine Eq.trans ?_ (result3 m c b hx hw r e).symm
  have h := Ref.keys_apply (AX m c) (AW m c) (AG m c) b r ⟨e.val / 64, by omega⟩ ⟨e.val % 64, by omega⟩
  have e1 : (⟨64 * (e.val / 64) + e.val % 64, by omega⟩ : Fin 256) = e := Fin.ext (by show 64 * (e.val / 64) + e.val % 64 = e.val; omega)
  simp only [e1] at h
  exact h

/-- The values of the two programs, of the same arguments. -/
theorem same_values :
    Ref.values (Ref.proj (AX m c) (AW m c)) = ((Cert.Kernel3Ideal.Gen.dats m 0 c).arrAt 4 Cert.Kernel3Ideal.cfg0.N : Vec Ideal ⟨2, ![1024, 256]⟩ .f32) := by
  funext i
  obtain ⟨b, r, e, rfl⟩ := index_eq i
  exact (Ref.values_apply (AX m c) (AW m c) b r e).trans (result4 m c b r e).symm

end

/-- On memories and weights of real numbers the call and the reference compute the same extended reals. -/
theorem algebraic : Cert.algebraic_Kernel3Ideal_Reference3Ideal_pre_real_memory (hKernel3Ideal := Cert.Kernel3Ideal.Gen.facts)
    (hReference3Ideal := Cert.Reference3Ideal.Gen.facts) (hPre_real_memory := facts) :=
  fun m g m' g' hp h => by
    have hr : ∀ c, (∀ i, ∃ a : ℝ, AX m c i = a) ∧ ∀ i, ∃ a : ℝ, AW m c i = a := fun c =>
      @real_of_pre facts (AX m c) (AW m c) (AG m c) (hp c)
    refine ⟨fun c => (Cert.Kernel3Ideal.Gen.dats m 0 c).arrAt 3 Cert.Kernel3Ideal.cfg0.N, fun c => (Cert.Kernel3Ideal.Gen.dats m 0 c).arrAt 4 Cert.Kernel3Ideal.cfg0.N,
      Cert.Kernel3Ideal.Value.run_blocks m g, ?_⟩
    refine (θ_run _ _ _).mono (fun r hrun c => ?_) (Cert.Reference3Ideal.Value.run (F := Ideal) m' g')
    have h0 := (h c).1
    have h1 := (h c).2.1
    have h2 := (h c).2.2
    refine ⟨(hrun c).1.trans ?_, (hrun c).2.1.trans ?_, (hrun c).2.2⟩
    · rw [h0, h1, h2]
      exact same_keys m c (hr c).1 (hr c).2
    · rw [h0, h1]
      exact same_values m c

end Cert.Mem

end
-- ==== Proof.Attn.Pre.lean ====
/- What the precondition says: every entry of the queries, of their gains and of the keys is a real number. -/
module

public import Idealize.ShloMosaic.Lib.Pointwise
public import Idealize.ShloMosaic.Lib.ReduceAll
public import proofs.«01_k».proof.Pre_real_attention
public import proofs.«01_k».proof.Proof.Mem.Pre

@[expose] public section

noncomputable section

namespace Cert.Attn

open Idealize.ShloMosaic Cert.Pre_real_attention

/-- The shapes the precondition's operations take fit. -/
theorem facts : Cert.Pre_real_attention.Facts := ⟨by decide, by decide, by decide, by decide, by decide, by decide, by decide⟩

theorem real_of_pre [Cert.Pre_real_attention.Facts] (q : FVec Ideal S4x4096x256 .f32) (g : FVec Ideal S64 .f32) (mk mv : FVec Ideal S1024x256 .f32)
    (x : FVec Ideal S4x4096x1024 .f32) (tp : FVec Ideal S4x4096x768 .f32) (w : FVec Ideal S1024x1024 .f32)
    (h : Cert.Pre_real_attention.fn (F := Ideal) q g mk mv x tp w = fun _ => 1#1) :
    (∀ i, ∃ a : ℝ, q i = a) ∧ (∀ i, ∃ a : ℝ, g i = a) ∧ ∀ i, ∃ a : ℝ, mk i = a := by
  obtain ⟨h12, h3⟩ := IntOp.andi_eq_one.1 (congrFun h (fun a => a.elim0))
  obtain ⟨h1, h2⟩ := IntOp.andi_eq_one.1 h12
  exact ⟨fun i => Mem.lt_top_of_olt _ (Host.reduce_andi_all _ _ _ _ _ h1 i), fun i => Mem.lt_top_of_olt _ (Host.reduce_andi_all _ _ _ _ _ h2 i),
    fun i => Mem.lt_top_of_olt _ (Host.reduce_andi_all _ _ _ _ _ h3 i)⟩

end Cert.Attn

end
-- ==== Proof.Attn.Frames.lean ====
/- The frames of the attention call and of its reference. The compiled program and its ideal reading have the same text, so
   one run over any float format serves both frames. -/
module

public import proofs.«01_k».proof.Defs
public import proofs.«01_k».proof.Proof.Gen.Kernel4
public import proofs.«01_k».proof.Proof.Gen.Kernel4Ideal.Frame
public import proofs.«01_k».proof.Proof.Gen.Reference4Ideal.Run
public import proofs.«01_k».proof.Proof.Attn.Pre

@[expose] public section

noncomputable section

namespace Cert.Attn

open Idealize.ShloMosaic Idealize.SL.Sem

/-- The two programs' one kernel function is the same function. -/
theorem bodies_eq : Cert.Kernel4.defs₀ (F := Bits) = Cert.Kernel4Ideal.defs₀ :=
  congrArg Defs.onTc (funext fun l => funext fun a => by
    match l, a with
    | 0, (t, s) => rfl
    | ⟨_ + 1, h⟩, _ => exact absurd h (Nat.not_lt.2 (Nat.le_add_left _ _)))

/-- So the two programs have the same functions. -/
theorem defs_eq : Cert.Kernel4.defs (F := Bits) = Cert.Kernel4Ideal.defs :=
  congrArg (Pipeline.defs Cert.Kernel4.pcfgs) bodies_eq

/-- The compiled call terminates, keeps its arguments and ends with its counters at zero. -/
theorem frame_kernel : Cert.quiescent_Kernel4 (hKernel4 := Cert.Kernel4.Gen.facts) := fun m ρ _ => by
  rw [defs_eq]
  exact Cert.Kernel4Ideal.Gen.frame (F := Bits) m ρ

/-- The same of the ideal reading. -/
theorem frame_ideal : Cert.quiescent_Kernel4Ideal (hKernel4Ideal := Cert.Kernel4Ideal.Gen.facts) := fun m ρ _ =>
  Cert.Kernel4Ideal.Gen.frame (F := Ideal) m ρ

/-- The same of the reference. -/
theorem frame_ref : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run (F := Ideal) m ρ)

/-- Both hold of every argument, so of those the precondition admits. -/
theorem frame_ideal_pre : Cert.quiescent_Kernel4Ideal_pre_real_attention (hKernel4Ideal := Cert.Kernel4Ideal.Gen.facts) (hPre_real_attention := facts) :=
  fun m ρ _ => frame_ideal m ρ trivial

theorem frame_ref_pre : Cert.quiescent_Reference4Ideal_pre_real_attention (hReference4Ideal := Cert.Reference4Ideal.Gen.facts) (hPre_real_attention := facts) :=
  fun m ρ _ => frame_ref m ρ trivial

end Cert.Attn

end
-- ==== Proof.Attn.Spec.lean ====
/- Attention to the memory and the output projection, over extended reals. -/
module

public import Idealize.ShloMosaic.Lib.Pointwise
public import proofs.«01_k».proof.Proof.Hgrn.Spec
public import proofs.«01_k».proof.Proof.Mem.Spec

@[expose] public section

noncomputable section

namespace Cert.Attn

open Idealize.ShloMosaic

/-! ## One row's attention -/

/-- The largest of a row's scores, as both programs take it. -/
def peak (s : Fin 256 → EReal) : EReal := Finset.fold max (Ideal.ofBits .f32 0xFF800000#32) (fun j => s j) Finset.univ

/-- What a row's scores `s` weigh out of the values `v`: the weighted sum over the sum of the weights. -/
def mix (s v : Fin 256 → EReal) : EReal :=
  Ideal.div (∑ j : Fin 256, Ideal.exp (s j - peak s) * v j) (∑ j : Fin 256, Ideal.exp (s j - peak s))

theorem low_eq : Ideal.ofBits .f32 0xFF800000#32 = ⊥ := by simp [Ideal.ofBits, Ideal.ieee]

theorem low_max (x : EReal) : max (Ideal.ofBits .f32 0xFF800000#32) x = x := by rw [low_eq]; exact max_eq_right bot_le

/-- The largest of real scores is real. -/
theorem peak_real (s : Fin 256 → EReal) (hs : ∀ j, ∃ a : ℝ, s j = a) : ∃ a : ℝ, peak s = a := by
  have h0 : s 0 ≤ peak s := by
    unfold peak
    exact (Finset.le_fold_max _).2 (Or.inr ⟨0, Finset.mem_univ _, le_refl _⟩)
  have h1 : peak s < ⊤ := by
    unfold peak
    rw [low_eq]
    refine (Finset.fold_max_lt _).2 ⟨bot_lt_top, fun j _ => ?_⟩
    obtain ⟨a, ha⟩ := hs j
    show s j < ⊤
    rw [ha]
    exact EReal.coe_lt_top a
  obtain ⟨a, ha⟩ := hs 0
  rw [ha] at h0
  generalize peak s = p at h0 h1
  induction p with
  | bot => exact absurd h0 (not_le.2 (EReal.bot_lt_coe a))
  | top => exact absurd h1 (lt_irrefl _)
  | coe b => exact ⟨b, rfl⟩

theorem exp_coe (a : ℝ) : Ideal.exp (a : EReal) = ((Real.exp a : ℝ) : EReal) := rfl

theorem rsqrt_pos (r : ℝ) (h : 0 < r) : Ideal.rsqrt (r : EReal) = (((Real.sqrt r)⁻¹ : ℝ) : EReal) :=
  (if_neg (not_lt.2 h.le)).trans (if_neg h.ne')

/-- A sum of squares of reals is a real that is not negative. -/
theorem sum_sq {n : ℕ} (f : Fin n → EReal) (hf : ∀ k, ∃ a : ℝ, f k = a) : ∃ a : ℝ, 0 ≤ a ∧ ∑ k, f k * f k = a := by
  choose u hu using hf
  refine ⟨∑ k, u k * u k, Finset.sum_nonneg fun k _ => mul_self_nonneg _, ?_⟩
  simp only [hu, ← EReal.coe_mul]
  induction (Finset.univ : Finset (Fin n)) using Finset.induction_on with
  | empty => simp
  | insert a s ha ih => rw [Finset.sum_insert ha, Finset.sum_insert ha, ih, EReal.coe_add]

/-- A sum of positive reals is one. -/
theorem sum_pos {n : ℕ} (f : Fin (n + 1) → EReal) (hf : ∀ j, ∃ a : ℝ, 0 < a ∧ f j = a) : ∃ a : ℝ, 0 < a ∧ ∑ j, f j = a := by
  choose u hu using hf
  refine ⟨∑ j, u j, Finset.sum_pos (fun j _ => (hu j).1) Finset.univ_nonempty, ?_⟩
  simp only [fun j => (hu j).2]
  induction (Finset.univ : Finset (Fin (n + 1))) using Finset.induction_on with
  | empty => simp
  | insert a s ha ih => rw [Finset.sum_insert ha, Finset.sum_insert ha, ih, EReal.coe_add]

/-- Multiplying by a real that is not negative goes through a sum. -/
theorem sum_mul_real {n : ℕ} (f : Fin n → EReal) (c : ℝ) (hc : 0 ≤ c) : (∑ j, f j) * (c : EReal) = ∑ j, f j * (c : EReal) := by
  induction (Finset.univ : Finset (Fin n)) using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- Dividing every weight before the sum, or the sum after it, is the same for real scores. -/
theorem mix_eq (s v : Fin 256 → EReal) (hs : ∀ j, ∃ a : ℝ, s j = a) :
    (∑ j : Fin 256, v j * Ideal.div (Ideal.exp (s j - peak s)) (∑ i : Fin 256, Ideal.exp (s i - peak s))) = mix s v := by
  unfold mix
  obtain ⟨p, hp⟩ := peak_real s hs
  have he : ∀ j, ∃ a : ℝ, 0 < a ∧ Ideal.exp (s j - peak s) = a := fun j => by
    obtain ⟨a, ha⟩ := hs j
    rw [ha, hp, ← EReal.coe_sub, exp_coe]
    exact ⟨_, Real.exp_pos _, rfl⟩
  obtain ⟨S, hS, hSe⟩ := sum_pos (n := 255) (fun j => Ideal.exp (s j - peak s)) he
  have hSe' : (∑ j : Fin 256, Ideal.exp (s j - peak s)) = (S : EReal) := hSe
  rw [hSe', Ideal.div_coe hS.ne', sum_mul_real _ _ (by positivity)]
  refine Finset.sum_congr rfl fun j _ => ?_
  rw [Ideal.div_coe hS.ne', ← mul_assoc, mul_comm (v j)]

/-! ## The call -/

variable (q : FVec Ideal ⟨3, ![4, 4096, 256]⟩ .f32) (g : FVec Ideal ⟨1, ![64]⟩ .f32) (mk mv : FVec Ideal ⟨2, ![1024, 256]⟩ .f32)
  (x : FVec Ideal ⟨3, ![4, 4096, 1024]⟩ .f32) (tp : FVec Ideal ⟨3, ![4, 4096, 768]⟩ .f32) (w : FVec Ideal ⟨2, ![1024, 1024]⟩ .f32)

/-- The row of memory `b`'s entry `j`. -/
abbrev row (b : Fin 4) (j : Fin 256) : Fin 1024 := ⟨256 * b.val + j.val, by have := b.isLt; have := j.isLt; omega⟩

/-- The lane of head `h`'s entry `d`. -/
abbrev lane (h : Fin 4) (d : Fin 64) : Fin 256 := ⟨64 * h.val + d.val, by have := h.isLt; have := d.isLt; omega⟩

/-- The head of a lane. -/
abbrev hd (e : Fin 256) : Fin 4 := ⟨e.val / 64, by have := e.isLt; omega⟩

/-- A normalised query entry. -/
def qn (b : Fin 4) (t : Fin 4096) (e : Fin 256) : EReal :=
  Hgrn.scale 0x42800000#32 (∑ d : Fin 64, q (ix3 b t (lane (hd e) d)) * q (ix3 b t (lane (hd e) d))) (q (ix3 b t e))
    * g (ix1 ⟨e.val % 64, Nat.mod_lt _ (by decide)⟩)

/-- The score of head `h`'s query at row `t` and the memory's entry `j`. -/
def score (b : Fin 4) (h : Fin 4) (t : Fin 4096) (j : Fin 256) : EReal :=
  (∑ d : Fin 64, qn q g b t (lane h d) * mk (ix2 (row b j) (lane h d))) * Ideal.ofBits .f32 0x3E000000#32

/-- The attended values. -/
def ctx (b : Fin 4) (t : Fin 4096) (e : Fin 256) : EReal := mix (score q g mk b (hd e) t) (fun j => mv (ix2 (row b j) e))

/-- A row of the result. -/
def outp (b : Fin 4) (t : Fin 4096) (n : Fin 1024) : EReal :=
  x (ix3 b t n) + (∑ k : Fin 768, tp (ix3 b t k) * w (ix2 ⟨k.val, by have := k.isLt; omega⟩ n))
    + ∑ e : Fin 256, ctx q g mk mv b t e * w (ix2 ⟨768 + e.val, by have := e.isLt; omega⟩ n)

theorem scale_real (n : BitVec 32) (N : ℝ) (hN : Ideal.ofBits .f32 n = (N : EReal)) (hN0 : 0 < N) (s y : EReal) (hs : ∃ a : ℝ, 0 ≤ a ∧ s = a) (hy : ∃ a : ℝ, y = a) :
    ∃ a : ℝ, Hgrn.scale n s y = a := by
  obtain ⟨a, ha, rfl⟩ := hs
  obtain ⟨c, rfl⟩ := hy
  have he : Ideal.ofBits .f32 897988541#32 = ((8796093 * (2 : ℝ) ^ (-43 : ℤ) : ℝ) : EReal) := by
    simp [Ideal.ofBits, Ideal.ieee, -EReal.coe_mul]
  unfold Hgrn.scale
  rw [hN, Ideal.div_coe hN0.ne', he, ← EReal.coe_mul, ← EReal.coe_add]
  have hp : 0 < a * (1 / N) + 8796093 * (2 : ℝ) ^ (-43 : ℤ) := by positivity
  rw [rsqrt_pos _ hp, ← EReal.coe_mul]
  exact ⟨_, rfl⟩

/-- On real queries and gains the normalised queries are real. -/
theorem qn_real (hq : ∀ i, ∃ a : ℝ, q i = a) (hg : ∀ i, ∃ a : ℝ, g i = a) (b : Fin 4) (t : Fin 4096) (e : Fin 256) : ∃ a : ℝ, qn q g b t e = a := by
  obtain ⟨a, ha⟩ := scale_real 0x42800000#32 64 (by simp [Ideal.ofBits, Ideal.ieee, -EReal.coe_mul]; norm_num) (by norm_num)
    (∑ d : Fin 64, q (ix3 b t (lane (hd e) d)) * q (ix3 b t (lane (hd e) d))) (q (ix3 b t e)) (sum_sq _ fun _ => hq _) (hq _)
  obtain ⟨c, hc⟩ := hg (ix1 ⟨e.val % 64, Nat.mod_lt _ (by decide)⟩)
  unfold qn
  rw [ha, hc, ← EReal.coe_mul]
  exact ⟨_, rfl⟩

/-- On real queries, gains and keys the scores are real. -/
theorem score_real (hq : ∀ i, ∃ a : ℝ, q i = a) (hg : ∀ i, ∃ a : ℝ, g i = a) (hk : ∀ i, ∃ a : ℝ, mk i = a) (b h : Fin 4) (t : Fin 4096) (j : Fin 256) :
    ∃ a : ℝ, score q g mk b h t j = a := by
  obtain ⟨a, ha⟩ := Mem.sum_real (fun d : Fin 64 => qn q g b t (lane h d)) (fun d => mk (ix2 (row b j) (lane h d)))
    (fun _ => qn_real _ _ hq hg _ _ _) (fun _ => hk _)
  have h8 : Ideal.ofBits .f32 0x3E000000#32 = ((1 / 8 : ℝ) : EReal) := by
    simp [Ideal.ofBits, Ideal.ieee, -EReal.coe_mul]; norm_num
  unfold score
  rw [ha, h8, ← EReal.coe_mul]
  exact ⟨_, rfl⟩

end Cert.Attn

end
-- ==== Proof.Attn.Payload.lean ====
/- What one grid point of the attention kernel computes, entry by entry, over extended reals. -/
module

public import Idealize.ShloMosaic.Lib.Pointwise
public import proofs.«01_k».proof.Proof.Gen.Kernel4Ideal.Frame
public import proofs.«01_k».proof.Proof.Mem.Payload
public import proofs.«01_k».proof.Proof.Attn.Spec

@[expose] public section

noncomputable section

namespace Cert.Attn

open Idealize.ShloMosaic Cert.Kernel4Ideal Cert.Kernel4Ideal.Gen

theorem pay2_apply (X : Vec Ideal S1x512x256 .f32) (r : Fin 512) (e : Fin 256) : k0_pay2 X (ix2 r e) = X (ix3 0 r e) := by
  pointwise [k0_pay2]

theorem pay8_apply (K : Vec Ideal S1x1x256x256 .f32) (j e : Fin 256) : k0_pay8 K (ix2 j e) = K (ix4 0 0 j e) := by
  pointwise [k0_pay8]

theorem pay9_apply (K : Vec Ideal S1x1x256x256 .f32) (j e : Fin 256) : k0_pay9 K (ix2 j e) = K (ix4 0 0 j e) := by
  pointwise [k0_pay9]

theorem pay3_apply (r c : Fin 256) : k0_pay3 (ix2 r c) = BitVec.ofNat 32 (r.val / 64) := by
  pointwise [k0_pay3]
  revert r
  decide

theorem pay4_apply (r c : Fin 256) : k0_pay4 (ix2 r c) = BitVec.ofNat 32 (c.val / 64) := by
  pointwise [k0_pay4]
  revert c
  decide

theorem pay5_apply (r c : Fin 256) : k0_pay5 (ix2 r c) = BitVec.ofNat 32 (if c.val = 0 then 0 else 1) := by
  pointwise [k0_pay5]
  revert c
  decide

theorem pay10_apply (r : Fin 512) (c : Fin 256) : k0_pay10 (ix2 r c) = BitVec.ofNat 32 (c.val / 64) := by
  pointwise [k0_pay10]
  revert c
  decide

theorem pay11_apply (r : Fin 512) (c : Fin 256) : k0_pay11 (iota .tc S512x256 32 [1] iota_S512x256_d1_w32) 64#32 k0_pay10 (ix2 r c) = BitVec.ofNat 32 (c.val / 64) := by
  pointwise [k0_pay11, pay10_apply]
  revert c
  decide

theorem pay7_apply (K : FVec Ideal S512x256 .f32) (g : Vec Ideal S1x256 .f32) (r : Fin 512) (e : Fin 256) :
    k0_pay7 K k0_pay3 (iota .tc S256x256 32 [1] iota_S256x256_d1_w32) 64#32 k0_pay4 k0_pay5 k0_pay6 g (ix2 r e)
      = K (ix2 r e) * Ideal.rsqrt (((∑ x : Fin 256, if x.val / 64 = e.val / 64 then K (ix2 r x) * K (ix2 r x) else 0)
          + ∑ x : Fin 256, if x.val / 64 = e.val / 64 then K (ix2 r x) * K (ix2 r x) - K (ix2 r x) * K (ix2 r x) else 0)
          * Ideal.ofBits .f32 0x3C800000#32 + Ideal.ofBits .f32 0x358637BD#32) * g (ix2 0 e) := by
  have hh : ∀ (x : Fin 256) (a b : EReal), Scalar.select (IntOp.cmpi CmpIPredicate.eq (BitVec.ofNat 32 (x.val / 64)) (BitVec.ofNat 32 (e.val / 64))) a b
      = if x.val / 64 = e.val / 64 then a else b := fun x a b =>
    Mem.same_head ⟨x.val / 64, by have := x.isLt; omega⟩ ⟨e.val / 64, by have := e.isLt; omega⟩ a b
  pointwise [k0_pay7, k0_pay6, dot_S512x256_S256x256_S512x256_1_0_0_1_n_n, pay3_apply, pay4_apply, pay5_apply]
  simp only [Mem.head_eq, hh]

/-- On a row of reals the low halves are nought, and the head's sum is the sum of the squares. -/
theorem pay7_real (K : FVec Ideal S512x256 .f32) (g : Vec Ideal S1x256 .f32) (r : Fin 512) (e : Fin 256) (hK : ∀ j : Fin 256, ∃ a : ℝ, K (ix2 r j) = a) :
    k0_pay7 K k0_pay3 (iota .tc S256x256 32 [1] iota_S256x256_d1_w32) 64#32 k0_pay4 k0_pay5 k0_pay6 g (ix2 r e)
      = Hgrn.scale 0x42800000#32 (∑ d : Fin 64, K (ix2 r (lane (hd e) d)) * K (ix2 r (lane (hd e) d))) (K (ix2 r e)) * g (ix2 0 e) := by
  have hz : ∀ j : Fin 256, K (ix2 r j) * K (ix2 r j) - K (ix2 r j) * K (ix2 r j) = 0 := fun j => by
    obtain ⟨a, ha⟩ := hK j
    rw [ha, ← EReal.coe_mul, ← EReal.coe_sub, sub_self, EReal.coe_zero]
  rw [pay7_apply]
  simp only [hz, ite_self, Finset.sum_const_zero, add_zero]
  rw [Mem.sum_head (fun x => K (ix2 r x) * K (ix2 r x)) (hd e), ← Mem.div_64]
  rfl

/-! ## The heads -/

/-- The scores of one head: the query's other lanes are nought. -/
def masked (Q : FVec Ideal S512x256 .f32) (K : FVec Ideal S256x256 .bf16) (h : ℕ) (r : Fin 512) (j : Fin 256) : EReal :=
  (∑ x : Fin 256, if x.val / 64 = h then Q (ix2 r x) * K (ix2 j x) else 0) * Ideal.ofBits .f32 0x3E000000#32

theorem masked_eq (Q : FVec Ideal S512x256 .f32) (K : FVec Ideal S256x256 .bf16) (h : Fin 4) (r : Fin 512) (j : Fin 256) :
    masked Q K h.val r j = (∑ d : Fin 64, Q (ix2 r (lane h d)) * K (ix2 j (lane h d))) * Ideal.ofBits .f32 0x3E000000#32 := by
  unfold masked
  rw [Mem.sum_head (fun x => Q (ix2 r x) * K (ix2 j x)) h]

/-- What one head weighs out. -/
def part (Q : FVec Ideal S512x256 .f32) (K V : FVec Ideal S256x256 .bf16) (h : ℕ) (r : Fin 512) (e : Fin 256) : EReal :=
  mix (masked Q K h r) (fun j => V (ix2 j e))

variable (Q : FVec Ideal S512x256 .f32) (K V : FVec Ideal S256x256 .bf16) (r : Fin 512) (e : Fin 256)

theorem is_head (q : Fin 4) (x : Fin 256) (a b : EReal) :
    Scalar.select (IntOp.cmpi CmpIPredicate.eq (BitVec.ofNat 32 (x.val / 64)) (BitVec.ofNat 32 q.val)) a b = if x.val / 64 = q.val then a else b :=
  Mem.same_head ⟨x.val / 64, by have := x.isLt; omega⟩ q a b

theorem zero_bits : Ideal.ofBits .f32 0x00000000#32 = 0 := by simp [Ideal.ofBits, Ideal.ieee]

theorem pay12_apply :
    k0_pay12 Q K V (iota .tc S512x256 32 [1] iota_S512x256_d1_w32) 64#32 k0_pay10 (ix2 r e) = if e.val / 64 = 0 then part Q K V 0 r e else 0 := by
  have h0 : ∀ (x : Fin 256) (a b : EReal), Scalar.select (IntOp.cmpi CmpIPredicate.eq (BitVec.ofNat 32 (x.val / 64)) 0#32) a b
    = if x.val / 64 = 0 then a else b := is_head 0
  have hH := fun x => pay11_apply r x
  unfold k0_pay12
  generalize k0_pay11 (iota .tc S512x256 32 [1] iota_S512x256_d1_w32) 64#32 k0_pay10 = H at hH ⊢
  pointwise [hH, dot_S512x256_S256x256_S512x256_1_1_0_0_n_n, dot_S512x256_S256x256_S512x256_1_0_0_1_n_n]
  simp only [h0]
  rfl

theorem pay13_apply : k0_pay13 (iota .tc S512x256 32 [1] iota_S512x256_d1_w32) 64#32 k0_pay10 (ix2 r e)
    = IntOp.cmpi CmpIPredicate.eq (BitVec.ofNat 32 (e.val / 64)) 1#32 := by
  show IntOp.cmpi CmpIPredicate.eq (k0_pay11 (iota .tc S512x256 32 [1] iota_S512x256_d1_w32) 64#32 k0_pay10 (ix2 r e)) 1#32 = _
  rw [pay11_apply]

theorem pay15_apply (H : IVec S512x256 32) (hH : ∀ x : Fin 256, H (ix2 r x) = BitVec.ofNat 32 (x.val / 64)) :
    k0_pay15 H (ix2 r e) = IntOp.cmpi CmpIPredicate.eq (BitVec.ofNat 32 (e.val / 64)) 3#32 := by
  pointwise [k0_pay15, hH]

theorem pay16_apply (H : IVec S512x256 32) (hH : ∀ x : Fin 256, H (ix2 r x) = BitVec.ofNat 32 (x.val / 64)) (j : Fin 256) :
    k0_pay16 Q K H (ix2 r j) = ∑ x : Fin 256, if x.val / 64 = 3 then Q (ix2 r x) * K (ix2 j x) else 0 := by
  have h3 : ∀ (x : Fin 256) (a b : EReal), Scalar.select (IntOp.cmpi CmpIPredicate.eq (BitVec.ofNat 32 (x.val / 64)) 3#32) a b
    = if x.val / 64 = 3 then a else b := is_head 3
  pointwise [k0_pay16, k0_pay15, hH, dot_S512x256_S256x256_S512x256_1_1_0_0_n_n]
  simp only [h3]

theorem pay14_apply (H : IVec S512x256 32) (C : FVec Ideal S512x256 .f32) (M : IVec S512x256 1)
    (hH : ∀ x : Fin 256, H (ix2 r x) = BitVec.ofNat 32 (x.val / 64))
    (hM : ∀ x : Fin 256, M (ix2 r x) = IntOp.cmpi CmpIPredicate.eq (BitVec.ofNat 32 (x.val / 64)) 1#32) :
    k0_pay14 Q K V H C M (ix2 r e) = if e.val / 64 = 2 then part Q K V 2 r e else if e.val / 64 = 1 then part Q K V 1 r e else C (ix2 r e) := by
  have h1 : ∀ (x : Fin 256) (a b : EReal), Scalar.select (IntOp.cmpi CmpIPredicate.eq (BitVec.ofNat 32 (x.val / 64)) 1#32) a b
    = if x.val / 64 = 1 then a else b := is_head 1
  have h2 : ∀ (x : Fin 256) (a b : EReal), Scalar.select (IntOp.cmpi CmpIPredicate.eq (BitVec.ofNat 32 (x.val / 64)) 2#32) a b
    = if x.val / 64 = 2 then a else b := is_head 2
  pointwise [k0_pay14, hH, hM, dot_S512x256_S256x256_S512x256_1_1_0_0_n_n, dot_S512x256_S256x256_S512x256_1_0_0_1_n_n]
  simp only [h1, h2]
  rfl

/-- The last head, and the projection of the four heads' lanes. -/
theorem pay1_apply (C : FVec Ideal S512x256 .f32) (M : IVec S512x256 1) (S : FVec Ideal S512x256 .f32)
    (X : Vec Ideal S1x512x1024 .f32) (T : Vec Ideal S1x512x768 .f32) (W : Vec Ideal S768x1024 .bf16) (U : Vec Ideal S256x1024 .bf16)
    (hM : ∀ x : Fin 256, M (ix2 r x) = IntOp.cmpi CmpIPredicate.eq (BitVec.ofNat 32 (x.val / 64)) 3#32)
    (hS : ∀ j : Fin 256, S (ix2 r j) = ∑ x : Fin 256, if x.val / 64 = 3 then Q (ix2 r x) * K (ix2 j x) else 0) (n : Fin 1024) :
    k0_pay1 V C M S X T W U (ix3 0 r n) = X (ix3 0 r n) + (∑ k : Fin 768, T (ix3 0 r k) * W (ix2 k n))
      + ∑ x : Fin 256, (if x.val / 64 = 3 then part Q K V 3 r x else C (ix2 r x)) * U (ix2 x n) := by
  have h3 : ∀ (x : Fin 256) (a b : EReal), Scalar.select (IntOp.cmpi CmpIPredicate.eq (BitVec.ofNat 32 (x.val / 64)) 3#32) a b
    = if x.val / 64 = 3 then a else b := is_head 3
  pointwise [k0_pay1, hM, hS, dot_S512x768_S768x1024_S512x1024_1_0_0_1_n_n, dot_S512x256_S256x1024_S512x1024_1_0_0_1_n_n, dot_S512x256_S256x256_S512x256_1_0_0_1_n_n]
  simp only [h3]
  rfl

/-- A point's block: the queries `Q`, the keys `K` and the values `V` as the kernel reads them. -/
theorem whole_apply (X : Vec Ideal S1x512x1024 .f32) (T : Vec Ideal S1x512x768 .f32) (W : Vec Ideal S768x1024 .bf16) (U : Vec Ideal S256x1024 .bf16)
    (H : IVec S512x256 32) (hH : ∀ x : Fin 256, H (ix2 r x) = BitVec.ofNat 32 (x.val / 64)) (n : Fin 1024) :
    k0_pay1 V (k0_pay14 Q K V H (k0_pay12 Q K V (iota .tc S512x256 32 [1] iota_S512x256_d1_w32) 64#32 k0_pay10)
        (k0_pay13 (iota .tc S512x256 32 [1] iota_S512x256_d1_w32) 64#32 k0_pay10)) (k0_pay15 H) (k0_pay16 Q K H) X T W U (ix3 0 r n)
      = X (ix3 0 r n) + (∑ k : Fin 768, T (ix3 0 r k) * W (ix2 k n)) + ∑ x : Fin 256, part Q K V (x.val / 64) r x * U (ix2 x n) := by
  rw [pay1_apply Q K V r _ _ _ X T W U (fun x => pay15_apply r x H hH) (fun j => pay16_apply Q K r H hH j) n]
  refine congrArg (_ + ·) (Finset.sum_congr rfl fun x _ => congrArg (· * U (ix2 x n)) ?_)
  rw [pay14_apply Q K V r x H _ _ hH (fun y => pay13_apply r y), pay12_apply]
  have hx := x.isLt
  have h : x.val / 64 = 0 ∨ x.val / 64 = 1 ∨ x.val / 64 = 2 ∨ x.val / 64 = 3 := by omega
  rcases h with h | h | h | h <;> simp [h]

end Cert.Attn

end
-- ==== Proof.Attn.Inputs.lean ====
/- What the attention call's blocks hold, of its arguments, and what its result then holds. -/
module

public import Idealize.ShloMosaic.Lib.Pointwise
public import Idealize.ShloMosaic.Lib.StableHlo.RunRead
public import proofs.«01_k».proof.Proof.Gen.Kernel4Ideal.Value
public import proofs.«01_k».proof.Proof.Gen.Kernel4Ideal.Points
public import proofs.«01_k».proof.Proof.Attn.Payload

@[expose] public section

noncomputable section

namespace Cert.Attn

open Idealize.ShloMosaic Idealize.ShloMosaic.TcCoe Idealize.SL.Sem Cert.Kernel4Ideal Cert.Kernel4Ideal.Gen
open Idealize.ShloMosaic.StableHlo

variable (m : (ℓ : Loc nD τ sig) → Buf (Elt Ideal) ℓ) (c : Dev nD)

/-- The arguments: the queries, their gains, the memory's keys and values, the rows, the other heads' results, the weights. -/
abbrev AQ : FVec Ideal S4x4096x256 .f32 := m ((c : Thread nD τ).loc main_arg0)
abbrev AG : FVec Ideal S64 .f32 := m ((c : Thread nD τ).loc main_arg1)
abbrev AK : FVec Ideal S1024x256 .f32 := m ((c : Thread nD τ).loc main_arg2)
abbrev AV : FVec Ideal S1024x256 .f32 := m ((c : Thread nD τ).loc main_arg3)
abbrev AX : FVec Ideal S4x4096x1024 .f32 := m ((c : Thread nD τ).loc main_arg4)
abbrev AT : FVec Ideal S4x4096x768 .f32 := m ((c : Thread nD τ).loc main_arg5)
abbrev AW : FVec Ideal S1024x1024 .f32 := m ((c : Thread nD τ).loc main_arg6)

/-! ## What the host hands the call -/

theorem in_k (b : Fin 4) (j e : Fin 256) : (V m c main_v1 : Vec Ideal S1x4x256x256 .f32) (ix4 0 b j e) = AK m c (ix2 (row b j) e) := by
  have hb := b.isLt
  have hj := j.isLt
  have he := e.isLt
  simp only [V]
  after_reads_simp
  pointwise
  exact congrArg (AK m c) (Hgrn.ext2 (Nat.add_comm _ _ |>.trans (by show j.val + b.val * 256 = 256 * b.val + j.val; omega)) rfl)

theorem in_v (b : Fin 4) (j e : Fin 256) : (V m c main_v2 : Vec Ideal S1x4x256x256 .f32) (ix4 0 b j e) = AV m c (ix2 (row b j) e) := by
  have hb := b.isLt
  have hj := j.isLt
  have he := e.isLt
  simp only [V]
  after_reads_simp
  pointwise
  exact congrArg (AV m c) (Hgrn.ext2 (Nat.add_comm _ _ |>.trans (by show j.val + b.val * 256 = 256 * b.val + j.val; omega)) rfl)

theorem in_g (e : Fin 256) : (V m c main_v6 : Vec Ideal S1x256 .f32) (ix2 0 e) = AG m c (ix1 ⟨e.val % 64, Nat.mod_lt _ (by decide)⟩) := by
  have he := e.isLt
  simp only [V]
  after_reads_simp
  pointwise

theorem in_w (k : Fin 768) (n : Fin 1024) : (V m c main_v7 : Vec Ideal S768x1024 .bf16) (ix2 k n) = AW m c (ix2 ⟨k.val, by have := k.isLt; omega⟩ n) := by
  simp only [V]
  after_reads_simp
  pointwise

theorem in_u (k : Fin 256) (n : Fin 1024) : (V m c main_v8 : Vec Ideal S256x1024 .bf16) (ix2 k n) = AW m c (ix2 ⟨768 + k.val, by have := k.isLt; omega⟩ n) := by
  simp only [V]
  after_reads_simp
  pointwise

/-! ## Where the blocks of a point lie -/

/-- The point of block `i` of sequence `b`. -/
abbrev pt (b : Fin 4) (i : Fin 8) : Fin cfg0.N := ⟨8 * b.val + i.val, lt_of_lt_of_eq (by have := b.isLt; have := i.isLt; omega : 8 * b.val + i.val < 32) N_0.symm⟩

/-- The block's row `r` in its sequence. -/
abbrev at_ (i : Fin 8) (r : Fin 512) : Fin 4096 := ⟨512 * i.val + r.val, by have := i.isLt; have := r.isLt; omega⟩

theorem place0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)

theorem place1 : ∀ t : Fin cfg0.N, win0_1.index t (0 : Fin 2) = 0 ∧ win0_1.index t (1 : Fin 2) = 0 :=
  (by decide +kernel : ∀ t : Fin grid0.N, _)

theorem place2 : ∀ t : Fin cfg0.N, win0_2.index t (0 : Fin 4) = 0 ∧ win0_2.index t (1 : Fin 4) = t.val / 8 ∧ win0_2.index t (2 : Fin 4) = 0 ∧ win0_2.index t (3 : Fin 4) = 0 :=
  (by decide +kernel : ∀ t : Fin grid0.N, _)

theorem place3 : ∀ t : Fin cfg0.N, win0_3.index t (0 : Fin 4) = 0 ∧ win0_3.index t (1 : Fin 4) = t.val / 8 ∧ win0_3.index t (2 : Fin 4) = 0 ∧ win0_3.index t (3 : Fin 4) = 0 :=
  (by decide +kernel : ∀ t : Fin grid0.N, _)

theorem place4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)

theorem place5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)

theorem place6 : ∀ t : Fin cfg0.N, win0_6.index t (0 : Fin 2) = 0 ∧ win0_6.index t (1 : Fin 2) = 0 :=
  (by decide +kernel : ∀ t : Fin grid0.N, _)

theorem place7 : ∀ t : Fin cfg0.N, win0_7.index t (0 : Fin 2) = 0 ∧ win0_7.index t (1 : Fin 2) = 0 :=
  (by decide +kernel : ∀ t : Fin grid0.N, _)

theorem place8 : ∀ t : Fin cfg0.N, win0_8.index t (0 : Fin 3) = t.val / 8 ∧ win0_8.index t (1 : Fin 3) = t.val % 8 ∧ win0_8.index t (2 : Fin 3) = 0 :=
  (by decide +kernel : ∀ t : Fin grid0.N, _)

variable (b : Fin 4) (i : Fin 8)

theorem point_div : (pt b i).val / 8 = b.val := by
  have hi := i.isLt
  show (8 * b.val + i.val) / 8 = b.val
  omega

theorem point_mod : (pt b i).val % 8 = i.val := by
  have hi := i.isLt
  show (8 * b.val + i.val) % 8 = i.val
  omega

theorem block0 (r : Fin 512) (e : Fin 256) : (iblk m c 0 (pt b i) : Vec Ideal S1x512x256 .f32) (ix3 0 r e) = AQ m c (ix3 b (at_ i r) e) := by
  obtain ⟨e0, e1, e2⟩ := place0 (pt b i)
  rw [point_div] at e0
  rw [point_mod] at e1
  refine Eq.trans (congrArg (V m c main_arg0 : Vec Ideal S4x4096x256 .f32) (Hgrn.ext3 ?_ ?_ ?_)) (congrFun (V_main_arg0 m c) (ix3 b (at_ i r) e))
  · show win0_0.index (pt b i) (0 : Fin 3) * 1 + 1 * 0 = b.val
    omega
  · show win0_0.index (pt b i) (1 : Fin 3) * 512 + 1 * r.val = 512 * i.val + r.val
    omega
  · show win0_0.index (pt b i) (2 : Fin 3) * 256 + 1 * e.val = e.val
    omega

theorem block1 (e : Fin 256) : (iblk m c 1 (pt b i) : Vec Ideal S1x256 .f32) (ix2 0 e) = AG m c (ix1 ⟨e.val % 64, Nat.mod_lt _ (by decide)⟩) := by
  obtain ⟨e0, e1⟩ := place1 (pt b i)
  refine Eq.trans (congrArg (V m c main_v6 : Vec Ideal S1x256 .f32) (Hgrn.ext2 ?_ ?_)) (in_g m c e)
  · show win0_1.index (pt b i) (0 : Fin 2) * 1 + 1 * 0 = 0
    omega
  · show win0_1.index (pt b i) (1 : Fin 2) * 256 + 1 * e.val = e.val
    omega

theorem block2 (j e : Fin 256) : (iblk m c 2 (pt b i) : Vec Ideal S1x1x256x256 .f32) (ix4 0 0 j e) = AK m c (ix2 (row b j) e) := by
  obtain ⟨e0, e1, e2, e3⟩ := place2 (pt b i)
  rw [point_div] at e1
  refine Eq.trans (congrArg (V m c main_v1 : Vec Ideal S1x4x256x256 .f32) (Hgrn.ext4 ?_ ?_ ?_ ?_)) (in_k m c b j e)
  · show win0_2.index (pt b i) (0 : Fin 4) * 1 + 1 * 0 = 0
    omega
  · show win0_2.index (pt b i) (1 : Fin 4) * 1 + 1 * 0 = b.val
    omega
  · show win0_2.index (pt b i) (2 : Fin 4) * 256 + 1 * j.val = j.val
    omega
  · show win0_2.index (pt b i) (3 : Fin 4) * 256 + 1 * e.val = e.val
    omega

theorem block3 (j e : Fin 256) : (iblk m c 3 (pt b i) : Vec Ideal S1x1x256x256 .f32) (ix4 0 0 j e) = AV m c (ix2 (row b j) e) := by
  obtain ⟨e0, e1, e2, e3⟩ := place3 (pt b i)
  rw [point_div] at e1
  refine Eq.trans (congrArg (V m c main_v2 : Vec Ideal S1x4x256x256 .f32) (Hgrn.ext4 ?_ ?_ ?_ ?_)) (in_v m c b j e)
  · show win0_3.index (pt b i) (0 : Fin 4) * 1 + 1 * 0 = 0
    omega
  · show win0_3.index (pt b i) (1 : Fin 4) * 1 + 1 * 0 = b.val
    omega
  · show win0_3.index (pt b i) (2 : Fin 4) * 256 + 1 * j.val = j.val
    omega
  · show win0_3.index (pt b i) (3 : Fin 4) * 256 + 1 * e.val = e.val
    omega

theorem block4 (r : Fin 512) (n : Fin 1024) : (iblk m c 4 (pt b i) : Vec Ideal S1x512x1024 .f32) (ix3 0 r n) = AX m c (ix3 b (at_ i r) n) := by
  obtain ⟨e0, e1, e2⟩ := place4 (pt b i)
  rw [point_div] at e0
  rw [point_mod] at e1
  refine Eq.trans (congrArg (V m c main_arg4 : Vec Ideal S4x4096x1024 .f32) (Hgrn.ext3 ?_ ?_ ?_)) (congrFun (V_main_arg4 m c) (ix3 b (at_ i r) n))
  · show win0_4.index (pt b i) (0 : Fin 3) * 1 + 1 * 0 = b.val
    omega
  · show win0_4.index (pt b i) (1 : Fin 3) * 512 + 1 * r.val = 512 * i.val + r.val
    omega
  · show win0_4.index (pt b i) (2 : Fin 3) * 1024 + 1 * n.val = n.val
    omega

theorem block5 (r : Fin 512) (k : Fin 768) : (iblk m c 5 (pt b i) : Vec Ideal S1x512x768 .f32) (ix3 0 r k) = AT m c (ix3 b (at_ i r) k) := by
  obtain ⟨e0, e1, e2⟩ := place5 (pt b i)
  rw [point_div] at e0
  rw [point_mod] at e1
  refine Eq.trans (congrArg (V m c main_arg5 : Vec Ideal S4x4096x768 .f32) (Hgrn.ext3 ?_ ?_ ?_)) (congrFun (V_main_arg5 m c) (ix3 b (at_ i r) k))
  · show win0_5.index (pt b i) (0 : Fin 3) * 1 + 1 * 0 = b.val
    omega
  · show win0_5.index (pt b i) (1 : Fin 3) * 512 + 1 * r.val = 512 * i.val + r.val
    omega
  · show win0_5.index (pt b i) (2 : Fin 3) * 768 + 1 * k.val = k.val
    omega

theorem block6 (k : Fin 768) (n : Fin 1024) : (iblk m c 6 (pt b i) : Vec Ideal S768x1024 .bf16) (ix2 k n) = AW m c (ix2 ⟨k.val, by have := k.isLt; omega⟩ n) := by
  obtain ⟨e0, e1⟩ := place6 (pt b i)
  refine Eq.trans (congrArg (V m c main_v7 : Vec Ideal S768x1024 .bf16) (Hgrn.ext2 ?_ ?_)) (in_w m c k n)
  · show win0_6.index (pt b i) (0 : Fin 2) * 768 + 1 * k.val = k.val
    omega
  · show win0_6.index (pt b i) (1 : Fin 2) * 1024 + 1 * n.val = n.val
    omega

theorem block7 (k : Fin 256) (n : Fin 1024) : (iblk m c 7 (pt b i) : Vec Ideal S256x1024 .bf16) (ix2 k n) = AW m c (ix2 ⟨768 + k.val, by have := k.isLt; omega⟩ n) := by
  obtain ⟨e0, e1⟩ := place7 (pt b i)
  refine Eq.trans (congrArg (V m c main_v8 : Vec Ideal S256x1024 .bf16) (Hgrn.ext2 ?_ ?_)) (in_u m c k n)
  · show win0_7.index (pt b i) (0 : Fin 2) * 256 + 1 * k.val = k.val
    omega
  · show win0_7.index (pt b i) (1 : Fin 2) * 1024 + 1 * n.val = n.val
    omega

/-! ## What a point leaves in its block -/

theorem three {p : Fin 3 → Prop} (h0 : p 0) (h1 : p 1) (h2 : p 2) : ∀ a, p a := Fin.forall_fin_succ.mpr ⟨h0, Fin.forall_fin_two.mpr ⟨h1, h2⟩⟩

theorem ld0 (X : Vec Ideal S1x512x256 .f32) : View.ld X r0_0 = X := View.ld_unit_lit _ _ (three rfl rfl rfl)
theorem ld1 (X : Vec Ideal S1x256 .f32) : View.ld X r0_1 = X := View.ld_unit_lit _ _ (Fin.forall_fin_two.mpr ⟨rfl, rfl⟩)
theorem ld2 (X : Vec Ideal S1x1x256x256 .f32) : View.ld X r0_2 = X := View.ld_unit_lit _ _ (Fin.forall_fin_succ.mpr ⟨rfl, three rfl rfl rfl⟩)
theorem ld3 (X : Vec Ideal S1x512x1024 .f32) : View.ld X r0_3 = X := View.ld_unit_lit _ _ (three rfl rfl rfl)
theorem ld4 (X : Vec Ideal S1x512x768 .f32) : View.ld X r0_4 = X := View.ld_unit_lit _ _ (three rfl rfl rfl)
theorem ld5 (X : Vec Ideal S768x1024 .bf16) : View.ld X r0_5 = X := View.ld_unit_lit _ _ (Fin.forall_fin_two.mpr ⟨rfl, rfl⟩)
theorem ld6 (X : Vec Ideal S256x1024 .bf16) : View.ld X r0_6 = X := View.ld_unit_lit _ _ (Fin.forall_fin_two.mpr ⟨rfl, rfl⟩)

/-- One store over the whole block leaves what it stores. -/
theorem canon_whole (w : Vec Ideal S1x512x1024 .f32) (r : Fin 512) (n : Fin 1024) :
    View.canon ([⟨r0_3, w⟩] : List (View.Piece (Elt Ideal) S1x512x1024 .f32)) (ix3 0 r n) = w (ix3 0 r n) := by
  refine Hgrn.canon_cons3 (o0 := 0) (o1 := 0) (o2 := 0) (n0 := 1) (n1 := 512) (n2 := 1024) rfl rfl
    (fun x h0 h1 h2 => congrArg w (Hgrn.ext3 ?_ ?_ ?_)) (fun h => absurd ?_ h)
  · have h0' : 0 = 0 + (x 0).val := h0
    show (x 0).val = 0
    omega
  · have h1' : r.val = 0 + (x 1).val := h1
    show (x 1).val = r.val
    omega
  · have h2' : n.val = 0 + (x 2).val := h2
    show (x 2).val = n.val
    omega
  · have hr := r.isLt
    have hn := n.isLt
    show 0 ≤ 0 ∧ 0 < 0 + 1 ∧ 0 ≤ r.val ∧ r.val < 0 + 512 ∧ 0 ≤ n.val ∧ n.val < 0 + 1024
    omega

section

variable {X0 : Vec Ideal S1x512x256 .f32} {X1 : Vec Ideal S1x256 .f32} {X2 X3 : Vec Ideal S1x1x256x256 .f32} {X4 : Vec Ideal S1x512x1024 .f32}
  {X5 : Vec Ideal S1x512x768 .f32} {X6 : Vec Ideal S768x1024 .bf16} {X7 : Vec Ideal S256x1024 .bf16}
  {q : FVec Ideal S4x4096x256 .f32} {g : FVec Ideal S64 .f32} {mk mv : FVec Ideal S1024x256 .f32} {x : FVec Ideal S4x4096x1024 .f32}
  {tp : FVec Ideal S4x4096x768 .f32} {w : FVec Ideal S1024x1024 .f32} {b : Fin 4} {i : Fin 8}
  (h0 : ∀ (r : Fin 512) (e : Fin 256), X0 (ix3 0 r e) = q (ix3 b (at_ i r) e))
  (h1 : ∀ e : Fin 256, X1 (ix2 0 e) = g (ix1 ⟨e.val % 64, Nat.mod_lt _ (by decide)⟩))
  (h2 : ∀ j e : Fin 256, X2 (ix4 0 0 j e) = mk (ix2 (row b j) e)) (h3 : ∀ j e : Fin 256, X3 (ix4 0 0 j e) = mv (ix2 (row b j) e))
  (h4 : ∀ (r : Fin 512) (n : Fin 1024), X4 (ix3 0 r n) = x (ix3 b (at_ i r) n))
  (h5 : ∀ (r : Fin 512) (k : Fin 768), X5 (ix3 0 r k) = tp (ix3 b (at_ i r) k))
  (h6 : ∀ (k : Fin 768) (n : Fin 1024), X6 (ix2 k n) = w (ix2 ⟨k.val, by have := k.isLt; omega⟩ n))
  (h7 : ∀ (k : Fin 256) (n : Fin 1024), X7 (ix2 k n) = w (ix2 ⟨768 + k.val, by have := k.isLt; omega⟩ n))
include h0 h1

theorem queries_eq (hq : ∀ i, ∃ a : ℝ, q i = a) (r : Fin 512) (e : Fin 256) :
    k0_pay7 (k0_pay2 X0) k0_pay3 (iota .tc S256x256 32 [1] iota_S256x256_d1_w32) 64#32 k0_pay4 k0_pay5 k0_pay6 X1 (ix2 r e) = qn q g b (at_ i r) e := by
  rw [pay7_real _ _ _ _ fun j => by rw [pay2_apply, h0]; exact hq _]
  simp only [pay2_apply, h0, h1]
  rfl

include h2 h3 h4 h5 h6 h7

theorem out8_eq (hq : ∀ i, ∃ a : ℝ, q i = a) (r : Fin 512) (n : Fin 1024) :
    out0_8 X0 X1 X2 X3 X4 X5 X6 X7 (ix3 0 r n) = outp q g mk mv x tp w b (at_ i r) n := by
  unfold out0_8 k0_pay22 k0_pay21 k0_pay20 k0_pay19 k0_pay18 k0_pay17
  rw [canon_whole, ld0, ld1, ld2, ld2, ld3, ld4, ld5, ld6]
  refine (whole_apply _ _ _ r X4 X5 X6 X7 _ (fun y => pay11_apply r y) n).trans ?_
  unfold outp
  simp only [h4, h5, h6, h7]
  refine congrArg (_ + ·) (Finset.sum_congr rfl fun (e : Fin 256) _ => congrArg (· * w (ix2 ⟨768 + e.val, by have := e.isLt; omega⟩ n)) ?_)
  unfold part ctx
  refine congrArg₂ mix (funext fun j => ?_) (funext fun j => ?_)
  · refine (masked_eq _ _ (hd e) r j).trans ?_
    unfold score
    refine congrArg (· * _) (Finset.sum_congr rfl fun d _ => ?_)
    rw [queries_eq h0 h1 hq, pay8_apply, h2]
  · rw [pay9_apply, h3]

end

theorem leaves8 (hq : ∀ i, ∃ a : ℝ, AQ m c i = a) (r : Fin 512) (n : Fin 1024) :
    out0_8 (iblk m c 0 (pt b i)) (iblk m c 1 (pt b i)) (iblk m c 2 (pt b i)) (iblk m c 3 (pt b i)) (iblk m c 4 (pt b i)) (iblk m c 5 (pt b i))
      (iblk m c 6 (pt b i)) (iblk m c 7 (pt b i)) (ix3 0 r n) = outp (AQ m c) (AG m c) (AK m c) (AV m c) (AX m c) (AT m c) (AW m c) b (at_ i r) n :=
  out8_eq (block0 m c b i) (block1 m c b i) (block2 m c b i) (block3 m c b i) (block4 m c b i) (block5 m c b i) (block6 m c b i) (block7 m c b i) hq r n

/-! ## The result -/

theorem result8 (hq : ∀ i, ∃ a : ℝ, AQ m c i = a) (r : Fin 512) (n : Fin 1024) :
    ((dats m 0 c).arrAt 8 cfg0.N : Vec Ideal S4x4096x1024 .f32) (ix3 b (at_ i r) n)
      = outp (AQ m c) (AG m c) (AK m c) (AV m c) (AX m c) (AT m c) (AW m c) b (at_ i r) n := by
  obtain ⟨e0, e1, e2⟩ := place8 (pt b i)
  rw [point_div] at e0
  rw [point_mod] at e1
  refine Eq.trans (congrArg ((dats m 0 c).arrAt 8 cfg0.N : Vec Ideal S4x4096x1024 .f32) (Hgrn.ext3 ?_ ?_ ?_))
    ((congrFun ((Cert.Kernel4Ideal.Value.blocks8 m c (pt b i) (flush0_8 (pt b i))).trans (Cert.Kernel4Ideal.Value.flushed8 m c (pt b i))) (ix3 0 r n)).trans
      (leaves8 m c b i hq r n))
  · show b.val = win0_8.index (pt b i) (0 : Fin 3) * 1 + 1 * 0
    omega
  · show 512 * i.val + r.val = win0_8.index (pt b i) (1 : Fin 3) * 512 + 1 * r.val
    omega
  · show n.val = win0_8.index (pt b i) (2 : Fin 3) * 1024 + 1 * n.val
    omega

end Cert.Attn

end
-- ==== Proof.Attn.RefValue.lean ====
/- The reference of the memory attention, entry by entry, over extended reals. -/
module

public import Idealize.ShloMosaic.Lib.Pointwise
public import proofs.«01_k».proof.Proof.Gen.Reference4Ideal.Run
public import proofs.«01_k».proof.Proof.Attn.Spec
public import proofs.«01_k».proof.Proof.Hgrn.Canon

@[expose] public section

noncomputable section

namespace Cert.Attn.Ref

open Idealize.ShloMosaic Idealize.ShloMosaic.TcCoe Idealize.SL.Sem Cert.Reference4Ideal Cert.Reference4Ideal.Gen

/-- The queries, head by head. -/
def heads (q : FVec Ideal S4x4096x256 .f32) : FVec Ideal S4x4096x4x64 .f32 := shapeCast S4x4096x4x64 q shapeCasts_S4x4096x256_S4x4096x4x64

/-- The normalised queries. -/
def queries (k : FVec Ideal S4x4096x4x64 .f32) (g : FVec Ideal S64 .f32) : FVec Ideal S4x4096x4x64 .f32 :=
  mulf (mulf k (broadcastInDim S4x4096x4x64 ![0, 1, 2, 3] bcast_S4x4096x4x1_S4x4096x4x64_0_1_2_3
      (Host.rsqrt (addf (Host.divf (broadcastInDim S4x4096x4x1 ![0, 1, 2] bcast_S4x4096x4_S4x4096x4x1_0_1_2
            (Host.reduceAdd (mulf k k) (constant S_ .f32 0x00000000#32) reducesTo_S4x4096x4x64_S4x4096x4_d3 h_S_))
          (broadcastInDim S4x4096x4x1 ![] bcast_S_S4x4096x4x1 (constant S_ .f32 0x42800000#32)))
        (broadcastInDim S4x4096x4x1 ![] bcast_S_S4x4096x4x1 (constant S_ .f32 0x358637BD#32))))))
    (broadcastInDim S4x4096x4x64 ![0, 1, 2, 3] bcast_S1x1x1x64_S4x4096x4x64_0_1_2_3 (broadcastInDim S1x1x1x64 ![3] bcast_S64_S1x1x1x64_3 g))

/-- The keys or the values, head by head. -/
def memory (k : FVec Ideal S1024x256 .f32) : FVec Ideal S4x256x4x64 .f32 := shapeCast S4x256x4x64 k shapeCasts_S1024x256_S4x256x4x64

/-- The scores. -/
def scores (k : FVec Ideal S4x4096x4x64 .f32) (r : FVec Ideal S4x256x4x64 .f32) : FVec Ideal S4x4x4096x256 .f32 :=
  mulf (Host.dotGeneral dot_S4x4096x4x64_S4x256x4x64_S4x4x4096x256_3_3_1_1_02_02 none k r)
    (broadcastInDim S4x4x4096x256 ![] bcast_S_S4x4x4096x256 (constant S_ .f32 0x3E000000#32))

/-- The scores' largest, row by row. -/
def tops (s : FVec Ideal S4x4x4096x256 .f32) : FVec Ideal S4x4x4096 .f32 :=
  Host.reduce FloatOps.maximumf s (constant S_ .f32 0xFF800000#32) reducesTo_S4x4x4096x256_S4x4x4096_d3 h_S_

/-- The larger of that and the lowest value. -/
def clip (t : FVec Ideal S4x4x4096 .f32) : FVec Ideal S4x4x4096 .f32 := maximumf (broadcastInDim S4x4x4096 ![] bcast_S_S4x4x4096 (constant S_ .f32 0xFF800000#32)) t

/-- That in every lane of its row. -/
def peaks (s : FVec Ideal S4x4x4096x256 .f32) : FVec Ideal S4x4x4096x256 .f32 :=
  broadcastInDim S4x4x4096x256 ![0, 1, 2, 3] bcast_S4x4x4096x1_S4x4x4096x256_0_1_2_3 (broadcastInDim S4x4x4096x1 ![0, 1, 2] bcast_S4x4x4096_S4x4x4096x1_0_1_2
    (clip (tops s)))

/-- The weights before they are divided by their sum. -/
def weights (s : FVec Ideal S4x4x4096x256 .f32) : FVec Ideal S4x4x4096x256 .f32 := Host.exp (subf s (peaks s))

/-- The weights. -/
def normed (p : FVec Ideal S4x4x4096x256 .f32) : FVec Ideal S4x4x4096x256 .f32 :=
  Host.divf p (broadcastInDim S4x4x4096x256 ![0, 1, 2, 3] bcast_S4x4x4096x1_S4x4x4096x256_0_1_2_3 (broadcastInDim S4x4x4096x1 ![0, 1, 2] bcast_S4x4x4096_S4x4x4096x1_0_1_2
    (Host.reduceAdd p (constant S_ .f32 0x00000000#32) reducesTo_S4x4x4096x256_S4x4x4096_d3 h_S_)))

/-- The attended values. -/
def attended (v : FVec Ideal S4x256x4x64 .f32) (p : FVec Ideal S4x4x4096x256 .f32) : FVec Ideal S4x4096x256 .f32 :=
  shapeCast S4x4096x256 (transpose S4x4096x4x64 [0, 3, 1, 2] (Host.dotGeneral dot_S4x256x4x64_S4x4x4096x256_S4x4x64x4096_1_3_3_2_02_01 none v p)
    transposes_S4x4x64x4096_S4x4096x4x64_0_3_1_2) shapeCasts_S4x4096x4x64_S4x4096x256

/-- Both parts of a row side by side. -/
def both (tp : FVec Ideal S4x4096x768 .f32) (a : FVec Ideal S4x4096x256 .f32) : FVec Ideal S4x4096x1024 .f32 :=
  concatenate S4x4096x1024 2 [⟨S4x4096x768, tp⟩, ⟨S4x4096x256, a⟩] concatenates_S4x4096x768_S4x4096x256_S4x4096x1024_d2

/-- The result. -/
def total (x y : FVec Ideal S4x4096x1024 .f32) (w : FVec Ideal S1024x1024 .f32) : FVec Ideal S4x4096x1024 .f32 :=
  addf x (Host.dotGeneral dot_S4x4096x1024_S1024x1024_S4x4096x1024_2_0_01_1_n_n none y w)

/-- The reference's result of its arguments. -/
def all (q : FVec Ideal S4x4096x256 .f32) (g : FVec Ideal S64 .f32) (mk mv : FVec Ideal S1024x256 .f32) (x : FVec Ideal S4x4096x1024 .f32)
    (tp : FVec Ideal S4x4096x768 .f32) (w : FVec Ideal S1024x1024 .f32) : FVec Ideal S4x4096x1024 .f32 :=
  total x (both tp (attended (memory mv) (normed (weights (scores (queries (heads q) g) (memory mk)))))) w

theorem result_eq (m : (ℓ : Loc nD τ sig) → Buf (Elt Ideal) ℓ) (c : Dev nD) :
    Cert.Reference4Ideal.Value.res_main_v35 m c
      = all (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold Cert.Reference4Ideal.Value.res_main_v35 all total both attended normed weights peaks clip tops scores memory queries heads
  rfl

variable (q : FVec Ideal S4x4096x256 .f32) (g : FVec Ideal S64 .f32) (mk mv : FVec Ideal S1024x256 .f32)
  (x y : FVec Ideal S4x4096x1024 .f32) (tp : FVec Ideal S4x4096x768 .f32) (w : FVec Ideal S1024x1024 .f32)

theorem heads_apply (b : Fin 4) (t : Fin 4096) (h : Fin 4) (d : Fin 64) : heads q (ix4 b t h d) = q (ix3 b t (lane h d)) := by
  have hh := h.isLt
  have hd := d.isLt
  pointwise [heads]
  exact congrArg q (Hgrn.ext3 rfl rfl (by show h.val * 64 + d.val = 64 * h.val + d.val; omega))

theorem memory_apply (b : Fin 4) (j : Fin 256) (h : Fin 4) (d : Fin 64) : memory mk (ix4 b j h d) = mk (ix2 (row b j) (lane h d)) := by
  have hb := b.isLt
  have hj := j.isLt
  have hh := h.isLt
  have hd := d.isLt
  pointwise [memory]
  exact congrArg mk (Hgrn.ext2 (by show b.val * 256 + j.val = 256 * b.val + j.val; omega) (by show h.val * 64 + d.val = 64 * h.val + d.val; omega))

theorem queries_apply (b : Fin 4) (t : Fin 4096) (h : Fin 4) (d : Fin 64) : queries (heads q) g (ix4 b t h d) = qn q g b t (lane h d) := by
  have hh := h.isLt
  have hd := d.isLt
  unfold qn
  pointwise [queries, heads_apply]
  have h1 : Attn.hd (lane h d) = h := Fin.ext (by show (64 * h.val + d.val) / 64 = h.val; omega)
  have h2 : (⟨(64 * h.val + d.val) % 64, Nat.mod_lt _ (by decide)⟩ : Fin 64) = d := Fin.ext (by show (64 * h.val + d.val) % 64 = d.val; omega)
  simp only [h1, h2]
  rfl

theorem scores_entry (k : FVec Ideal S4x4096x4x64 .f32) (r : FVec Ideal S4x256x4x64 .f32) (b h : Fin 4) (t : Fin 4096) (j : Fin 256) :
    scores k r (ix4 b h t j) = (∑ d : Fin 64, k (ix4 b t h d) * r (ix4 b j h d)) * Ideal.ofBits .f32 0x3E000000#32 := by
  pointwise [scores, dot_S4x4096x4x64_S4x256x4x64_S4x4x4096x256_3_3_1_1_02_02]

theorem scores_apply (b : Fin 4) (h : Fin 4) (t : Fin 4096) (j : Fin 256) :
    scores (queries (heads q) g) (memory mk) (ix4 b h t j) = score q g mk b h t j := by
  unfold score
  rw [scores_entry]
  exact congrArg (· * Ideal.ofBits .f32 0x3E000000#32) (Finset.sum_congr rfl fun d _ => congrArg₂ (· * ·) (queries_apply q g b t h d) (memory_apply mk b j h d))

/-- A maximum along the last axis, whatever the sizes. -/
theorem last_max {n0 n1 n2 n3 : ℕ} (s : FVec Ideal ⟨4, ![n0, n1, n2, n3]⟩ .f32) (h' : (⟨4, ![n0, n1, n2, n3]⟩ : Shape).ReducesTo [3] ⟨3, ![n0, n1, n2]⟩)
    (hu : 0 < (⟨0, ![]⟩ : Shape).numel) (b : Fin n0) (h : Fin n1) (t : Fin n2) :
    Host.reduce FloatOps.maximumf s (constant (⟨0, ![]⟩ : Shape) .f32 0xFF800000#32) h' hu (ix3 b h t)
      = Finset.fold max (Ideal.ofBits .f32 0xFF800000#32) (fun j => s (ix4 b h t j)) Finset.univ := by
  pointwise

theorem tops_apply (s : FVec Ideal S4x4x4096x256 .f32) (b h : Fin 4) (t : Fin 4096) : tops s (ix3 b h t) = peak fun i => s (ix4 b h t i) :=
  last_max s _ _ b h t

theorem clip_eq (t : FVec Ideal S4x4x4096 .f32) : clip t = t := funext fun i => low_max (t i)

theorem peaks_apply (s : FVec Ideal S4x4x4096x256 .f32) (b h : Fin 4) (t : Fin 4096) (j : Fin 256) : peaks s (ix4 b h t j) = peak fun i => s (ix4 b h t i) := by
  pointwise [peaks, clip_eq, tops_apply]

theorem weights_apply (s : FVec Ideal S4x4x4096x256 .f32) (b h : Fin 4) (t : Fin 4096) (j : Fin 256) :
    weights s (ix4 b h t j) = Ideal.exp (s (ix4 b h t j) - peak fun i => s (ix4 b h t i)) := by
  pointwise [weights, peaks_apply]

theorem normed_apply (p : FVec Ideal S4x4x4096x256 .f32) (b h : Fin 4) (t : Fin 4096) (j : Fin 256) :
    normed p (ix4 b h t j) = Ideal.div (p (ix4 b h t j)) (∑ i, p (ix4 b h t i)) := by
  pointwise [normed]

theorem attended_apply (v : FVec Ideal S4x256x4x64 .f32) (p : FVec Ideal S4x4x4096x256 .f32) (b : Fin 4) (t : Fin 4096) (h : Fin 4) (d : Fin 64) :
    attended v p (ix3 b t (lane h d)) = ∑ j : Fin 256, v (ix4 b j h d) * p (ix4 b h t j) := by
  have hh := h.isLt
  have hd := d.isLt
  pointwise [attended, dot_S4x256x4x64_S4x4x4096x256_S4x4x64x4096_1_3_3_2_02_01]
  have h1 : (⟨(64 * h.val + d.val) / 64, by omega⟩ : Fin 4) = h := Fin.ext (by show (64 * h.val + d.val) / 64 = h.val; omega)
  have h2 : (⟨(64 * h.val + d.val) % 64, by omega⟩ : Fin 64) = d := Fin.ext (by show (64 * h.val + d.val) % 64 = d.val; omega)
  rw [h1, h2]

theorem context_apply (hs : ∀ b h t j, ∃ a : ℝ, score q g mk b h t j = a) (b : Fin 4) (t : Fin 4096) (h : Fin 4) (d : Fin 64) :
    attended (memory mv) (normed (weights (scores (queries (heads q) g) (memory mk)))) (ix3 b t (lane h d)) = ctx q g mk mv b t (lane h d) := by
  have hh := h.isLt
  have hd' := d.isLt
  rw [attended_apply]
  simp only [normed_apply, weights_apply, scores_apply, memory_apply]
  have h1 : hd (lane h d) = h := Fin.ext (by show (64 * h.val + d.val) / 64 = h.val; omega)
  unfold ctx
  rw [h1]
  exact mix_eq _ _ (hs b h t)

theorem both_left (a : FVec Ideal S4x4096x256 .f32) (b : Fin 4) (t : Fin 4096) (k : Fin 768) :
    both tp a (ix3 b t ⟨k.val, by have := k.isLt; omega⟩) = tp (ix3 b t k) := by
  have hk := k.isLt
  pointwise [both]

theorem both_right (a : FVec Ideal S4x4096x256 .f32) (b : Fin 4) (t : Fin 4096) (e : Fin 256) :
    both tp a (ix3 b t ⟨768 + e.val, by have := e.isLt; omega⟩) = a (ix3 b t e) := by
  have he := e.isLt
  pointwise [both]

theorem total_apply (b : Fin 4) (t : Fin 4096) (n : Fin 1024) : total x y w (ix3 b t n) = x (ix3 b t n) + ∑ k : Fin 1024, y (ix3 b t k) * w (ix2 k n) := by
  pointwise [total, dot_S4x4096x1024_S1024x1024_S4x4096x1024_2_0_01_1_n_n]

/-- Every entry of the reference's result. -/
theorem all_apply (hs : ∀ b h t j, ∃ a : ℝ, score q g mk b h t j = a) (b : Fin 4) (t : Fin 4096) (n : Fin 1024) :
    all q g mk mv x tp w (ix3 b t n) = outp q g mk mv x tp w b t n := by
  unfold all outp
  rw [total_apply, add_assoc]
  refine congrArg (x (ix3 b t n) + ·) ((Fin.sum_univ_add (a := 768) (b := 256) _).trans (congrArg₂ (· + ·) (Finset.sum_congr rfl fun k _ => ?_) (Finset.sum_congr rfl fun e _ => ?_)))
  · exact congrArg (· * w (ix2 ⟨k.val, by have := k.isLt; omega⟩ n)) (both_left tp _ b t k)
  · have he := e.isLt
    refine congrArg (· * w (ix2 ⟨768 + e.val, by omega⟩ n)) ((both_right tp _ b t e).trans ?_)
    have h := context_apply q g mk mv hs b t ⟨e.val / 64, by omega⟩ ⟨e.val % 64, by omega⟩
    have e1 : lane ⟨e.val / 64, by omega⟩ ⟨e.val % 64, by omega⟩ = e := Fin.ext (by show 64 * (e.val / 64) + e.val % 64 = e.val; omega)
    rw [e1] at h
    exact h

end Cert.Attn.Ref

end
-- ==== Proof.Attn.Algebraic.lean ====
/- Both programs compute the rows of `Spec.lean` of their arguments, so equal arguments give equal results. -/
module

public import proofs.«01_k».proof.Defs
public import proofs.«01_k».proof.Proof.Attn.Inputs
public import proofs.«01_k».proof.Proof.Attn.RefValue
public import proofs.«01_k».proof.Proof.Attn.Pre

@[expose] public section

noncomputable section

namespace Cert.Attn

open Idealize.ShloMosaic Idealize.ShloMosaic.TcCoe Idealize.SL.Sem

section

variable (m : (ℓ : Loc Cert.Kernel4Ideal.nD Cert.Kernel4Ideal.τ Cert.Kernel4Ideal.sig) → Buf (Elt Ideal) ℓ) (c : Dev Cert.Kernel4Ideal.nD)

/-- Every row of the result is a row of one of the blocks. -/
theorem index_eq (i : (⟨3, ![4, 4096, 1024]⟩ : Shape).Idx) : ∃ (b : Fin 4) (k : Fin 8) (r : Fin 512) (n : Fin 1024), i = ix3 b (at_ k r) n := by
  have h : (i 1).val < 4096 := (i 1).isLt
  exact ⟨i 0, ⟨(i 1).val / 512, by omega⟩, ⟨(i 1).val % 512, by omega⟩, i 2,
    Hgrn.ext3 rfl (by show (i 1).val = 512 * ((i 1).val / 512) + (i 1).val % 512; omega) rfl⟩

/-- The results of the two programs, of the same arguments. -/
theorem same (hq : ∀ i, ∃ a : ℝ, AQ m c i = a) (hg : ∀ i, ∃ a : ℝ, AG m c i = a) (hk : ∀ i, ∃ a : ℝ, AK m c i = a) :
    Ref.all (AQ m c) (AG m c) (AK m c) (AV m c) (AX m c) (AT m c) (AW m c)
      = ((Cert.Kernel4Ideal.Gen.dats m 0 c).arrAt 8 Cert.Kernel4Ideal.cfg0.N : Vec Ideal ⟨3, ![4, 4096, 1024]⟩ .f32) := by
  funext i
  obtain ⟨b, k, r, n, rfl⟩ := index_eq i
  exact (Ref.all_apply (AQ m c) (AG m c) (AK m c) (AV m c) (AX m c) (AT m c) (AW m c) (fun b h t j => score_real _ _ _ hq hg hk b h t j) b (at_ k r) n).trans
    (result8 m c b k hq r n).symm

end

/-- On queries, gains and keys of real numbers the call and the reference compute the same extended reals. -/
theorem algebraic : Cert.algebraic_Kernel4Ideal_Reference4Ideal_pre_real_attention (hKernel4Ideal := Cert.Kernel4Ideal.Gen.facts)
    (hReference4Ideal := Cert.Reference4Ideal.Gen.facts) (hPre_real_attention := facts) :=
  fun m g m' g' hp h => by
    have hr : ∀ c, (∀ i, ∃ a : ℝ, AQ m c i = a) ∧ (∀ i, ∃ a : ℝ, AG m c i = a) ∧ ∀ i, ∃ a : ℝ, AK m c i = a := fun c =>
      @real_of_pre facts (AQ m c) (AG m c) (AK m c) (AV m c) (AX m c) (AT m c) (AW m c) (hp c)
    refine ⟨fun c => (Cert.Kernel4Ideal.Gen.dats m 0 c).arrAt 8 Cert.Kernel4Ideal.cfg0.N, Cert.Kernel4Ideal.Value.run_blocks m g, ?_⟩
    refine (θ_run _ _ _).mono (fun r hrun c => ?_) (Cert.Reference4Ideal.Value.run (F := Ideal) m' g')
    obtain ⟨h0, h1, h2, h3, h4, h5, h6⟩ := h c
    refine ⟨(hrun c).1.trans ((Ref.result_eq m' c).trans ?_), (hrun c).2⟩
    rw [h0, h1, h2, h3, h4, h5, h6]
    exact same m c (hr c).1 (hr c).2.1 (hr c).2.2

end Cert.Attn

end
-- ==== Proof.lean ====
module

public import proofs.«01_k».proof.Defs
public import proofs.«01_k».proof.Proof.Hgrn.Frames
public import proofs.«01_k».proof.Proof.Hgrn.Algebraic
public import proofs.«01_k».proof.Proof.Ffn.Frames
public import proofs.«01_k».proof.Proof.Ffn.Algebraic
public import proofs.«01_k».proof.Proof.Mem.Frames
public import proofs.«01_k».proof.Proof.Mem.Algebraic
public import proofs.«01_k».proof.Proof.Attn.Frames
public import proofs.«01_k».proof.Proof.Attn.Algebraic

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Mem.facts, Cert.Attn.facts,
    Cert.Hgrn.frame_kernel, Cert.Hgrn.frame_ideal, Cert.Hgrn.frame_ref,
    Cert.Ffn.frame_kernel, Cert.Ffn.frame_ideal, Cert.Ffn.frame_ref,
    Cert.Mem.frame_kernel, Cert.Mem.frame_ideal, Cert.Mem.frame_ideal_pre, Cert.Mem.frame_ref, Cert.Mem.frame_ref_pre,
    Cert.Attn.frame_kernel, Cert.Attn.frame_ideal, Cert.Attn.frame_ideal_pre, Cert.Attn.frame_ref, Cert.Attn.frame_ref_pre,
    trivial, Cert.Hgrn.algebraic, trivial, Cert.Ffn.algebraic, trivial, Cert.Mem.algebraic, trivial, Cert.Attn.algebraic⟩

end Cert.Proof

end
